-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InSample (m : (ℓ : Loc Cert.InSample.nD Cert.InSample.τ Cert.InSample.sig) → Buf (Elt Bits) ℓ) : Prop :=
  True

def Pre_InSampleIdeal (m : (ℓ : Loc Cert.InSampleIdeal.nD Cert.InSampleIdeal.τ Cert.InSampleIdeal.sig) → Buf (Elt Ideal) ℓ) : Prop :=
  True

def Pre_InSampleRefIdeal (m : (ℓ : Loc Cert.InSampleRefIdeal.nD Cert.InSampleRefIdeal.τ Cert.InSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9))
      ∧ r.2.sem = fun _ => 0)

def quiescent_InSample [hInSample : Cert.InSample.Facts] : Prop :=
  ∀ (m : (ℓ : Loc Cert.InSample.nD Cert.InSample.τ Cert.InSample.sig) → Buf (Elt Bits) ℓ) (g : Dev Cert.InSample.nD → PrngReg), Pre_InSample m →
    θ_run (Cert.InSample.defs (F := Bits)) (onTc (τ := Cert.InSample.τ) (Cert.InSample.main (F := Bits))) ⟨m, fun _ => 0, g⟩ (fun r => (∀ c : Dev Cert.InSample.nD,
      r.2.mem ((c.tc : Thread Cert.InSample.nD Cert.InSample.τ).loc Cert.InSample.main_arg0) = m ((c.tc : Thread Cert.InSample.nD Cert.InSample.τ).loc Cert.InSample.main_arg0)
      ∧ r.2.mem ((c.tc : Thread Cert.InSample.nD Cert.InSample.τ).loc Cert.InSample.main_arg1) = m ((c.tc : Thread Cert.InSample.nD Cert.InSample.τ).loc Cert.InSample.main_arg1)
      ∧ r.2.mem ((c.tc : Thread Cert.InSample.nD Cert.InSample.τ).loc Cert.InSample.main_arg2) = m ((c.tc : Thread Cert.InSample.nD Cert.InSample.τ).loc Cert.InSample.main_arg2)
      ∧ r.2.mem ((c.tc : Thread Cert.InSample.nD Cert.InSample.τ).loc Cert.InSample.main_arg3) = m ((c.tc : Thread Cert.InSample.nD Cert.InSample.τ).loc Cert.InSample.main_arg3)
      ∧ r.2.mem ((c.tc : Thread Cert.InSample.nD Cert.InSample.τ).loc Cert.InSample.main_arg4) = m ((c.tc : Thread Cert.InSample.nD Cert.InSample.τ).loc Cert.InSample.main_arg4)
      ∧ r.2.mem ((c.tc : Thread Cert.InSample.nD Cert.InSample.τ).loc Cert.InSample.main_arg5) = m ((c.tc : Thread Cert.InSample.nD Cert.InSample.τ).loc Cert.InSample.main_arg5)
      ∧ r.2.mem ((c.tc : Thread Cert.InSample.nD Cert.InSample.τ).loc Cert.InSample.main_arg6) = m ((c.tc : Thread Cert.InSample.nD Cert.InSample.τ).loc Cert.InSample.main_arg6)
      ∧ r.2.mem ((c.tc : Thread Cert.InSample.nD Cert.InSample.τ).loc Cert.InSample.main_arg7) = m ((c.tc : Thread Cert.InSample.nD Cert.InSample.τ).loc Cert.InSample.main_arg7)
      ∧ r.2.mem ((c.tc : Thread Cert.InSample.nD Cert.InSample.τ).loc Cert.InSample.main_arg8) = m ((c.tc : Thread Cert.InSample.nD Cert.InSample.τ).loc Cert.InSample.main_arg8)
      ∧ r.2.mem ((c.tc : Thread Cert.InSample.nD Cert.InSample.τ).loc Cert.InSample.main_arg9) = m ((c.tc : Thread Cert.InSample.nD Cert.InSample.τ).loc Cert.InSample.main_arg9))
      ∧ r.2.sem = fun _ => 0)

def quiescent_InSampleIdeal [hInSampleIdeal : Cert.InSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg), Pre_InSampleIdeal m →
    θ_run (Cert.InSampleIdeal.defs (F := Ideal)) (onTc (τ := Cert.InSampleIdeal.τ) (Cert.InSampleIdeal.main (F := Ideal))) ⟨m, fun _ => 0, g⟩ (fun r => (∀ c : Dev Cert.InSampleIdeal.nD,
      r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
      ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
      ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
      ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
      ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
      ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5)
      ∧ r.2.mem ((c.tc : Thread Cert.InSampleIdeal.nD Cert.InSampleIdeal.τ).loc Cert.InSampleIdeal.main_arg6) = m ((c.tc : Thread Cert.InSampleIdeal.nD Cert.InSampleIdeal.τ).loc Cert.InSampleIdeal.main_arg6)
      ∧ r.2.mem ((c.tc : Thread Cert.InSampleIdeal.nD Cert.InSampleIdeal.τ).loc Cert.InSampleIdeal.main_arg7) = m ((c.tc : Thread Cert.InSampleIdeal.nD Cert.InSampleIdeal.τ).loc Cert.InSampleIdeal.main_arg7)
      ∧ r.2.mem ((c.tc : Thread Cert.InSampleIdeal.nD Cert.InSampleIdeal.τ).loc Cert.InSampleIdeal.main_arg8) = m ((c.tc : Thread Cert.InSampleIdeal.nD Cert.InSampleIdeal.τ).loc Cert.InSampleIdeal.main_arg8)
      ∧ r.2.mem ((c.tc : Thread Cert.InSampleIdeal.nD Cert.InSampleIdeal.τ).loc Cert.InSampleIdeal.main_arg9) = m ((c.tc : Thread Cert.InSampleIdeal.nD Cert.InSampleIdeal.τ).loc Cert.InSampleIdeal.main_arg9))
      ∧ r.2.sem = fun _ => 0)

def quiescent_InSampleRefIdeal [hInSampleRefIdeal : Cert.InSampleRefIdeal.Facts] : Prop :=
  ∀ (m : (ℓ : Loc Cert.InSampleRefIdeal.nD Cert.InSampleRefIdeal.τ Cert.InSampleRefIdeal.sig) → Buf (Elt Ideal) ℓ) (g : Dev Cert.InSampleRefIdeal.nD → PrngReg), Pre_InSampleRefIdeal m →
    θ_run (Cert.InSampleRefIdeal.defs (F := Ideal)) (onTc (τ := Cert.InSampleRefIdeal.τ) (Cert.InSampleRefIdeal.main (F := Ideal))) ⟨m, fun _ => 0, g⟩ (fun r => (∀ c : Dev Cert.InSampleRefIdeal.nD,
      r.2.mem ((c.tc : Thread Cert.InSampleRefIdeal.nD Cert.InSampleRefIdeal.τ).loc Cert.InSampleRefIdeal.main_arg0) = m ((c.tc : Thread Cert.InSampleRefIdeal.nD Cert.InSampleRefIdeal.τ).loc Cert.InSampleRefIdeal.main_arg0)
      ∧ r.2.mem ((c.tc : Thread Cert.InSampleRefIdeal.nD Cert.InSampleRefIdeal.τ).loc Cert.InSampleRefIdeal.main_arg1) = m ((c.tc : Thread Cert.InSampleRefIdeal.nD Cert.InSampleRefIdeal.τ).loc Cert.InSampleRefIdeal.main_arg1)
      ∧ r.2.mem ((c.tc : Thread Cert.InSampleRefIdeal.nD Cert.InSampleRefIdeal.τ).loc Cert.InSampleRefIdeal.main_arg2) = m ((c.tc : Thread Cert.InSampleRefIdeal.nD Cert.InSampleRefIdeal.τ).loc Cert.InSampleRefIdeal.main_arg2)
      ∧ r.2.mem ((c.tc : Thread Cert.InSampleRefIdeal.nD Cert.InSampleRefIdeal.τ).loc Cert.InSampleRefIdeal.main_arg3) = m ((c.tc : Thread Cert.InSampleRefIdeal.nD Cert.InSampleRefIdeal.τ).loc Cert.InSampleRefIdeal.main_arg3)
      ∧ r.2.mem ((c.tc : Thread Cert.InSampleRefIdeal.nD Cert.InSampleRefIdeal.τ).loc Cert.InSampleRefIdeal.main_arg4) = m ((c.tc : Thread Cert.InSampleRefIdeal.nD Cert.InSampleRefIdeal.τ).loc Cert.InSampleRefIdeal.main_arg4)
      ∧ r.2.mem ((c.tc : Thread Cert.InSampleRefIdeal.nD Cert.InSampleRefIdeal.τ).loc Cert.InSampleRefIdeal.main_arg5) = m ((c.tc : Thread Cert.InSampleRefIdeal.nD Cert.InSampleRefIdeal.τ).loc Cert.InSampleRefIdeal.main_arg5)
      ∧ r.2.mem ((c.tc : Thread Cert.InSampleRefIdeal.nD Cert.InSampleRefIdeal.τ).loc Cert.InSampleRefIdeal.main_arg6) = m ((c.tc : Thread Cert.InSampleRefIdeal.nD Cert.InSampleRefIdeal.τ).loc Cert.InSampleRefIdeal.main_arg6)
      ∧ r.2.mem ((c.tc : Thread Cert.InSampleRefIdeal.nD Cert.InSampleRefIdeal.τ).loc Cert.InSampleRefIdeal.main_arg7) = m ((c.tc : Thread Cert.InSampleRefIdeal.nD Cert.InSampleRefIdeal.τ).loc Cert.InSampleRefIdeal.main_arg7)
      ∧ r.2.mem ((c.tc : Thread Cert.InSampleRefIdeal.nD Cert.InSampleRefIdeal.τ).loc Cert.InSampleRefIdeal.main_arg8) = m ((c.tc : Thread Cert.InSampleRefIdeal.nD Cert.InSampleRefIdeal.τ).loc Cert.InSampleRefIdeal.main_arg8)
      ∧ r.2.mem ((c.tc : Thread Cert.InSampleRefIdeal.nD Cert.InSampleRefIdeal.τ).loc Cert.InSampleRefIdeal.main_arg9) = m ((c.tc : Thread Cert.InSampleRefIdeal.nD Cert.InSampleRefIdeal.τ).loc Cert.InSampleRefIdeal.main_arg9))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)) →
    ∃ (v0 : (c : Dev Cert.InProjIdeal.nD) → Buf (Elt Ideal) ((c.tc : Thread Cert.InProjIdeal.nD Cert.InProjIdeal.τ).loc Cert.InProjIdeal.main_v54_0)) (v1 : (c : Dev Cert.InProjIdeal.nD) → Buf (Elt Ideal) ((c.tc : Thread Cert.InProjIdeal.nD Cert.InProjIdeal.τ).loc Cert.InProjIdeal.main_v54_1)) (v2 : (c : Dev Cert.InProjIdeal.nD) → Buf (Elt Ideal) ((c.tc : Thread Cert.InProjIdeal.nD Cert.InProjIdeal.τ).loc Cert.InProjIdeal.main_v54_2)) (v3 : (c : Dev Cert.InProjIdeal.nD) → Buf (Elt Ideal) ((c.tc : Thread Cert.InProjIdeal.nD Cert.InProjIdeal.τ).loc Cert.InProjIdeal.main_v54_3)) (v4 : (c : Dev Cert.InProjIdeal.nD) → Buf (Elt Ideal) ((c.tc : Thread Cert.InProjIdeal.nD Cert.InProjIdeal.τ).loc Cert.InProjIdeal.main_v54_4)) (v5 : (c : Dev Cert.InProjIdeal.nD) → Buf (Elt Ideal) ((c.tc : Thread Cert.InProjIdeal.nD Cert.InProjIdeal.τ).loc Cert.InProjIdeal.main_v54_5)) (v6 : (c : Dev Cert.InProjIdeal.nD) → Buf (Elt Ideal) ((c.tc : Thread Cert.InProjIdeal.nD Cert.InProjIdeal.τ).loc Cert.InProjIdeal.main_v54_6)) (v7 : (c : Dev Cert.InProjIdeal.nD) → Buf (Elt Ideal) ((c.tc : Thread Cert.InProjIdeal.nD Cert.InProjIdeal.τ).loc Cert.InProjIdeal.main_v54_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v54_0) = v0 c
          ∧ r.2.mem ((c.tc : Thread Cert.InProjIdeal.nD Cert.InProjIdeal.τ).loc Cert.InProjIdeal.main_v54_1) = v1 c
          ∧ r.2.mem ((c.tc : Thread Cert.InProjIdeal.nD Cert.InProjIdeal.τ).loc Cert.InProjIdeal.main_v54_2) = v2 c
          ∧ r.2.mem ((c.tc : Thread Cert.InProjIdeal.nD Cert.InProjIdeal.τ).loc Cert.InProjIdeal.main_v54_3) = v3 c
          ∧ r.2.mem ((c.tc : Thread Cert.InProjIdeal.nD Cert.InProjIdeal.τ).loc Cert.InProjIdeal.main_v54_4) = v4 c
          ∧ r.2.mem ((c.tc : Thread Cert.InProjIdeal.nD Cert.InProjIdeal.τ).loc Cert.InProjIdeal.main_v54_5) = v5 c
          ∧ r.2.mem ((c.tc : Thread Cert.InProjIdeal.nD Cert.InProjIdeal.τ).loc Cert.InProjIdeal.main_v54_6) = v6 c
          ∧ r.2.mem ((c.tc : Thread Cert.InProjIdeal.nD Cert.InProjIdeal.τ).loc Cert.InProjIdeal.main_v54_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v142) = v0 c
          ∧ r.2.mem ((c.tc : Thread Cert.InProjRefIdeal.nD Cert.InProjRefIdeal.τ).loc Cert.InProjRefIdeal.main_v144) = v1 c
          ∧ r.2.mem ((c.tc : Thread Cert.InProjRefIdeal.nD Cert.InProjRefIdeal.τ).loc Cert.InProjRefIdeal.main_v145) = v2 c
          ∧ r.2.mem ((c.tc : Thread Cert.InProjRefIdeal.nD Cert.InProjRefIdeal.τ).loc Cert.InProjRefIdeal.main_v146) = v3 c
          ∧ r.2.mem ((c.tc : Thread Cert.InProjRefIdeal.nD Cert.InProjRefIdeal.τ).loc Cert.InProjRefIdeal.main_v149) = v4 c
          ∧ r.2.mem ((c.tc : Thread Cert.InProjRefIdeal.nD Cert.InProjRefIdeal.τ).loc Cert.InProjRefIdeal.main_v151) = v5 c
          ∧ r.2.mem ((c.tc : Thread Cert.InProjRefIdeal.nD Cert.InProjRefIdeal.τ).loc Cert.InProjRefIdeal.main_v152) = v6 c
          ∧ r.2.mem ((c.tc : Thread Cert.InProjRefIdeal.nD Cert.InProjRefIdeal.τ).loc Cert.InProjRefIdeal.main_v154) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9))

def preserves_InSample_InSampleIdeal : Prop :=
  True

def algebraic_InSampleIdeal_InSampleRefIdeal [hInSampleIdeal : Cert.InSampleIdeal.Facts] [hInSampleRefIdeal : Cert.InSampleRefIdeal.Facts] : Prop :=
  ∀ (m : (ℓ : Loc Cert.InSampleIdeal.nD Cert.InSampleIdeal.τ Cert.InSampleIdeal.sig) → Buf (Elt Ideal) ℓ) (g : Dev Cert.InSampleIdeal.nD → PrngReg)
    (m' : (ℓ : Loc Cert.InSampleRefIdeal.nD Cert.InSampleRefIdeal.τ Cert.InSampleRefIdeal.sig) → Buf (Elt Ideal) ℓ) (g' : Dev Cert.InSampleRefIdeal.nD → PrngReg), Pre_InSampleIdeal m →
    (∀ c : Dev Cert.InSampleIdeal.nD,
      m' ((c.tc : Thread Cert.InSampleRefIdeal.nD Cert.InSampleRefIdeal.τ).loc Cert.InSampleRefIdeal.main_arg0) = m ((c.tc : Thread Cert.InSampleIdeal.nD Cert.InSampleIdeal.τ).loc Cert.InSampleIdeal.main_arg0)
      ∧ m' ((c.tc : Thread Cert.InSampleRefIdeal.nD Cert.InSampleRefIdeal.τ).loc Cert.InSampleRefIdeal.main_arg1) = m ((c.tc : Thread Cert.InSampleIdeal.nD Cert.InSampleIdeal.τ).loc Cert.InSampleIdeal.main_arg1)
      ∧ m' ((c.tc : Thread Cert.InSampleRefIdeal.nD Cert.InSampleRefIdeal.τ).loc Cert.InSampleRefIdeal.main_arg2) = m ((c.tc : Thread Cert.InSampleIdeal.nD Cert.InSampleIdeal.τ).loc Cert.InSampleIdeal.main_arg2)
      ∧ m' ((c.tc : Thread Cert.InSampleRefIdeal.nD Cert.InSampleRefIdeal.τ).loc Cert.InSampleRefIdeal.main_arg3) = m ((c.tc : Thread Cert.InSampleIdeal.nD Cert.InSampleIdeal.τ).loc Cert.InSampleIdeal.main_arg3)
      ∧ m' ((c.tc : Thread Cert.InSampleRefIdeal.nD Cert.InSampleRefIdeal.τ).loc Cert.InSampleRefIdeal.main_arg4) = m ((c.tc : Thread Cert.InSampleIdeal.nD Cert.InSampleIdeal.τ).loc Cert.InSampleIdeal.main_arg4)
      ∧ m' ((c.tc : Thread Cert.InSampleRefIdeal.nD Cert.InSampleRefIdeal.τ).loc Cert.InSampleRefIdeal.main_arg5) = m ((c.tc : Thread Cert.InSampleIdeal.nD Cert.InSampleIdeal.τ).loc Cert.InSampleIdeal.main_arg5)
      ∧ m' ((c.tc : Thread Cert.InSampleRefIdeal.nD Cert.InSampleRefIdeal.τ).loc Cert.InSampleRefIdeal.main_arg6) = m ((c.tc : Thread Cert.InSampleIdeal.nD Cert.InSampleIdeal.τ).loc Cert.InSampleIdeal.main_arg6)
      ∧ m' ((c.tc : Thread Cert.InSampleRefIdeal.nD Cert.InSampleRefIdeal.τ).loc Cert.InSampleRefIdeal.main_arg7) = m ((c.tc : Thread Cert.InSampleIdeal.nD Cert.InSampleIdeal.τ).loc Cert.InSampleIdeal.main_arg7)
      ∧ m' ((c.tc : Thread Cert.InSampleRefIdeal.nD Cert.InSampleRefIdeal.τ).loc Cert.InSampleRefIdeal.main_arg8) = m ((c.tc : Thread Cert.InSampleIdeal.nD Cert.InSampleIdeal.τ).loc Cert.InSampleIdeal.main_arg8)
      ∧ m' ((c.tc : Thread Cert.InSampleRefIdeal.nD Cert.InSampleRefIdeal.τ).loc Cert.InSampleRefIdeal.main_arg9) = m ((c.tc : Thread Cert.InSampleIdeal.nD Cert.InSampleIdeal.τ).loc Cert.InSampleIdeal.main_arg9)) →
    ∃ (v0 : (c : Dev Cert.InSampleIdeal.nD) → Buf (Elt Ideal) ((c.tc : Thread Cert.InSampleIdeal.nD Cert.InSampleIdeal.τ).loc Cert.InSampleIdeal.main_v62_0)) (v1 : (c : Dev Cert.InSampleIdeal.nD) → Buf (Elt Ideal) ((c.tc : Thread Cert.InSampleIdeal.nD Cert.InSampleIdeal.τ).loc Cert.InSampleIdeal.main_v62_2)) (v2 : (c : Dev Cert.InSampleIdeal.nD) → Buf (Elt Ideal) ((c.tc : Thread Cert.InSampleIdeal.nD Cert.InSampleIdeal.τ).loc Cert.InSampleIdeal.main_v62_3)) (v3 : (c : Dev Cert.InSampleIdeal.nD) → Buf (Elt Ideal) ((c.tc : Thread Cert.InSampleIdeal.nD Cert.InSampleIdeal.τ).loc Cert.InSampleIdeal.main_v62_4)) (v4 : (c : Dev Cert.InSampleIdeal.nD) → Buf (Elt Ideal) ((c.tc : Thread Cert.InSampleIdeal.nD Cert.InSampleIdeal.τ).loc Cert.InSampleIdeal.main_v62_5)) (v5 : (c : Dev Cert.InSampleIdeal.nD) → Buf (Elt Ideal) ((c.tc : Thread Cert.InSampleIdeal.nD Cert.InSampleIdeal.τ).loc Cert.InSampleIdeal.main_v62_6)) (v6 : (c : Dev Cert.InSampleIdeal.nD) → Buf (Elt Ideal) ((c.tc : Thread Cert.InSampleIdeal.nD Cert.InSampleIdeal.τ).loc Cert.InSampleIdeal.main_v62_7)),
      θ_run (Cert.InSampleIdeal.defs (F := Ideal)) (onTc (τ := Cert.InSampleIdeal.τ) (Cert.InSampleIdeal.main (F := Ideal))) ⟨m, fun _ => 0, g⟩ (fun r => ∀ c : Dev Cert.InSampleIdeal.nD,
          r.2.mem ((c.tc : Thread Cert.InSampleIdeal.nD Cert.InSampleIdeal.τ).loc Cert.InSampleIdeal.main_v62_0) = v0 c
          ∧ r.2.mem ((c.tc : Thread Cert.InSampleIdeal.nD Cert.InSampleIdeal.τ).loc Cert.InSampleIdeal.main_v62_2) = v1 c
          ∧ r.2.mem ((c.tc : Thread Cert.InSampleIdeal.nD Cert.InSampleIdeal.τ).loc Cert.InSampleIdeal.main_v62_3) = v2 c
          ∧ r.2.mem ((c.tc : Thread Cert.InSampleIdeal.nD Cert.InSampleIdeal.τ).loc Cert.InSampleIdeal.main_v62_4) = v3 c
          ∧ r.2.mem ((c.tc : Thread Cert.InSampleIdeal.nD Cert.InSampleIdeal.τ).loc Cert.InSampleIdeal.main_v62_5) = v4 c
          ∧ r.2.mem ((c.tc : Thread Cert.InSampleIdeal.nD Cert.InSampleIdeal.τ).loc Cert.InSampleIdeal.main_v62_6) = v5 c
          ∧ r.2.mem ((c.tc : Thread Cert.InSampleIdeal.nD Cert.InSampleIdeal.τ).loc Cert.InSampleIdeal.main_v62_7) = v6 c
          ∧ r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
          ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
          ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
          ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
          ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
          ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5)
          ∧ r.2.mem ((c.tc : Thread Cert.InSampleIdeal.nD Cert.InSampleIdeal.τ).loc Cert.InSampleIdeal.main_arg6) = m ((c.tc : Thread Cert.InSampleIdeal.nD Cert.InSampleIdeal.τ).loc Cert.InSampleIdeal.main_arg6)
          ∧ r.2.mem ((c.tc : Thread Cert.InSampleIdeal.nD Cert.InSampleIdeal.τ).loc Cert.InSampleIdeal.main_arg7) = m ((c.tc : Thread Cert.InSampleIdeal.nD Cert.InSampleIdeal.τ).loc Cert.InSampleIdeal.main_arg7)
          ∧ r.2.mem ((c.tc : Thread Cert.InSampleIdeal.nD Cert.InSampleIdeal.τ).loc Cert.InSampleIdeal.main_arg8) = m ((c.tc : Thread Cert.InSampleIdeal.nD Cert.InSampleIdeal.τ).loc Cert.InSampleIdeal.main_arg8)
          ∧ r.2.mem ((c.tc : Thread Cert.InSampleIdeal.nD Cert.InSampleIdeal.τ).loc Cert.InSampleIdeal.main_arg9) = m ((c.tc : Thread Cert.InSampleIdeal.nD Cert.InSampleIdeal.τ).loc Cert.InSampleIdeal.main_arg9))
      ∧ θ_run (Cert.InSampleRefIdeal.defs (F := Ideal)) (onTc (τ := Cert.InSampleRefIdeal.τ) (Cert.InSampleRefIdeal.main (F := Ideal))) ⟨m', fun _ => 0, g'⟩ (fun r => ∀ c : Dev Cert.InSampleRefIdeal.nD,
          r.2.mem ((c.tc : Thread Cert.InSampleRefIdeal.nD Cert.InSampleRefIdeal.τ).loc Cert.InSampleRefIdeal.main_v139) = v0 c
          ∧ r.2.mem ((c.tc : Thread Cert.InSampleRefIdeal.nD Cert.InSampleRefIdeal.τ).loc Cert.InSampleRefIdeal.main_v140) = v1 c
          ∧ r.2.mem ((c.tc : Thread Cert.InSampleRefIdeal.nD Cert.InSampleRefIdeal.τ).loc Cert.InSampleRefIdeal.main_v141) = v2 c
          ∧ r.2.mem ((c.tc : Thread Cert.InSampleRefIdeal.nD Cert.InSampleRefIdeal.τ).loc Cert.InSampleRefIdeal.main_v144) = v3 c
          ∧ r.2.mem ((c.tc : Thread Cert.InSampleRefIdeal.nD Cert.InSampleRefIdeal.τ).loc Cert.InSampleRefIdeal.main_v146) = v4 c
          ∧ r.2.mem ((c.tc : Thread Cert.InSampleRefIdeal.nD Cert.InSampleRefIdeal.τ).loc Cert.InSampleRefIdeal.main_v147) = v5 c
          ∧ r.2.mem ((c.tc : Thread Cert.InSampleRefIdeal.nD Cert.InSampleRefIdeal.τ).loc Cert.InSampleRefIdeal.main_v149) = v6 c
          ∧ r.2.mem ((c.tc : Thread Cert.InSampleRefIdeal.nD Cert.InSampleRefIdeal.τ).loc Cert.InSampleRefIdeal.main_arg0) = m' ((c.tc : Thread Cert.InSampleRefIdeal.nD Cert.InSampleRefIdeal.τ).loc Cert.InSampleRefIdeal.main_arg0)
          ∧ r.2.mem ((c.tc : Thread Cert.InSampleRefIdeal.nD Cert.InSampleRefIdeal.τ).loc Cert.InSampleRefIdeal.main_arg1) = m' ((c.tc : Thread Cert.InSampleRefIdeal.nD Cert.InSampleRefIdeal.τ).loc Cert.InSampleRefIdeal.main_arg1)
          ∧ r.2.mem ((c.tc : Thread Cert.InSampleRefIdeal.nD Cert.InSampleRefIdeal.τ).loc Cert.InSampleRefIdeal.main_arg2) = m' ((c.tc : Thread Cert.InSampleRefIdeal.nD Cert.InSampleRefIdeal.τ).loc Cert.InSampleRefIdeal.main_arg2)
          ∧ r.2.mem ((c.tc : Thread Cert.InSampleRefIdeal.nD Cert.InSampleRefIdeal.τ).loc Cert.InSampleRefIdeal.main_arg3) = m' ((c.tc : Thread Cert.InSampleRefIdeal.nD Cert.InSampleRefIdeal.τ).loc Cert.InSampleRefIdeal.main_arg3)
          ∧ r.2.mem ((c.tc : Thread Cert.InSampleRefIdeal.nD Cert.InSampleRefIdeal.τ).loc Cert.InSampleRefIdeal.main_arg4) = m' ((c.tc : Thread Cert.InSampleRefIdeal.nD Cert.InSampleRefIdeal.τ).loc Cert.InSampleRefIdeal.main_arg4)
          ∧ r.2.mem ((c.tc : Thread Cert.InSampleRefIdeal.nD Cert.InSampleRefIdeal.τ).loc Cert.InSampleRefIdeal.main_arg5) = m' ((c.tc : Thread Cert.InSampleRefIdeal.nD Cert.InSampleRefIdeal.τ).loc Cert.InSampleRefIdeal.main_arg5)
          ∧ r.2.mem ((c.tc : Thread Cert.InSampleRefIdeal.nD Cert.InSampleRefIdeal.τ).loc Cert.InSampleRefIdeal.main_arg6) = m' ((c.tc : Thread Cert.InSampleRefIdeal.nD Cert.InSampleRefIdeal.τ).loc Cert.InSampleRefIdeal.main_arg6)
          ∧ r.2.mem ((c.tc : Thread Cert.InSampleRefIdeal.nD Cert.InSampleRefIdeal.τ).loc Cert.InSampleRefIdeal.main_arg7) = m' ((c.tc : Thread Cert.InSampleRefIdeal.nD Cert.InSampleRefIdeal.τ).loc Cert.InSampleRefIdeal.main_arg7)
          ∧ r.2.mem ((c.tc : Thread Cert.InSampleRefIdeal.nD Cert.InSampleRefIdeal.τ).loc Cert.InSampleRefIdeal.main_arg8) = m' ((c.tc : Thread Cert.InSampleRefIdeal.nD Cert.InSampleRefIdeal.τ).loc Cert.InSampleRefIdeal.main_arg8)
          ∧ r.2.mem ((c.tc : Thread Cert.InSampleRefIdeal.nD Cert.InSampleRefIdeal.τ).loc Cert.InSampleRefIdeal.main_arg9) = m' ((c.tc : Thread Cert.InSampleRefIdeal.nD Cert.InSampleRefIdeal.τ).loc Cert.InSampleRefIdeal.main_arg9))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hInSample : Cert.InSample.Facts) (hInSampleIdeal : Cert.InSampleIdeal.Facts) (hInSampleRefIdeal : Cert.InSampleRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjRefIdeal (hInProjRefIdeal := hInProjRefIdeal)
    ∧ quiescent_InSample (hInSample := hInSample)
    ∧ quiescent_InSampleIdeal (hInSampleIdeal := hInSampleIdeal)
    ∧ quiescent_InSampleRefIdeal (hInSampleRefIdeal := hInSampleRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjRefIdeal (hInProjIdeal := hInProjIdeal) (hInProjRefIdeal := hInProjRefIdeal)
    ∧ preserves_InSample_InSampleIdeal
    ∧ algebraic_InSampleIdeal_InSampleRefIdeal (hInSampleIdeal := hInSampleIdeal) (hInSampleRefIdeal := hInSampleRefIdeal)
-- ==== Pre_finite_scores.lean ====
abbrev S4x8192x2048 : Shape := ⟨3, ![4, 8192, 2048]⟩
abbrev S4x8192x128 : Shape := ⟨3, ![4, 8192, 128]⟩
abbrev S_ : Shape := ⟨0, ![]⟩
abbrev S4x8192x1024 : Shape := ⟨3, ![4, 8192, 1024]⟩

class Facts : Prop where
  bitsLt_bf16_f32 : FTy.bits .bf16 < FTy.bits .f32
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  slices_S4x8192x2048_S4x8192x1024_0_0_0 : S4x8192x2048.Slices ![0, 0, 0] S4x8192x1024
  bcast_S_S4x8192x1024 : S_.BroadcastsInDim S4x8192x1024 (![] : Fin 0 → Fin S4x8192x1024.rank)
  reducesTo_S4x8192x1024_S_d0_1_2 : S4x8192x1024.ReducesTo [0, 1, 2] S_
  bcast_S_S4x8192x128 : S_.BroadcastsInDim S4x8192x128 (![] : Fin 0 → Fin S4x8192x128.rank)
  reducesTo_S4x8192x128_S_d0_1_2 : S4x8192x128.ReducesTo [0, 1, 2] S_

variable [Facts]

def fn {F : FTy → Type} [FloatOps F] (main_arg0 : FVec F S4x8192x2048 .bf16) (main_arg1 : FVec F S4x8192x2048 .bf16) (main_arg2 : FVec F S4x8192x128 .bf16) : IVec S_ 1 :=
  let main_v0 : FVec F S4x8192x2048 .f32 := (extf .f32 · bitsLt_bf16_f32) main_arg0
  let main_v1 : FVec F S4x8192x2048 .f32 := Host.absf main_v0
  let main_cst : FVec F S_ .f32 := constant S_ .f32 0x7F800000#32
  let main_v2 : FVec F S4x8192x2048 .f32 := broadcastInDim S4x8192x2048 ![] bcast_S_S4x8192x2048 main_cst
  let main_v3 : IVec S4x8192x2048 1 := cmpf .olt main_v1 main_v2
  let main_c : IVec S_ 1 := constantI S_ 1 1#1
  let main_v4 : IVec S_ 1 := (fun x v => Host.reduce IntOp.andi x v reducesTo_S4x8192x2048_S_d0_1_2 h_S_) main_v3 main_c
  let main_v5 : FVec F S4x8192x1024 .bf16 := (extractStridedSlice S4x8192x1024 ![0, 0, 0] · slices_S4x8192x2048_S4x8192x1024_0_0_0) main_arg1
  let main_v6 : FVec F S4x8192x1024 .f32 := (extf .f32 · bitsLt_bf16_f32) main_v5
  let main_v7 : FVec F S4x8192x1024 .f32 := Host.absf main_v6
  let main_cst_0 : FVec F S_ .f32 := constant S_ .f32 0x7F800000#32
  let main_v8 : FVec F S4x8192x1024 .f32 := broadcastInDim S4x8192x1024 ![] bcast_S_S4x8192x1024 main_cst_0
  let main_v9 : IVec S4x8192x1024 1 := cmpf .olt main_v7 main_v8
  let main_c_1 : IVec S_ 1 := constantI S_ 1 1#1
  let main_v10 : IVec S_ 1 := (fun x v => Host.reduce IntOp.andi x v reducesTo_S4x8192x1024_S_d0_1_2 h_S_) main_v9 main_c_1
  let main_v11 : IVec S_ 1 := andi main_v4 main_v10
  let main_v12 : FVec F S4x8192x128 .f32 := (extf .f32 · bitsLt_bf16_f32) main_arg2
  let main_v13 : FVec F S4x8192x128 .f32 := Host.absf main_v12
  let main_cst_2 : FVec F S_ .f32 := constant S_ .f32 0x7F800000#32
  let main_v14 : FVec F S4x8192x128 .f32 := broadcastInDim S4x8192x128 ![] bcast_S_S4x8192x128 main_cst_2
  let main_v15 : IVec S4x8192x128 1 := cmpf .olt main_v13 main_v14
  let main_c_3 : IVec S_ 1 := constantI S_ 1 1#1
  let main_v16 : IVec S_ 1 := (fun x v => Host.reduce IntOp.andi x v reducesTo_S4x8192x128_S_d0_1_2 h_S_) main_v15 main_c_3
  let main_v17 : IVec S_ 1 := andi main_v11 main_v16
  main_v17
-- ==== Kernel.lean ====
abbrev S4x8192x2048 : Shape := ⟨3, ![4, 8192, 2048]⟩
abbrev S4x8192x128 : Shape := ⟨3, ![4, 8192, 128]⟩
abbrev S36 : Shape := ⟨1, ![36]⟩
abbrev S4x8192x1024 : Shape := ⟨3, ![4, 8192, 1024]⟩
abbrev S1x1024x2048 : Shape := ⟨3, ![1, 1024, 2048]⟩
abbrev S1 : Shape := ⟨1, ![1]⟩
abbrev S1x1024x128 : Shape := ⟨3, ![1, 1024, 128]⟩
abbrev S1x1024x1024 : Shape := ⟨3, ![1, 1024, 1024]⟩
abbrev S1024x1 : Shape := ⟨2, ![1024, 1]⟩
abbrev S1024x256 : Shape := ⟨2, ![1024, 256]⟩
abbrev S1024x128 : Shape := ⟨2, ![1024, 128]⟩
abbrev S1x1024x256 : Shape := ⟨3, ![1, 1024, 256]⟩
abbrev S1024x1024 : Shape := ⟨2, ![1024, 1024]⟩
abbrev S1024 : Shape := ⟨1, ![1024]⟩

abbrev nBuf : Space → Nat
  | .hbm => 4
  | .vmem => 24
  | .smem => 2
  | _ => 0

abbrev bufTy : (tb : Table) → Fin (tcTables nBuf tb) → BufTy
  | .hbm, ⟨0, _⟩ => ⟨S4x8192x2048, .bf16⟩
  | .hbm, ⟨1, _⟩ => ⟨S4x8192x2048, .bf16⟩
  | .hbm, ⟨2, _⟩ => ⟨S4x8192x128, .bf16⟩
  | .hbm, ⟨3, _⟩ => ⟨S4x8192x1024, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .smem, ⟨0, _⟩ => ⟨S36, .i32⟩
  | .local _ .smem, ⟨1, _⟩ => ⟨S36, .i32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_scratch14 : Ref sig .tc := ⟨.vmem, 22, rfl⟩
abbrev cc0_scratch15 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let c1_i32 : BitVec 32 := 1#32
  let v4 : BitVec 32 := Scalar.addi v1 c1_i32
  let c1024_i32 : BitVec 32 := 1024#32
  let v5 : BitVec 32 := Scalar.muli v4 c1024_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c1024_i32_1 : BitVec 32 := 1024#32
  let c0_i32_3 : BitVec 32 := 0#32
  let v13 : BitVec 1 := Scalar.cmpi .sgt c1024_i32_1 c0_i32_3
  let v14 : BitVec 32 := Scalar.extui v13
  let c0_i32_4 : BitVec 32 := 0#32
  let v15 : BitVec 1 := Scalar.cmpi .slt c1024_i32_1 c0_i32_4
  let v16 : BitVec 32 := Scalar.extui v15
  let v17 : BitVec 32 := Scalar.subi v14 v16
  let v18 : BitVec 1 := Scalar.cmpi .ne v12 v17
  let v19 : BitVec 32 := Scalar.remsi v6 c1024_i32_1
  let c0_i32_5 : BitVec 32 := 0#32
  let v20 : BitVec 1 := Scalar.cmpi .ne v19 c0_i32_5
  let v21 : BitVec 1 := Scalar.andi v18 v20
  let v7 : BitVec 32 := Scalar.divsi v6 c1024_i32_1
  let c1_i32_6 : BitVec 32 := 1#32
  let v22 : BitVec 32 := Scalar.subi v7 c1_i32_6
  let v23 : BitVec 32 := Scalar.select v21 v22 v7
  let v30 : BitVec 1 := Scalar.cmpi .eq v3 v23
  let v31 : BitVec 32 := Scalar.extui v30
  let c0_i32_10 : BitVec 32 := 0#32
  let v32 : BitVec 1 := Scalar.cmpi .ne v31 c0_i32_10
  v32

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x8192x2048 : Shape := ⟨3, ![4, 8192, 2048]⟩
abbrev S4x8192x128 : Shape := ⟨3, ![4, 8192, 128]⟩
abbrev S4x8192x8x256 : Shape := ⟨4, ![4, 8192, 8, 256]⟩
abbrev S4x8192x1024 : Shape := ⟨3, ![4, 8192, 1024]⟩
abbrev S4x8192x8x128 : Shape := ⟨4, ![4, 8192, 8, 128]⟩
abbrev S4x8192x1x128 : Shape := ⟨4, ![4, 8192, 1, 128]⟩
abbrev S8192 : Shape := ⟨1, ![8192]⟩
abbrev S_ : Shape := ⟨0, ![]⟩
abbrev S4x8x8192x8192 : Shape := ⟨4, ![4, 8, 8192, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩

abbrev nBuf : Space → Nat
  | .hbm => 71
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x2048, .bf16⟩
  | .hbm, ⟨2, _⟩ => ⟨S4x8192x128, .bf16⟩
  | .hbm, ⟨3, _⟩ => ⟨S4x8192x2048, .f32⟩
  | .hbm, ⟨4, _⟩ => ⟨S4x8192x8x256, .f32⟩
  | .hbm, ⟨5, _⟩ => ⟨S4x8192x2048, .f32⟩
  | .hbm, ⟨6, _⟩ => ⟨S4x8192x1024, .f32⟩
  | .hbm, ⟨7, _⟩ => ⟨S4x8192x8x128, .f32⟩
  | .hbm, ⟨8, _⟩ => ⟨S4x8192x1024, .f32⟩
  | .hbm, ⟨9, _⟩ => ⟨S4x8192x8x128, .f32⟩
  | .hbm, ⟨10, _⟩ => ⟨S4x8192x128, .f32⟩
  | .hbm, ⟨11, _⟩ => ⟨S4x8192x1x128, .f32⟩
  | .hbm, ⟨12, _⟩ => ⟨S4x8192x8x128, .f32⟩
  | .hbm, ⟨13, _⟩ => ⟨S4x8192x8x256, .f32⟩
  | .hbm, ⟨14, _⟩ => ⟨S8192, .i32⟩
  | .hbm, ⟨15, _⟩ => ⟨S_, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S4x8x8192x8192, .f32⟩
  | .hbm, ⟨34, _⟩ => ⟨S4x8x8192x8192, .bf16⟩
  | .hbm, ⟨35, _⟩ => ⟨S4x8x8192x8192, .f32⟩
  | .hbm, ⟨36, _⟩ => ⟨S_, .f32⟩
  | .hbm, ⟨37, _⟩ => ⟨S_, .f32⟩
  | .hbm, ⟨38, _⟩ => ⟨S4x8x8192x8192, .f32⟩
  | .hbm, ⟨39, _⟩ => ⟨S4x8x8192x8192, .f32⟩
  | .hbm, ⟨40, _⟩ => ⟨S1x8192, .i32⟩
  | .hbm, ⟨41, _⟩ => ⟨S8192x1, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S1x1x8192x8192, .i1⟩
  | .hbm, ⟨46, _⟩ => ⟨S_, .f32⟩
  | .hbm, ⟨47, _⟩ => ⟨S_, .f32⟩
  | .hbm, ⟨48, _⟩ => ⟨S4x8x8192x8192, .i1⟩
  | .hbm, ⟨49, _⟩ => ⟨S4x8x8192x8192, .f32⟩
  | .hbm, ⟨50, _⟩ => ⟨S4x8x8192x8192, .f32⟩
  | .hbm, ⟨51, _⟩ => ⟨S_, .f32⟩
  | .hbm, ⟨52, _⟩ => ⟨S4x8x8192, .f32⟩
  | .hbm, ⟨53, _⟩ => ⟨S_, .f32⟩
  | .hbm, ⟨54, _⟩ => ⟨S4x8x8192, .f32⟩
  | .hbm, ⟨55, _⟩ => ⟨S4x8x8192, .f32⟩
  | .hbm, ⟨56, _⟩ => ⟨S4x8x8192x1, .f32⟩
  | .hbm, ⟨57, _⟩ => ⟨S4x8x8192x8192, .f32⟩
  | .hbm, ⟨58, _⟩ => ⟨S4x8x8192x8192, .f32⟩
  | .hbm, ⟨59, _⟩ => ⟨S4x8x8192x8192, .f32⟩
  | .hbm, ⟨60, _⟩ => ⟨S_, .f32⟩
  | .hbm, ⟨61, _⟩ => ⟨S4x8x8192, .f32⟩
  | .hbm, ⟨62, _⟩ => ⟨S4x8x8192x1, .f32⟩
  | .hbm, ⟨63, _⟩ => ⟨S4x8x8192x8192, .f32⟩
  | .hbm, ⟨64, _⟩ => ⟨S4x8x8192x8192, .f32⟩
  | .hbm, ⟨65, _⟩ => ⟨S4x8x8192x8192, .bf16⟩
  | .hbm, ⟨66, _⟩ => ⟨S4x8x8192x8192, .f32⟩
  | .hbm, ⟨67, _⟩ => ⟨S4x8x128x8192, .f32⟩
  | .hbm, ⟨68, _⟩ => ⟨S4x8192x8x128, .f32⟩
  | .hbm, ⟨69, _⟩ => ⟨S4x8192x1024, .f32⟩
  | .hbm, ⟨70, _⟩ => ⟨S4x8192x1024, .bf16⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_cst_1 : Ref sig .tc := ⟨.hbm, 51, rfl⟩
abbrev main_v26 : Ref sig .tc := ⟨.hbm, 52, rfl⟩
abbrev main_cst_2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_3 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== InProj.lean ====
abbrev S4x8192x2048 : Shape := ⟨3, ![4, 8192, 2048]⟩
abbrev S2048 : Shape := ⟨1, ![2048]⟩
abbrev S1x2048x3664 : Shape := ⟨3, ![1, 2048, 3664]⟩
abbrev S1x512 : Shape := ⟨2, ![1, 512]⟩
abbrev S1x512x1536 : Shape := ⟨3, ![1, 512, 1536]⟩
abbrev S1x512x8x128 : Shape := ⟨4, ![1, 512, 8, 128]⟩
abbrev S1x16 : Shape := ⟨2, ![1, 16]⟩
abbrev S2048x3664 : Shape := ⟨2, ![2048, 3664]⟩
abbrev S512 : Shape := ⟨1, ![512]⟩
abbrev S512x1536 : Shape := ⟨2, ![512, 1536]⟩
abbrev S512x8x128 : Shape := ⟨3, ![512, 8, 128]⟩
abbrev S16 : Shape := ⟨1, ![16]⟩
abbrev S2048x512 : Shape := ⟨2, ![2048, 512]⟩
abbrev S2048x1024 : Shape := ⟨2, ![2048, 1024]⟩
abbrev S2048x1536 : Shape := ⟨2, ![2048, 1536]⟩
abbrev S2048x64 : Shape := ⟨2, ![2048, 64]⟩
abbrev S_ : Shape := ⟨0, ![]⟩
abbrev S2048x16 : Shape := ⟨2, ![2048, 16]⟩
abbrev S2048x112 : Shape := ⟨2, ![2048, 112]⟩
abbrev S2048x3840 : Shape := ⟨2, ![2048, 3840]⟩
abbrev S512x8x192 : Shape := ⟨3, ![512, 8, 192]⟩
abbrev S512x8x64 : Shape := ⟨3, ![512, 8, 64]⟩
abbrev S512x8x256 : Shape := ⟨3, ![512, 8, 256]⟩
abbrev S1x2048 : Shape := ⟨2, ![1, 2048]⟩
abbrev S512x2048 : Shape := ⟨2, ![512, 2048]⟩
abbrev S512x1024 : Shape := ⟨2, ![512, 1024]⟩
abbrev S128 : Shape := ⟨1, ![128]⟩
abbrev S1x128 : Shape := ⟨2, ![1, 128]⟩
abbrev S32768x2048 : Shape := ⟨2, ![32768, 2048]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S32768x512 : Shape := ⟨2, ![32768, 512]⟩
abbrev S32768x64 : Shape := ⟨2, ![32768, 64]⟩
abbrev S32768x128 : Shape := ⟨2, ![32768, 128]⟩
abbrev S32768x1024 : Shape := ⟨2, ![32768, 1024]⟩
abbrev S32768x1536 : Shape := ⟨2, ![32768, 1536]⟩
abbrev S512x128 : Shape := ⟨2, ![512, 128]⟩
abbrev S512x512 : Shape := ⟨2, ![512, 512]⟩
abbrev S512x64 : Shape := ⟨2, ![512, 64]⟩
abbrev S512x1 : Shape := ⟨2, ![512, 1]⟩
abbrev S512x256 : Shape := ⟨2, ![512, 256]⟩
abbrev S2048x128 : Shape := ⟨2, ![2048, 128]⟩

abbrev nBuf : Space → Nat
  | .hbm => 81
  | .vmem => 30
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048, .f32⟩
  | .hbm, ⟨3, _⟩ => ⟨S1x2048x3664, .f32⟩
  | .hbm, ⟨4, _⟩ => ⟨S1x512, .f32⟩
  | .hbm, ⟨5, _⟩ => ⟨S1x512x1536, .f32⟩
  | .hbm, ⟨6, _⟩ => ⟨S1x512, .f32⟩
  | .hbm, ⟨7, _⟩ => ⟨S1x512x8x128, .f32⟩
  | .hbm, ⟨8, _⟩ => ⟨S1x512x8x128, .f32⟩
  | .hbm, ⟨9, _⟩ => ⟨S1x16, .f32⟩
  | .hbm, ⟨10, _⟩ => ⟨S2048x3664, .f32⟩
  | .hbm, ⟨11, _⟩ => ⟨S512, .f32⟩
  | .hbm, ⟨12, _⟩ => ⟨S512x1536, .f32⟩
  | .hbm, ⟨13, _⟩ => ⟨S512, .f32⟩
  | .hbm, ⟨14, _⟩ => ⟨S512x8x128, .f32⟩
  | .hbm, ⟨15, _⟩ => ⟨S512x8x128, .f32⟩
  | .hbm, ⟨16, _⟩ => ⟨S16, .f32⟩
  | .hbm, ⟨17, _⟩ => ⟨S2048x512, .f32⟩
  | .hbm, ⟨18, _⟩ => ⟨S2048x512, .f32⟩
  | .hbm, ⟨19, _⟩ => ⟨S2048x1024, .f32⟩
  | .hbm, ⟨20, _⟩ => ⟨S2048x1536, .f32⟩
  | .hbm, ⟨21, _⟩ => ⟨S2048x64, .f32⟩
  | .hbm, ⟨22, _⟩ => ⟨S_, .f32⟩
  | .hbm, ⟨23, _⟩ => ⟨S2048x64, .f32⟩
  | .hbm, ⟨24, _⟩ => ⟨S2048x16, .f32⟩
  | .hbm, ⟨25, _⟩ => ⟨S_, .f32⟩
  | .hbm, ⟨26, _⟩ => ⟨S2048x112, .f32⟩
  | .hbm, ⟨27, _⟩ => ⟨S2048x3840, .f32⟩
  | .hbm, ⟨28, _⟩ => ⟨S512x8x192, .f32⟩
  | .hbm, ⟨29, _⟩ => ⟨S_, .f32⟩
  | .hbm, ⟨30, _⟩ => ⟨S512x8x192, .f32⟩
  | .hbm, ⟨31, _⟩ => ⟨S512x8x192, .f32⟩
  | .hbm, ⟨32, _⟩ => ⟨S_, .f32⟩
  | .hbm, ⟨33, _⟩ => ⟨S512x8x64, .f32⟩
  | .hbm, ⟨34, _⟩ => ⟨S512x8x256, .f32⟩
  | .hbm, ⟨35, _⟩ => ⟨S1x2048, .f32⟩
  | .hbm, ⟨36, _⟩ => ⟨S1x2048, .f32⟩
  | .hbm, ⟨37, _⟩ => ⟨S2048x3840, .bf16⟩
  | .hbm, ⟨38, _⟩ => ⟨S1x512, .f32⟩
  | .hbm, ⟨39, _⟩ => ⟨S1x512, .f32⟩
  | .hbm, ⟨40, _⟩ => ⟨S512x2048, .f32⟩
  | .hbm, ⟨41, _⟩ => ⟨S512x2048, .bf16⟩
  | .hbm, ⟨42, _⟩ => ⟨S512x1024, .f32⟩
  | .hbm, ⟨43, _⟩ => ⟨S512x1024, .f32⟩
  | .hbm, ⟨44, _⟩ => ⟨S512x2048, .f32⟩
  | .hbm, ⟨45, _⟩ => ⟨S512x2048, .bf16⟩
  | .hbm, ⟨46, _⟩ => ⟨S_, .i32⟩
  | .hbm, ⟨47, _⟩ => ⟨S_, .f32⟩
  | .hbm, ⟨48, _⟩ => ⟨S128, .f32⟩
  | .hbm, ⟨49, _⟩ => ⟨S1x128, .f32⟩
  | .hbm, ⟨50, _⟩ => ⟨S32768x2048, .f32⟩
  | .hbm, ⟨51, _⟩ => ⟨S8192, .i32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S8192, .f32⟩
  | .hbm, ⟨61, _⟩ => ⟨S8192x1, .f32⟩
  | .hbm, ⟨62, _⟩ => ⟨S1x32, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x32, .f32⟩
  | .hbm, ⟨68, _⟩ => ⟨S_, .f32⟩
  | .hbm, ⟨69, _⟩ => ⟨S8192x64, .f32⟩
  | .hbm, ⟨70, _⟩ => ⟨S8192x128, .f32⟩
  | .hbm, ⟨71, _⟩ => ⟨S8192x32, .f32⟩
  | .hbm, ⟨72, _⟩ => ⟨S8192x128, .f32⟩
  | .hbm, ⟨73, _⟩ => ⟨S32768x2048, .bf16⟩
  | .hbm, ⟨74, _⟩ => ⟨S32768x2048, .bf16⟩
  | .hbm, ⟨75, _⟩ => ⟨S32768x512, .f32⟩
  | .hbm, ⟨76, _⟩ => ⟨S32768x64, .f32⟩
  | .hbm, ⟨77, _⟩ => ⟨S32768x128, .bf16⟩
  | .hbm, ⟨78, _⟩ => ⟨S32768x1024, .bf16⟩
  | .hbm, ⟨79, _⟩ => ⟨S32768x1536, .f32⟩
  | .hbm, ⟨80, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x3840, .bf16⟩
  | .local _ .vmem, ⟨5, _⟩ => ⟨S1x512, .f32⟩
  | .local _ .vmem, ⟨6, _⟩ => ⟨S1x512, .f32⟩
  | .local _ .vmem, ⟨7, _⟩ => ⟨S512x2048, .bf16⟩
  | .local _ .vmem, ⟨8, _⟩ => ⟨S512x2048, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S1x128, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x512, .f32⟩
  | .local _ .vmem, ⟨19, _⟩ => ⟨S512x512, .f32⟩
  | .local _ .vmem, ⟨20, _⟩ => ⟨S512x64, .f32⟩
  | .local _ .vmem, ⟨21, _⟩ => ⟨S512x64, .f32⟩
  | .local _ .vmem, ⟨22, _⟩ => ⟨S512x128, .bf16⟩
  | .local _ .vmem, ⟨23, _⟩ => ⟨S512x128, .bf16⟩
  | .local _ .vmem, ⟨24, _⟩ => ⟨S512x1024, .bf16⟩
  | .local _ .vmem, ⟨25, _⟩ => ⟨S512x1024, .bf16⟩
  | .local _ .vmem, ⟨26, _⟩ => ⟨S512x1536, .f32⟩
  | .local _ .vmem, ⟨27, _⟩ => ⟨S512x1536, .f32⟩
  | .local _ .vmem, ⟨28, _⟩ => ⟨S512x128, .f32⟩
  | .local _ .vmem, ⟨29, _⟩ => ⟨S512x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54_0 : Ref sig .tc := ⟨.hbm, 73, rfl⟩
abbrev main_v54_1 : Ref sig .tc := ⟨.hbm, 74, rfl⟩
abbrev main_v54_2 : Ref sig .tc := ⟨.hbm, 75, rfl⟩
abbrev main_v54_3 : Ref sig .tc := ⟨.hbm, 76, rfl⟩
abbrev main_v54_4 : Ref sig .tc := ⟨.hbm, 77, rfl⟩
abbrev main_v54_5 : Ref sig .tc := ⟨.hbm, 78, rfl⟩
abbrev main_v54_6 : Ref sig .tc := ⟨.hbm, 79, rfl⟩
abbrev main_v54_7 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InProjRefIdeal.lean ====
abbrev S4x8192x2048 : Shape := ⟨3, ![4, 8192, 2048]⟩
abbrev S2048 : Shape := ⟨1, ![2048]⟩
abbrev S1x2048x3664 : Shape := ⟨3, ![1, 2048, 3664]⟩
abbrev S1x512 : Shape := ⟨2, ![1, 512]⟩
abbrev S1x512x1536 : Shape := ⟨3, ![1, 512, 1536]⟩
abbrev S1x512x8x128 : Shape := ⟨4, ![1, 512, 8, 128]⟩
abbrev S1x16 : Shape := ⟨2, ![1, 16]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S2048x3664 : Shape := ⟨2, ![2048, 3664]⟩
abbrev S4x8192x3664 : Shape := ⟨3, ![4, 8192, 3664]⟩
abbrev S4x8192x512 : Shape := ⟨3, ![4, 8192, 512]⟩
abbrev S4x8192x64 : Shape := ⟨3, ![4, 8192, 64]⟩
abbrev S4x8192x1024 : Shape := ⟨3, ![4, 8192, 1024]⟩
abbrev S4x8192x1536 : Shape := ⟨3, ![4, 8192, 1536]⟩
abbrev S4x8192x16 : Shape := ⟨3, ![4, 8192, 16]⟩
abbrev S512 : Shape := ⟨1, ![512]⟩
abbrev S1x1x512 : Shape := ⟨3, ![1, 1, 512]⟩
abbrev S512x1536 : Shape := ⟨2, ![512, 1536]⟩
abbrev S4x8192x8x192 : Shape := ⟨4, ![4, 8192, 8, 192]⟩
abbrev S4x8192x8x128 : Shape := ⟨4, ![4, 8192, 8, 128]⟩
abbrev S4x8192x8x64 : Shape := ⟨4, ![4, 8192, 8, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S4x8192x8x32 : Shape := ⟨4, ![4, 8192, 8, 32]⟩
abbrev S4x8192x8x256 : Shape := ⟨4, ![4, 8192, 8, 256]⟩
abbrev S4x8192x1x64 : Shape := ⟨4, ![4, 8192, 1, 64]⟩
abbrev S4x8192x1x32 : Shape := ⟨4, ![4, 8192, 1, 32]⟩
abbrev S512x8x128 : Shape := ⟨3, ![512, 8, 128]⟩
abbrev S16 : Shape := ⟨1, ![16]⟩
abbrev S1x1x16 : Shape := ⟨3, ![1, 1, 16]⟩
abbrev S32768x2048 : Shape := ⟨2, ![32768, 2048]⟩
abbrev S32768x512 : Shape := ⟨2, ![32768, 512]⟩
abbrev S32768x64 : Shape := ⟨2, ![32768, 64]⟩
abbrev S32768x128 : Shape := ⟨2, ![32768, 128]⟩
abbrev S32768x1024 : Shape := ⟨2, ![32768, 1024]⟩
abbrev S32768x1536 : Shape := ⟨2, ![32768, 1536]⟩
abbrev S32768x16 : Shape := ⟨2, ![32768, 16]⟩

abbrev nBuf : Space → Nat
  | .hbm => 199
  | .vmem => 0
  | .smem => 0
  | _ => 0

abbrev hbmTy0_0 (i : Nat) : BufTy := match i % 128 with
  | 0 => ⟨S4x8192x2048, .f32⟩
  | 1 => ⟨S2048, .f32⟩
  | 2 => ⟨S2048, .f32⟩
  | 3 => ⟨S1x2048x3664, .f32⟩
  | 4 => ⟨S1x512, .f32⟩
  | 5 => ⟨S1x512x1536, .f32⟩
  | 6 => ⟨S1x512, .f32⟩
  | 7 => ⟨S1x512x8x128, .f32⟩
  | 8 => ⟨S1x512x8x128, .f32⟩
  | 9 => ⟨S1x16, .f32⟩
  | 10 => ⟨S_, .f32⟩
  | 11 => ⟨S4x8192, .f32⟩
  | 12 => ⟨S4x8192x1, .f32⟩
  | 13 => ⟨S_, .f32⟩
  | 14 => ⟨S4x8192x1, .f32⟩
  | 15 => ⟨S4x8192x1, .f32⟩
  | 16 => ⟨S4x8192x2048, .f32⟩
  | 17 => ⟨S4x8192x2048, .f32⟩
  | 18 => ⟨S4x8192x2048, .f32⟩
  | 19 => ⟨S_, .f32⟩
  | 20 => ⟨S4x8192, .f32⟩
  | 21 => ⟨S4x8192x1, .f32⟩
  | 22 => ⟨S_, .f32⟩
  | 23 => ⟨S4x8192x1, .f32⟩
  | 24 => ⟨S4x8192x1, .f32⟩
  | 25 => ⟨S_, .f32⟩
  | 26 => ⟨S4x8192x1, .f32⟩
  | 27 => ⟨S4x8192x1, .f32⟩
  | 28 => ⟨S4x8192x1, .f32⟩
  | 29 => ⟨S4x8192x2048, .f32⟩
  | 30 => ⟨S4x8192x2048, .f32⟩
  | 31 => ⟨S1x1x2048, .f32⟩
  | 32 => ⟨S4x8192x2048, .f32⟩
  | 33 => ⟨S4x8192x2048, .f32⟩
  | 34 => ⟨S1x1x2048, .f32⟩
  | 35 => ⟨S4x8192x2048, .f32⟩
  | 36 => ⟨S4x8192x2048, .f32⟩
  | 37 => ⟨S2048x3664, .f32⟩
  | 38 => ⟨S4x8192x3664, .f32⟩
  | 39 => ⟨S4x8192x512, .f32⟩
  | 40 => ⟨S4x8192x512, .f32⟩
  | 41 => ⟨S4x8192x64, .f32⟩
  | 42 => ⟨S4x8192x1024, .f32⟩
  | 43 => ⟨S4x8192x1536, .f32⟩
  | 44 => ⟨S4x8192x16, .f32⟩
  | 45 => ⟨S512, .f32⟩
  | 46 => ⟨S4x8192x512, .f32⟩
  | 47 => ⟨S_, .f32⟩
  | 48 => ⟨S4x8192, .f32⟩
  | 49 => ⟨S4x8192x1, .f32⟩
  | 50 => ⟨S_, .f32⟩
  | 51 => ⟨S4x8192x1, .f32⟩
  | 52 => ⟨S4x8192x1, .f32⟩
  | 53 => ⟨S_, .f32⟩
  | 54 => ⟨S4x8192x1, .f32⟩
  | 55 => ⟨S4x8192x1, .f32⟩
  | 56 => ⟨S4x8192x1, .f32⟩
  | 57 => ⟨S4x8192x512, .f32⟩
  | 58 => ⟨S4x8192x512, .f32⟩
  | 59 => ⟨S1x1x512, .f32⟩
  | 60 => ⟨S4x8192x512, .f32⟩
  | 61 => ⟨S4x8192x512, .f32⟩
  | 62 => ⟨S512x1536, .f32⟩
  | 63 => ⟨S4x8192x1536, .f32⟩
  | 64 => ⟨S_, .f32⟩
  | 65 => ⟨S4x8192x1536, .f32⟩
  | 66 => ⟨S4x8192x1536, .f32⟩
  | 67 => ⟨S4x8192x8x192, .f32⟩
  | 68 => ⟨S4x8192x8x128, .f32⟩
  | 69 => ⟨S4x8192x8x64, .f32⟩
  | 70 => ⟨S32, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S8192, .i32⟩
  | 79 => ⟨S8192, .f32⟩
  | 80 => ⟨S8192x1, .f32⟩
  | 81 => ⟨S1x32, .f32⟩
  | 82 => ⟨S8192x32, .f32⟩
  | 83 => ⟨S8192x32, .f32⟩
  | 84 => ⟨S8192x32, .f32⟩
  | 85 => ⟨S8192x32, .f32⟩
  | 86 => ⟨S1x8192x1x32, .f32⟩
  | 87 => ⟨S8192x32, .f32⟩
  | 88 => ⟨S1x8192x1x32, .f32⟩
  | 89 => ⟨S4x8192x8x32, .f32⟩
  | 90 => ⟨S4x8192x8x32, .f32⟩
  | 91 => ⟨S4x8192x8x32, .f32⟩
  | 92 => ⟨S4x8192x8x32, .f32⟩
  | 93 => ⟨S4x8192x8x32, .f32⟩
  | 94 => ⟨S4x8192x8x32, .f32⟩
  | 95 => ⟨S4x8192x8x32, .f32⟩
  | 96 => ⟨S4x8192x8x32, .f32⟩
  | 97 => ⟨S4x8192x8x32, .f32⟩
  | 98 => ⟨S4x8192x8x32, .f32⟩
  | 99 => ⟨S4x8192x8x32, .f32⟩
  | 100 => ⟨S4x8192x8x32, .f32⟩
  | 101 => ⟨S4x8192x8x64, .f32⟩
  | 102 => ⟨S_, .f32⟩
  | 103 => ⟨S4x8192x8x64, .f32⟩
  | 104 => ⟨S4x8192x8x256, .f32⟩
  | 105 => ⟨S512, .f32⟩
  | 106 => ⟨S4x8192x512, .f32⟩
  | 107 => ⟨S_, .f32⟩
  | 108 => ⟨S4x8192, .f32⟩
  | 109 => ⟨S4x8192x1, .f32⟩
  | 110 => ⟨S_, .f32⟩
  | 111 => ⟨S4x8192x1, .f32⟩
  | 112 => ⟨S4x8192x1, .f32⟩
  | 113 => ⟨S_, .f32⟩
  | 114 => ⟨S4x8192x1, .f32⟩
  | 115 => ⟨S4x8192x1, .f32⟩
  | 116 => ⟨S4x8192x1, .f32⟩
  | 117 => ⟨S4x8192x512, .f32⟩
  | 118 => ⟨S4x8192x512, .f32⟩
  | 119 => ⟨S1x1x512, .f32⟩
  | 120 => ⟨S4x8192x512, .f32⟩
  | 121 => ⟨S4x8192x512, .f32⟩
  | 122 => ⟨S4x8192x1x64, .f32⟩
  | 123 => ⟨S32, .f32⟩
  | 124 => ⟨S32, .f32⟩
  | 125 => ⟨S_, .f32⟩
  | 126 => ⟨S32, .f32⟩
  | 127 => ⟨S32, .f32⟩
  | _ => ⟨S4x8192x2048, .f32⟩

abbrev hbmTy0_1 (i : Nat) : BufTy := match i % 128 with
  | 0 => ⟨S_, .f32⟩
  | 1 => ⟨S32, .f32⟩
  | 2 => ⟨S32, .f32⟩
  | 3 => ⟨S8192, .i32⟩
  | 4 => ⟨S8192, .f32⟩
  | 5 => ⟨S8192x1, .f32⟩
  | 6 => ⟨S1x32, .f32⟩
  | 7 => ⟨S8192x32, .f32⟩
  | 8 => ⟨S8192x32, .f32⟩
  | 9 => ⟨S8192x32, .f32⟩
  | 10 => ⟨S8192x32, .f32⟩
  | 11 => ⟨S1x8192x1x32, .f32⟩
  | 12 => ⟨S8192x32, .f32⟩
  | 13 => ⟨S1x8192x1x32, .f32⟩
  | 14 => ⟨S4x8192x1x32, .f32⟩
  | 15 => ⟨S4x8192x1x32, .f32⟩
  | 16 => ⟨S4x8192x1x32, .f32⟩
  | 17 => ⟨S4x8192x1x32, .f32⟩
  | 18 => ⟨S4x8192x1x32, .f32⟩
  | 19 => ⟨S4x8192x1x32, .f32⟩
  | 20 => ⟨S4x8192x1x32, .f32⟩
  | 21 => ⟨S4x8192x1x32, .f32⟩
  | 22 => ⟨S4x8192x1x32, .f32⟩
  | 23 => ⟨S4x8192x1x32, .f32⟩
  | 24 => ⟨S4x8192x1x32, .f32⟩
  | 25 => ⟨S4x8192x1x32, .f32⟩
  | 26 => ⟨S4x8192x1x64, .f32⟩
  | 27 => ⟨S4x8192x64, .f32⟩
  | 28 => ⟨S512x8x128, .f32⟩
  | 29 => ⟨S4x8192x8x128, .f32⟩
  | 30 => ⟨S512x8x128, .f32⟩
  | 31 => ⟨S4x8192x8x128, .f32⟩
  | 32 => ⟨S4x8192x1024, .f32⟩
  | 33 => ⟨S4x8192x1024, .f32⟩
  | 34 => ⟨S4x8192x2048, .f32⟩
  | 35 => ⟨S16, .f32⟩
  | 36 => ⟨S1x1x16, .f32⟩
  | 37 => ⟨S4x8192x16, .f32⟩
  | 38 => ⟨S4x8192x16, .f32⟩
  | 39 => ⟨S_, .f32⟩
  | 40 => ⟨S4x8192x16, .f32⟩
  | 41 => ⟨S4x8192x16, .f32⟩
  | 42 => ⟨S4x8192x16, .f32⟩
  | 43 => ⟨S4x8192x16, .f32⟩
  | 44 => ⟨S4x8192x16, .i1⟩
  | 45 => ⟨S4x8192x16, .f32⟩
  | 46 => ⟨S4x8192x16, .f32⟩
  | 47 => ⟨S4x8192x16, .f32⟩
  | 48 => ⟨S4x8192x16, .f32⟩
  | 49 => ⟨S4x8192x16, .f32⟩
  | 50 => ⟨S4x8192x16, .f32⟩
  | 51 => ⟨S4x8192x16, .f32⟩
  | 52 => ⟨S4x8192x16, .f32⟩
  | 53 => ⟨S32768x2048, .f32⟩
  | 54 => ⟨S32768x2048, .bf16⟩
  | 55 => ⟨S32768x2048, .f32⟩
  | 56 => ⟨S32768x2048, .bf16⟩
  | 57 => ⟨S32768x512, .f32⟩
  | 58 => ⟨S32768x64, .f32⟩
  | 59 => ⟨S32768x64, .f32⟩
  | 60 => ⟨S_, .i32⟩
  | 61 => ⟨S_, .f32⟩
  | 62 => ⟨S32768x128, .f32⟩
  | 63 => ⟨S32768x128, .bf16⟩
  | 64 => ⟨S32768x1024, .f32⟩
  | 65 => ⟨S32768x1024, .bf16⟩
  | 66 => ⟨S32768x1536, .f32⟩
  | 67 => ⟨S32768x16, .f32⟩
  | 68 => ⟨S_, .i32⟩
  | 69 => ⟨S_, .f32⟩
  | 70 => ⟨S32768x128, .f32⟩
  | _ => ⟨S4x8192x2048, .f32⟩

abbrev hbmTy (i : Nat) : BufTy := match i / 128 with
  | 0 => hbmTy0_0 i
  | 1 => hbmTy0_1 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_10 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_11 : Ref sig .tc := ⟨.hbm, 107, rfl⟩
abbrev main_v85 : Ref sig .tc := ⟨.hbm, 108, rfl⟩
abbrev main_v86 : Ref sig .tc := ⟨.hbm, 109, rfl⟩
abbrev main_cst_12 : Ref sig .tc := ⟨.hbm, 110, rfl⟩
abbrev main_v87 : Ref sig .tc := ⟨.hbm, 111, rfl⟩
abbrev main_v88 : Ref sig .tc := ⟨.hbm, 112, rfl⟩
abbrev main_cst_13 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_14 : Ref sig .tc := ⟨.hbm, 125, rfl⟩
abbrev main_v100 : Ref sig .tc := ⟨.hbm, 126, rfl⟩
abbrev main_v101 : Ref sig .tc := ⟨.hbm, 127, rfl⟩
abbrev main_cst_15 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_call0_cst : Ref sig .tc := ⟨.hbm, 167, rfl⟩
abbrev main_call0_v0 : Ref sig .tc := ⟨.hbm, 168, rfl⟩
abbrev main_call0_v1 : Ref sig .tc := ⟨.hbm, 169, rfl⟩
abbrev main_call0_v2 : Ref sig .tc := ⟨.hbm, 170, rfl⟩
abbrev main_call0_v3 : Ref sig .tc := ⟨.hbm, 171, rfl⟩
abbrev main_call0_v4 : Ref sig .tc := ⟨.hbm, 172, rfl⟩
abbrev main_call0_v5 : Ref sig .tc := ⟨.hbm, 173, rfl⟩
abbrev main_call0_v6 : Ref sig .tc := ⟨.hbm, 174, rfl⟩
abbrev main_call0_v7 : Ref sig .tc := ⟨.hbm, 175, rfl⟩
abbrev main_call0_v8 : Ref sig .tc := ⟨.hbm, 176, rfl⟩
abbrev main_call0_v9 : Ref sig .tc := ⟨.hbm, 177, rfl⟩
abbrev main_call0_v10 : Ref sig .tc := ⟨.hbm, 178, rfl⟩
abbrev main_call0_v11 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_c : Ref sig .tc := ⟨.hbm, 188, rfl⟩
abbrev main_call1_v0 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_c_16 : Ref sig .tc := ⟨.hbm, 196, rfl⟩
abbrev main_call2_v0 : Ref sig .tc := ⟨.hbm, 197, rfl⟩
abbrev main_v154 : Ref sig .tc := ⟨.hbm, 198, rfl⟩

abbrev nD : Nat := 1
abbrev τ : Topo := Topo.v7x

variable {F : FTy → Type} [FloatOps F]
-- ==== InSample.lean ====
abbrev S16x16x2048 : Shape := ⟨3, ![16, 16, 2048]⟩
abbrev S2048 : Shape := ⟨1, ![2048]⟩
abbrev S1x2048x3664 : Shape := ⟨3, ![1, 2048, 3664]⟩
abbrev S1x512 : Shape := ⟨2, ![1, 512]⟩
abbrev S1x512x1536 : Shape := ⟨3, ![1, 512, 1536]⟩
abbrev S1x512x8x128 : Shape := ⟨4, ![1, 512, 8, 128]⟩
abbrev S1x16 : Shape := ⟨2, ![1, 16]⟩
abbrev S2048x3664 : Shape := ⟨2, ![2048, 3664]⟩
abbrev S512 : Shape := ⟨1, ![512]⟩
abbrev S512x1536 : Shape := ⟨2, ![512, 1536]⟩
abbrev S512x8x128 : Shape := ⟨3, ![512, 8, 128]⟩
abbrev S16 : Shape := ⟨1, ![16]⟩
abbrev S2048x512 : Shape := ⟨2, ![2048, 512]⟩
abbrev S2048x1024 : Shape := ⟨2, ![2048, 1024]⟩
abbrev S2048x1536 : Shape := ⟨2, ![2048, 1536]⟩
abbrev S2048x64 : Shape := ⟨2, ![2048, 64]⟩
abbrev S_ : Shape := ⟨0, ![]⟩
abbrev S2048x16 : Shape := ⟨2, ![2048, 16]⟩
abbrev S2048x112 : Shape := ⟨2, ![2048, 112]⟩
abbrev S2048x3840 : Shape := ⟨2, ![2048, 3840]⟩
abbrev S512x8x192 : Shape := ⟨3, ![512, 8, 192]⟩
abbrev S512x8x64 : Shape := ⟨3, ![512, 8, 64]⟩
abbrev S512x8x256 : Shape := ⟨3, ![512, 8, 256]⟩
abbrev S1x2048 : Shape := ⟨2, ![1, 2048]⟩
abbrev S512x2048 : Shape := ⟨2, ![512, 2048]⟩
abbrev S512x1024 : Shape := ⟨2, ![512, 1024]⟩
abbrev S128 : Shape := ⟨1, ![128]⟩
abbrev S1x128 : Shape := ⟨2, ![1, 128]⟩
abbrev S256x2048 : Shape := ⟨2, ![256, 2048]⟩
abbrev S32 : Shape := ⟨1, ![32]⟩
abbrev S16x1 : Shape := ⟨2, ![16, 1]⟩
abbrev S1x32 : Shape := ⟨2, ![1, 32]⟩
abbrev S16x32 : Shape := ⟨2, ![16, 32]⟩
abbrev S16x64 : Shape := ⟨2, ![16, 64]⟩
abbrev S16x128 : Shape := ⟨2, ![16, 128]⟩
abbrev S1x16x1x128 : Shape := ⟨4, ![1, 16, 1, 128]⟩
abbrev S16x16x1x128 : Shape := ⟨4, ![16, 16, 1, 128]⟩
abbrev S256x128 : Shape := ⟨2, ![256, 128]⟩
abbrev S256x512 : Shape := ⟨2, ![256, 512]⟩
abbrev S256x64 : Shape := ⟨2, ![256, 64]⟩
abbrev S256x1024 : Shape := ⟨2, ![256, 1024]⟩
abbrev S256x1536 : Shape := ⟨2, ![256, 1536]⟩
abbrev S256 : Shape := ⟨1, ![256]⟩
abbrev S256x1 : Shape := ⟨2, ![256, 1]⟩
abbrev S512x256 : Shape := ⟨2, ![512, 256]⟩
abbrev S256x256 : Shape := ⟨2, ![256, 256]⟩
abbrev S2048x128 : Shape := ⟨2, ![2048, 128]⟩

abbrev nBuf : Space → Nat
  | .hbm => 90
  | .vmem => 19
  | .smem => 0
  | _ => 0

abbrev bufTy : (tb : Table) → Fin (tcTables nBuf tb) → BufTy
  | .hbm, ⟨0, _⟩ => ⟨S16x16x2048, .f32⟩
  | .hbm, ⟨1, _⟩ => ⟨S2048, .f32⟩
  | .hbm, ⟨2, _⟩ => ⟨S2048, .f32⟩
  | .hbm, ⟨3, _⟩ => ⟨S1x2048x3664, .f32⟩
  | .hbm, ⟨4, _⟩ => ⟨S1x512, .f32⟩
  | .hbm, ⟨5, _⟩ => ⟨S1x512x1536, .f32⟩
  | .hbm, ⟨6, _⟩ => ⟨S1x512, .f32⟩
  | .hbm, ⟨7, _⟩ => ⟨S1x512x8x128, .f32⟩
  | .hbm, ⟨8, _⟩ => ⟨S1x512x8x128, .f32⟩
  | .hbm, ⟨9, _⟩ => ⟨S1x16, .f32⟩
  | .hbm, ⟨10, _⟩ => ⟨S2048x3664, .f32⟩
  | .hbm, ⟨11, _⟩ => ⟨S512, .f32⟩
  | .hbm, ⟨12, _⟩ => ⟨S512x1536, .f32⟩
  | .hbm, ⟨13, _⟩ => ⟨S512, .f32⟩
  | .hbm, ⟨14, _⟩ => ⟨S512x8x128, .f32⟩
  | .hbm, ⟨15, _⟩ => ⟨S512x8x128, .f32⟩
  | .hbm, ⟨16, _⟩ => ⟨S16, .f32⟩
  | .hbm, ⟨17, _⟩ => ⟨S2048x512, .f32⟩
  | .hbm, ⟨18, _⟩ => ⟨S2048x512, .f32⟩
  | .hbm, ⟨19, _⟩ => ⟨S2048x1024, .f32⟩
  | .hbm, ⟨20, _⟩ => ⟨S2048x1536, .f32⟩
  | .hbm, ⟨21, _⟩ => ⟨S2048x64, .f32⟩
  | .hbm, ⟨22, _⟩ => ⟨S_, .f32⟩
  | .hbm, ⟨23, _⟩ => ⟨S2048x64, .f32⟩
  | .hbm, ⟨24, _⟩ => ⟨S2048x16, .f32⟩
  | .hbm, ⟨25, _⟩ => ⟨S_, .f32⟩
  | .hbm, ⟨26, _⟩ => ⟨S2048x112, .f32⟩
  | .hbm, ⟨27, _⟩ => ⟨S2048x3840, .f32⟩
  | .hbm, ⟨28, _⟩ => ⟨S512x8x192, .f32⟩
  | .hbm, ⟨29, _⟩ => ⟨S_, .f32⟩
  | .hbm, ⟨30, _⟩ => ⟨S512x8x192, .f32⟩
  | .hbm, ⟨31, _⟩ => ⟨S512x8x192, .f32⟩
  | .hbm, ⟨32, _⟩ => ⟨S_, .f32⟩
  | .hbm, ⟨33, _⟩ => ⟨S512x8x64, .f32⟩
  | .hbm, ⟨34, _⟩ => ⟨S512x8x256, .f32⟩
  | .hbm, ⟨35, _⟩ => ⟨S1x2048, .f32⟩
  | .hbm, ⟨36, _⟩ => ⟨S1x2048, .f32⟩
  | .hbm, ⟨37, _⟩ => ⟨S2048x3840, .bf16⟩
  | .hbm, ⟨38, _⟩ => ⟨S1x512, .f32⟩
  | .hbm, ⟨39, _⟩ => ⟨S1x512, .f32⟩
  | .hbm, ⟨40, _⟩ => ⟨S512x2048, .f32⟩
  | .hbm, ⟨41, _⟩ => ⟨S512x2048, .bf16⟩
  | .hbm, ⟨42, _⟩ => ⟨S512x1024, .f32⟩
  | .hbm, ⟨43, _⟩ => ⟨S512x1024, .f32⟩
  | .hbm, ⟨44, _⟩ => ⟨S512x2048, .f32⟩
  | .hbm, ⟨45, _⟩ => ⟨S512x2048, .bf16⟩
  | .hbm, ⟨46, _⟩ => ⟨S_, .i32⟩
  | .hbm, ⟨47, _⟩ => ⟨S_, .f32⟩
  | .hbm, ⟨48, _⟩ => ⟨S128, .f32⟩
  | .hbm, ⟨49, _⟩ => ⟨S1x128, .f32⟩
  | .hbm, ⟨50, _⟩ => ⟨S256x2048, .f32⟩
  | .hbm, ⟨51, _⟩ => ⟨S16, .i32⟩
  | .hbm, ⟨52, _⟩ => ⟨S_, .i32⟩
  | .hbm, ⟨53, _⟩ => ⟨S16, .i32⟩
  | .hbm, ⟨54, _⟩ => ⟨S16, .i32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S16, .f32⟩
  | .hbm, ⟨64, _⟩ => ⟨S16x1, .f32⟩
  | .hbm, ⟨65, _⟩ => ⟨S1x32, .f32⟩
  | .hbm, ⟨66, _⟩ => ⟨S16x32, .f32⟩
  | .hbm, ⟨67, _⟩ => ⟨S16x32, .f32⟩
  | .hbm, ⟨68, _⟩ => ⟨S16x32, .f32⟩
  | .hbm, ⟨69, _⟩ => ⟨S16x32, .f32⟩
  | .hbm, ⟨70, _⟩ => ⟨S16x32, .f32⟩
  | .hbm, ⟨71, _⟩ => ⟨S_, .f32⟩
  | .hbm, ⟨72, _⟩ => ⟨S16x64, .f32⟩
  | .hbm, ⟨73, _⟩ => ⟨S16x128, .f32⟩
  | .hbm, ⟨74, _⟩ => ⟨S16x32, .f32⟩
  | .hbm, ⟨75, _⟩ => ⟨S16x128, .f32⟩
  | .hbm, ⟨76, _⟩ => ⟨S1x16x1x128, .f32⟩
  | .hbm, ⟨77, _⟩ => ⟨S16x16x1x128, .f32⟩
  | .hbm, ⟨78, _⟩ => ⟨S256x128, .f32⟩
  | .hbm, ⟨79, _⟩ => ⟨S1x16x1x128, .f32⟩
  | .hbm, ⟨80, _⟩ => ⟨S16x16x1x128, .f32⟩
  | .hbm, ⟨81, _⟩ => ⟨S256x128, .f32⟩
  | .hbm, ⟨82, _⟩ => ⟨S256x2048, .bf16⟩
  | .hbm, ⟨83, _⟩ => ⟨S256x128, .bf16⟩
  | .hbm, ⟨84, _⟩ => ⟨S256x512, .f32⟩
  | .hbm, ⟨85, _⟩ => ⟨S256x64, .f32⟩
  | .hbm, ⟨86, _⟩ => ⟨S256x128, .bf16⟩
  | .hbm, ⟨87, _⟩ => ⟨S256x1024, .bf16⟩
  | .hbm, ⟨88, _⟩ => ⟨S256x1536, .f32⟩
  | .hbm, ⟨89, _⟩ => ⟨S256x128, .f32⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S2048x3840, .bf16⟩
  | .local _ .vmem, ⟨4, _⟩ => ⟨S1x512, .f32⟩
  | .local _ .vmem, ⟨5, _⟩ => ⟨S1x512, .f32⟩
  | .local _ .vmem, ⟨6, _⟩ => ⟨S512x2048, .bf16⟩
  | .local _ .vmem, ⟨7, _⟩ => ⟨S512x2048, .bf16⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S256x2048, .bf16⟩
  | .local _ .vmem, ⟨12, _⟩ => ⟨S256x128, .bf16⟩
  | .local _ .vmem, ⟨13, _⟩ => ⟨S256x512, .f32⟩
  | .local _ .vmem, ⟨14, _⟩ => ⟨S256x64, .f32⟩
  | .local _ .vmem, ⟨15, _⟩ => ⟨S256x128, .bf16⟩
  | .local _ .vmem, ⟨16, _⟩ => ⟨S256x1024, .bf16⟩
  | .local _ .vmem, ⟨17, _⟩ => ⟨S256x1536, .f32⟩
  | .local _ .vmem, ⟨18, _⟩ => ⟨S256x128, .f32⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62_0 : Ref sig .tc := ⟨.hbm, 82, rfl⟩
abbrev main_v62_1 : Ref sig .tc := ⟨.hbm, 83, rfl⟩
abbrev main_v62_2 : Ref sig .tc := ⟨.hbm, 84, rfl⟩
abbrev main_v62_3 : Ref sig .tc := ⟨.hbm, 85, rfl⟩
abbrev main_v62_4 : Ref sig .tc := ⟨.hbm, 86, rfl⟩
abbrev main_v62_5 : Ref sig .tc := ⟨.hbm, 87, rfl⟩
abbrev main_v62_6 : Ref sig .tc := ⟨.hbm, 88, rfl⟩
abbrev main_v62_7 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== InSampleRefIdeal.lean ====
abbrev S16x16x2048 : Shape := ⟨3, ![16, 16, 2048]⟩
abbrev S2048 : Shape := ⟨1, ![2048]⟩
abbrev S1x2048x3664 : Shape := ⟨3, ![1, 2048, 3664]⟩
abbrev S1x512 : Shape := ⟨2, ![1, 512]⟩
abbrev S1x512x1536 : Shape := ⟨3, ![1, 512, 1536]⟩
abbrev S1x512x8x128 : Shape := ⟨4, ![1, 512, 8, 128]⟩
abbrev S1x16 : Shape := ⟨2, ![1, 16]⟩
abbrev S_ : Shape := ⟨0, ![]⟩
abbrev S16x16 : Shape := ⟨2, ![16, 16]⟩
abbrev S16x16x1 : Shape := ⟨3, ![16, 16, 1]⟩
abbrev S1x1x2048 : Shape := ⟨3, ![1, 1, 2048]⟩
abbrev S2048x3664 : Shape := ⟨2, ![2048, 3664]⟩
abbrev S16x16x3664 : Shape := ⟨3, ![16, 16, 3664]⟩
abbrev S16x16x512 : Shape := ⟨3, ![16, 16, 512]⟩
abbrev S16x16x64 : Shape := ⟨3, ![16, 16, 64]⟩
abbrev S16x16x1024 : Shape := ⟨3, ![16, 16, 1024]⟩
abbrev S16x16x1536 : Shape := ⟨3, ![16, 16, 1536]⟩
abbrev S16x16x16 : Shape := ⟨3, ![16, 16, 16]⟩
abbrev S512 : Shape := ⟨1, ![512]⟩
abbrev S1x1x512 : Shape := ⟨3, ![1, 1, 512]⟩
abbrev S512x1536 : Shape := ⟨2, ![512, 1536]⟩
abbrev S16x16x8x192 : Shape := ⟨4, ![16, 16, 8, 192]⟩
abbrev S16x16x8x128 : Shape := ⟨4, ![16, 16, 8, 128]⟩
abbrev S16x16x8x64 : Shape := ⟨4, ![16, 16, 8, 64]⟩
abbrev S32 : Shape := ⟨1, ![32]⟩
abbrev S16 : Shape := ⟨1, ![16]⟩
abbrev S16x1 : Shape := ⟨2, ![16, 1]⟩
abbrev S1x32 : Shape := ⟨2, ![1, 32]⟩
abbrev S16x32 : Shape := ⟨2, ![16, 32]⟩
abbrev S1x16x1x32 : Shape := ⟨4, ![1, 16, 1, 32]⟩
abbrev S16x16x8x32 : Shape := ⟨4, ![16, 16, 8, 32]⟩
abbrev S16x16x8x256 : Shape := ⟨4, ![16, 16, 8, 256]⟩
abbrev S16x16x1x64 : Shape := ⟨4, ![16, 16, 1, 64]⟩
abbrev S16x16x1x32 : Shape := ⟨4, ![16, 16, 1, 32]⟩
abbrev S1x1x16 : Shape := ⟨3, ![1, 1, 16]⟩
abbrev S256x2048 : Shape := ⟨2, ![256, 2048]⟩
abbrev S256x512 : Shape := ⟨2, ![256, 512]⟩
abbrev S256x64 : Shape := ⟨2, ![256, 64]⟩
abbrev S256x128 : Shape := ⟨2, ![256, 128]⟩
abbrev S256x1024 : Shape := ⟨2, ![256, 1024]⟩
abbrev S256x1536 : Shape := ⟨2, ![256, 1536]⟩
abbrev S256x16 : Shape := ⟨2, ![256, 16]⟩

abbrev nBuf : Space → Nat
  | .hbm => 196
  | .vmem => 0
  | .smem => 0
  | _ => 0

abbrev hbmTy0_0 (i : Nat) : BufTy := match i % 128 with
  | 0 => ⟨S16x16x2048, .f32⟩
  | 1 => ⟨S2048, .f32⟩
  | 2 => ⟨S2048, .f32⟩
  | 3 => ⟨S1x2048x3664, .f32⟩
  | 4 => ⟨S1x512, .f32⟩
  | 5 => ⟨S1x512x1536, .f32⟩
  | 6 => ⟨S1x512, .f32⟩
  | 7 => ⟨S1x512x8x128, .f32⟩
  | 8 => ⟨S1x512x8x128, .f32⟩
  | 9 => ⟨S1x16, .f32⟩
  | 10 => ⟨S_, .f32⟩
  | 11 => ⟨S16x16, .f32⟩
  | 12 => ⟨S16x16x1, .f32⟩
  | 13 => ⟨S_, .f32⟩
  | 14 => ⟨S16x16x1, .f32⟩
  | 15 => ⟨S16x16x1, .f32⟩
  | 16 => ⟨S16x16x2048, .f32⟩
  | 17 => ⟨S16x16x2048, .f32⟩
  | 18 => ⟨S16x16x2048, .f32⟩
  | 19 => ⟨S_, .f32⟩
  | 20 => ⟨S16x16, .f32⟩
  | 21 => ⟨S16x16x1, .f32⟩
  | 22 => ⟨S_, .f32⟩
  | 23 => ⟨S16x16x1, .f32⟩
  | 24 => ⟨S16x16x1, .f32⟩
  | 25 => ⟨S_, .f32⟩
  | 26 => ⟨S16x16x1, .f32⟩
  | 27 => ⟨S16x16x1, .f32⟩
  | 28 => ⟨S16x16x1, .f32⟩
  | 29 => ⟨S16x16x2048, .f32⟩
  | 30 => ⟨S16x16x2048, .f32⟩
  | 31 => ⟨S1x1x2048, .f32⟩
  | 32 => ⟨S16x16x2048, .f32⟩
  | 33 => ⟨S16x16x2048, .f32⟩
  | 34 => ⟨S1x1x2048, .f32⟩
  | 35 => ⟨S16x16x2048, .f32⟩
  | 36 => ⟨S16x16x2048, .f32⟩
  | 37 => ⟨S2048x3664, .f32⟩
  | 38 => ⟨S16x16x3664, .f32⟩
  | 39 => ⟨S16x16x512, .f32⟩
  | 40 => ⟨S16x16x512, .f32⟩
  | 41 => ⟨S16x16x64, .f32⟩
  | 42 => ⟨S16x16x1024, .f32⟩
  | 43 => ⟨S16x16x1536, .f32⟩
  | 44 => ⟨S16x16x16, .f32⟩
  | 45 => ⟨S512, .f32⟩
  | 46 => ⟨S16x16x512, .f32⟩
  | 47 => ⟨S_, .f32⟩
  | 48 => ⟨S16x16, .f32⟩
  | 49 => ⟨S16x16x1, .f32⟩
  | 50 => ⟨S_, .f32⟩
  | 51 => ⟨S16x16x1, .f32⟩
  | 52 => ⟨S16x16x1, .f32⟩
  | 53 => ⟨S_, .f32⟩
  | 54 => ⟨S16x16x1, .f32⟩
  | 55 => ⟨S16x16x1, .f32⟩
  | 56 => ⟨S16x16x1, .f32⟩
  | 57 => ⟨S16x16x512, .f32⟩
  | 58 => ⟨S16x16x512, .f32⟩
  | 59 => ⟨S1x1x512, .f32⟩
  | 60 => ⟨S16x16x512, .f32⟩
  | 61 => ⟨S16x16x512, .f32⟩
  | 62 => ⟨S512x1536, .f32⟩
  | 63 => ⟨S16x16x1536, .f32⟩
  | 64 => ⟨S_, .f32⟩
  | 65 => ⟨S16x16x1536, .f32⟩
  | 66 => ⟨S16x16x1536, .f32⟩
  | 67 => ⟨S16x16x8x192, .f32⟩
  | 68 => ⟨S16x16x8x128, .f32⟩
  | 69 => ⟨S16x16x8x64, .f32⟩
  | 70 => ⟨S32, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S16, .i32⟩
  | 79 => ⟨S_, .i32⟩
  | 80 => ⟨S16, .i32⟩
  | 81 => ⟨S16, .i32⟩
  | 82 => ⟨S16, .f32⟩
  | 83 => ⟨S16x1, .f32⟩
  | 84 => ⟨S1x32, .f32⟩
  | 85 => ⟨S16x32, .f32⟩
  | 86 => ⟨S16x32, .f32⟩
  | 87 => ⟨S16x32, .f32⟩
  | 88 => ⟨S16x32, .f32⟩
  | 89 => ⟨S1x16x1x32, .f32⟩
  | 90 => ⟨S16x32, .f32⟩
  | 91 => ⟨S1x16x1x32, .f32⟩
  | 92 => ⟨S16x16x8x32, .f32⟩
  | 93 => ⟨S16x16x8x32, .f32⟩
  | 94 => ⟨S16x16x8x32, .f32⟩
  | 95 => ⟨S16x16x8x32, .f32⟩
  | 96 => ⟨S16x16x8x32, .f32⟩
  | 97 => ⟨S16x16x8x32, .f32⟩
  | 98 => ⟨S16x16x8x32, .f32⟩
  | 99 => ⟨S16x16x8x32, .f32⟩
  | 100 => ⟨S16x16x8x32, .f32⟩
  | 101 => ⟨S16x16x8x32, .f32⟩
  | 102 => ⟨S16x16x8x32, .f32⟩
  | 103 => ⟨S16x16x8x32, .f32⟩
  | 104 => ⟨S16x16x8x64, .f32⟩
  | 105 => ⟨S_, .f32⟩
  | 106 => ⟨S16x16x8x64, .f32⟩
  | 107 => ⟨S16x16x8x256, .f32⟩
  | 108 => ⟨S512, .f32⟩
  | 109 => ⟨S16x16x512, .f32⟩
  | 110 => ⟨S_, .f32⟩
  | 111 => ⟨S16x16, .f32⟩
  | 112 => ⟨S16x16x1, .f32⟩
  | 113 => ⟨S_, .f32⟩
  | 114 => ⟨S16x16x1, .f32⟩
  | 115 => ⟨S16x16x1, .f32⟩
  | 116 => ⟨S_, .f32⟩
  | 117 => ⟨S16x16x1, .f32⟩
  | 118 => ⟨S16x16x1, .f32⟩
  | 119 => ⟨S16x16x1, .f32⟩
  | 120 => ⟨S16x16x512, .f32⟩
  | 121 => ⟨S16x16x512, .f32⟩
  | 122 => ⟨S1x1x512, .f32⟩
  | 123 => ⟨S16x16x512, .f32⟩
  | 124 => ⟨S16x16x512, .f32⟩
  | 125 => ⟨S16x16x1x64, .f32⟩
  | 126 => ⟨S32, .f32⟩
  | 127 => ⟨S32, .f32⟩
  | _ => ⟨S16x16x2048, .f32⟩

abbrev hbmTy0_1 (i : Nat) : BufTy := match i % 128 with
  | 0 => ⟨S_, .f32⟩
  | 1 => ⟨S32, .f32⟩
  | 2 => ⟨S32, .f32⟩
  | 3 => ⟨S_, .f32⟩
  | 4 => ⟨S32, .f32⟩
  | 5 => ⟨S32, .f32⟩
  | 6 => ⟨S16, .i32⟩
  | 7 => ⟨S_, .i32⟩
  | 8 => ⟨S16, .i32⟩
  | 9 => ⟨S16, .i32⟩
  | 10 => ⟨S16, .f32⟩
  | 11 => ⟨S16x1, .f32⟩
  | 12 => ⟨S1x32, .f32⟩
  | 13 => ⟨S16x32, .f32⟩
  | 14 => ⟨S16x32, .f32⟩
  | 15 => ⟨S16x32, .f32⟩
  | 16 => ⟨S16x32, .f32⟩
  | 17 => ⟨S1x16x1x32, .f32⟩
  | 18 => ⟨S16x32, .f32⟩
  | 19 => ⟨S1x16x1x32, .f32⟩
  | 20 => ⟨S16x16x1x32, .f32⟩
  | 21 => ⟨S16x16x1x32, .f32⟩
  | 22 => ⟨S16x16x1x32, .f32⟩
  | 23 => ⟨S16x16x1x32, .f32⟩
  | 24 => ⟨S16x16x1x32, .f32⟩
  | 25 => ⟨S16x16x1x32, .f32⟩
  | 26 => ⟨S16x16x1x32, .f32⟩
  | 27 => ⟨S16x16x1x32, .f32⟩
  | 28 => ⟨S16x16x1x32, .f32⟩
  | 29 => ⟨S16x16x1x32, .f32⟩
  | 30 => ⟨S16x16x1x32, .f32⟩
  | 31 => ⟨S16x16x1x32, .f32⟩
  | 32 => ⟨S16x16x1x64, .f32⟩
  | 33 => ⟨S16x16x64, .f32⟩
  | 34 => ⟨S16, .f32⟩
  | 35 => ⟨S1x1x16, .f32⟩
  | 36 => ⟨S16x16x16, .f32⟩
  | 37 => ⟨S16x16x16, .f32⟩
  | 38 => ⟨S_, .f32⟩
  | 39 => ⟨S16x16x16, .f32⟩
  | 40 => ⟨S16x16x16, .f32⟩
  | 41 => ⟨S16x16x16, .f32⟩
  | 42 => ⟨S16x16x16, .f32⟩
  | 43 => ⟨S16x16x16, .i1⟩
  | 44 => ⟨S16x16x16, .f32⟩
  | 45 => ⟨S16x16x16, .f32⟩
  | 46 => ⟨S16x16x16, .f32⟩
  | 47 => ⟨S16x16x16, .f32⟩
  | 48 => ⟨S16x16x16, .f32⟩
  | 49 => ⟨S16x16x16, .f32⟩
  | 50 => ⟨S16x16x16, .f32⟩
  | 51 => ⟨S16x16x16, .f32⟩
  | 52 => ⟨S256x2048, .f32⟩
  | 53 => ⟨S256x2048, .bf16⟩
  | 54 => ⟨S256x512, .f32⟩
  | 55 => ⟨S256x64, .f32⟩
  | 56 => ⟨S256x64, .f32⟩
  | 57 => ⟨S_, .i32⟩
  | 58 => ⟨S_, .f32⟩
  | 59 => ⟨S256x128, .f32⟩
  | 60 => ⟨S256x128, .bf16⟩
  | 61 => ⟨S256x1024, .f32⟩
  | 62 => ⟨S256x1024, .bf16⟩
  | 63 => ⟨S256x1536, .f32⟩
  | 64 => ⟨S256x16, .f32⟩
  | 65 => ⟨S_, .i32⟩
  | 66 => ⟨S_, .f32⟩
  | 67 => ⟨S256x128, .f32⟩
  | _ => ⟨S16x16x2048, .f32⟩

abbrev hbmTy (i : Nat) : BufTy := match i / 128 with
  | 0 => hbmTy0_0 i
  | 1 => hbmTy0_1 i
  | _ => ⟨S16x16x2048, .f32⟩

abbrev bufTy : (tb : Table) → Fin (tcTables nBuf tb) → BufTy
  | .hbm, ⟨i, _⟩ => hbmTy i
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_10 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_11 : Ref sig .tc := ⟨.hbm, 110, rfl⟩
abbrev main_v87 : Ref sig .tc := ⟨.hbm, 111, rfl⟩
abbrev main_v88 : Ref sig .tc := ⟨.hbm, 112, rfl⟩
abbrev main_cst_12 : Ref sig .tc := ⟨.hbm, 113, rfl⟩
abbrev main_v89 : Ref sig .tc := ⟨.hbm, 114, rfl⟩
abbrev main_v90 : Ref sig .tc := ⟨.hbm, 115, rfl⟩
abbrev main_cst_13 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_14 : Ref sig .tc := ⟨.hbm, 128, rfl⟩
abbrev main_v102 : Ref sig .tc := ⟨.hbm, 129, rfl⟩
abbrev main_v103 : Ref sig .tc := ⟨.hbm, 130, rfl⟩
abbrev main_cst_15 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_c_16 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_call0_cst : Ref sig .tc := ⟨.hbm, 166, rfl⟩
abbrev main_call0_v0 : Ref sig .tc := ⟨.hbm, 167, rfl⟩
abbrev main_call0_v1 : Ref sig .tc := ⟨.hbm, 168, rfl⟩
abbrev main_call0_v2 : Ref sig .tc := ⟨.hbm, 169, rfl⟩
abbrev main_call0_v3 : Ref sig .tc := ⟨.hbm, 170, rfl⟩
abbrev main_call0_v4 : Ref sig .tc := ⟨.hbm, 171, rfl⟩
abbrev main_call0_v5 : Ref sig .tc := ⟨.hbm, 172, rfl⟩
abbrev main_call0_v6 : Ref sig .tc := ⟨.hbm, 173, rfl⟩
abbrev main_call0_v7 : Ref sig .tc := ⟨.hbm, 174, rfl⟩
abbrev main_call0_v8 : Ref sig .tc := ⟨.hbm, 175, rfl⟩
abbrev main_call0_v9 : Ref sig .tc := ⟨.hbm, 176, rfl⟩
abbrev main_call0_v10 : Ref sig .tc := ⟨.hbm, 177, rfl⟩
abbrev main_call0_v11 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_c_17 : Ref sig .tc := ⟨.hbm, 185, rfl⟩
abbrev main_call1_v0 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_c_18 : Ref sig .tc := ⟨.hbm, 193, rfl⟩
abbrev main_call2_v0 : Ref sig .tc := ⟨.hbm, 194, rfl⟩
abbrev main_v149 : Ref sig .tc := ⟨.hbm, 195, rfl⟩

abbrev nD : Nat := 1
abbrev τ : Topo := Topo.v7x

variable {F : FTy → Type} [FloatOps F]
-- ==== Proof.K.Base.lean ====
module

public import proofs.«01_k».proof.Proof.Gen.Kernel.Launch
public import proofs.«01_k».proof.Proof.Gen.Kernel.Skeleton
public import Idealize.ShloMosaic.Lib.Claim
public import Idealize.ShloMosaic.Lib.Pipeline.Kit
public import Idealize.ShloMosaic.Lib.Pipeline.Frame
public import Idealize.ShloMosaic.Lib.Pipeline.Quiescent
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.PureOps.Ideal
public import Idealize.ShloMosaic.Adequacy
public import Idealize.ShloMosaic.Init

@[expose] public section

set_option maxRecDepth 16384
set_option Elab.async false

/-! The two tables of the attention's schedule, the pipeline at them, and the names the proof uses for its buffers. -/

noncomputable section

namespace Cert.Kernel.Att

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- A block of query rows against one head's largest score, and against its weighted values. -/
abbrev MV := S1024x1.Idx → Elt Bits .f32
abbrev AV := S1024x256.Idx → Elt Bits .f32
abbrev QV := S1x1024x2048.Idx → Elt Bits .bf16
abbrev RV := S1x1024x128.Idx → Elt Bits .bf16
abbrev OV := S1x1024x1024.Idx → Elt Bits .bf16

/-- The tables and the sixteen scratch buffers, whole. -/
abbrev tq : Memref sig .tc .smem S36 .i32 := Memref.whole main_c
abbrev tk : Memref sig .tc .smem S36 .i32 := Memref.whole main_c_0
abbrev sm0 : Memref sig .tc .vmem S1024x1 .f32 := Memref.whole cc0_scratch0
abbrev sm1 : Memref sig .tc .vmem S1024x1 .f32 := Memref.whole cc0_scratch1
abbrev sm2 : Memref sig .tc .vmem S1024x1 .f32 := Memref.whole cc0_scratch2
abbrev sm3 : Memref sig .tc .vmem S1024x1 .f32 := Memref.whole cc0_scratch3
abbrev sm4 : Memref sig .tc .vmem S1024x1 .f32 := Memref.whole cc0_scratch4
abbrev sm5 : Memref sig .tc .vmem S1024x1 .f32 := Memref.whole cc0_scratch5
abbrev sm6 : Memref sig .tc .vmem S1024x1 .f32 := Memref.whole cc0_scratch6
abbrev sm7 : Memref sig .tc .vmem S1024x1 .f32 := Memref.whole cc0_scratch7
abbrev sa0 : Memref sig .tc .vmem S1024x256 .f32 := Memref.whole cc0_scratch8
abbrev sa1 : Memref sig .tc .vmem S1024x256 .f32 := Memref.whole cc0_scratch9
abbrev sa2 : Memref sig .tc .vmem S1024x256 .f32 := Memref.whole cc0_scratch10
abbrev sa3 : Memref sig .tc .vmem S1024x256 .f32 := Memref.whole cc0_scratch11
abbrev sa4 : Memref sig .tc .vmem S1024x256 .f32 := Memref.whole cc0_scratch12
abbrev sa5 : Memref sig .tc .vmem S1024x256 .f32 := Memref.whole cc0_scratch13
abbrev sa6 : Memref sig .tc .vmem S1024x256 .f32 := Memref.whole cc0_scratch14
abbrev sa7 : Memref sig .tc .vmem S1024x256 .f32 := Memref.whole cc0_scratch15

/-- The query block of each of the 36 pairs, and the key block. -/
def qiT : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD (x 0).val 0#32)
def kiT : S36.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD (x 0).val 0#32)

set_option backward.proofsInPublic true in
/-- What the two tables hold, as the pipeline takes them. -/
def pf : pre0.Contents (Elt Bits) := fun
  | ⟨0, _⟩ => qiT
  | ⟨1, _⟩ => kiT

theorem inb0 : ∀ i : grid0.Coords, ∀ a, (cc0_transform_0 k0_off1_inb numel1_S1 pf i a + 1) * S1x1024x2048.size a ≤ S4x8192x2048.size a := by decide +kernel
theorem inb1 : ∀ i : grid0.Coords, ∀ a, (cc0_transform_1 k0_off1_inb numel1_S1 pf i a + 1) * S1x1024x2048.size a ≤ S4x8192x2048.size a := by decide +kernel
theorem inb2 : ∀ i : grid0.Coords, ∀ a, (cc0_transform_2 k0_off1_inb numel1_S1 pf i a + 1) * S1x1024x128.size a ≤ S4x8192x128.size a := by decide +kernel
theorem inb3 : ∀ i : grid0.Coords, ∀ a, (cc0_transform_3 k0_off1_inb numel1_S1 pf i a + 1) * S1x1024x1024.size a ≤ S4x8192x1024.size a := by decide +kernel
theorem pf_ok : ok0 (F := Bits) pf :=
  ⟨fun i => ⟨inb0 i, .inr (Affine.block_words_dvd (s := S4x8192x2048) (p := EltTy.packing .bf16) (by decide) (by decide))⟩,
   fun i => ⟨inb1 i, .inr (Affine.block_words_dvd (s := S4x8192x2048) (p := EltTy.packing .bf16) (by decide) (by decide))⟩,
   fun i => ⟨inb2 i, .inr (Affine.block_words_dvd (s := S4x8192x128) (p := EltTy.packing .bf16) (by decide) (by decide))⟩,
   fun i => ⟨inb3 i, .inr (Affine.block_words_dvd (s := S4x8192x1024) (p := EltTy.packing .bf16) (by decide) (by decide))⟩⟩

/-- The pipeline at those tables. -/
def adm : (pcfg0 (F := Bits)).Adm := ⟨pf, pf_ok⟩
abbrev cfgA : Pipeline.Cfg sig Λ₀ := cfg0 (F := Bits) adm
abbrev pcs : Fin 1 → Pipeline.Cfg sig Λ₀ := Pipeline.pin (pcfgs (F := Bits)) fun _ => adm

abbrev crd (t : Fin cfgA.N) : cfgA.grid.Coords := cfgA.grid.coords t
abbrev ms0 (t : Fin cfgA.N) : Memref sig .tc .vmem S1x1024x2048 .bf16 := spec0_0.stage (cfgA.slots t (0 : Fin 4))
abbrev hs0 (t : Fin cfgA.N) : (ms0 t).IsWhole := hstage0_0 ((cfgA.slots t (0 : Fin 4)).cast nbuf0_0)
abbrev ms1 (t : Fin cfgA.N) : Memref sig .tc .vmem S1x1024x2048 .bf16 := spec0_1.stage (cfgA.slots t (1 : Fin 4))
abbrev hs1 (t : Fin cfgA.N) : (ms1 t).IsWhole := hstage0_1 ((cfgA.slots t (1 : Fin 4)).cast nbuf0_1)
abbrev ms2 (t : Fin cfgA.N) : Memref sig .tc .vmem S1x1024x128 .bf16 := spec0_2.stage (cfgA.slots t (2 : Fin 4))
abbrev hs2 (t : Fin cfgA.N) : (ms2 t).IsWhole := hstage0_2 ((cfgA.slots t (2 : Fin 4)).cast nbuf0_2)
abbrev ms3 (t : Fin cfgA.N) : Memref sig .tc .vmem S1x1024x1024 .bf16 := spec0_3.stage (cfgA.slots t (3 : Fin 4))
abbrev hs3 (t : Fin cfgA.N) : (ms3 t).IsWhole := hstage0_3 ((cfgA.slots t (3 : Fin 4)).cast nbuf0_3)

/-- The word of a table at a grid point. -/
abbrev wq (i : grid0.Coords) (T : S36.Idx → BitVec 32) : BitVec 32 :=
  View.readAt (Elt Bits) tq.view (Rect.unit (s := S36) (k0_off1 i) S1.size (k0_off1_inb i)).toLoadRect T (Shape.Idx.first (numel1_S1.symm ▸ Nat.one_pos))
abbrev wk (i : grid0.Coords) (T : S36.Idx → BitVec 32) : BitVec 32 :=
  View.readAt (Elt Bits) tk.view (Rect.unit (s := S36) (k0_off1 i) S1.size (k0_off1_inb i)).toLoadRect T (Shape.Idx.first (numel1_S1.symm ▸ Nat.one_pos))

/-- The last key block of query block `a`, as the program computes it. -/
abbrev lastOf (a : BitVec 32) : BitVec 32 :=
  Scalar.select (Scalar.andi (Scalar.cmpi .ne (Scalar.subi (Scalar.extui (Scalar.cmpi .sgt (Scalar.subi (Scalar.muli (Scalar.addi a 1#32) 1024#32) 1#32) 0#32)) (Scalar.extui (Scalar.cmpi .slt (Scalar.subi (Scalar.muli (Scalar.addi a 1#32) 1024#32) 1#32) 0#32))) (Scalar.subi (Scalar.extui (Scalar.cmpi .sgt 1024#32 0#32)) (Scalar.extui (Scalar.cmpi .slt 1024#32 0#32)))) (Scalar.cmpi .ne (Scalar.remsi (Scalar.subi (Scalar.muli (Scalar.addi a 1#32) 1024#32) 1#32) 1024#32) 0#32)) (Scalar.subi (Scalar.divsi (Scalar.subi (Scalar.muli (Scalar.addi a 1#32) 1024#32) 1#32) 1024#32) 1#32) (Scalar.divsi (Scalar.subi (Scalar.muli (Scalar.addi a 1#32) 1024#32) 1#32) 1024#32)

/-- Is the key block the first of its row; does the query block go on after it. -/
abbrev isFirst (b : BitVec 32) : Prop := Scalar.cmpi .ne (Scalar.extui (Scalar.cmpi .eq b 0#32)) 0#32 = 1#1
abbrev goesOn (a b : BitVec 32) : Prop := Scalar.cmpi .ne (Scalar.extui (Scalar.cmpi .slt b (lastOf a))) 0#32 = 1#1

/-- The scratch buffers held, one head's largest scores and weighted values after another. -/
def scr (c : Dev nD) (M : Fin 8 → MV) (A : Fin 8 → AV) : sProp 𝕄 :=
  iprop((sm0.view.loc (c : Thread nD τ) ↦{fullShare} M 0) ∗ (sm1.view.loc (c : Thread nD τ) ↦{fullShare} M 1) ∗ (sm2.view.loc (c : Thread nD τ) ↦{fullShare} M 2) ∗ (sm3.view.loc (c : Thread nD τ) ↦{fullShare} M 3) ∗ (sm4.view.loc (c : Thread nD τ) ↦{fullShare} M 4) ∗ (sm5.view.loc (c : Thread nD τ) ↦{fullShare} M 5) ∗ (sm6.view.loc (c : Thread nD τ) ↦{fullShare} M 6) ∗ (sm7.view.loc (c : Thread nD τ) ↦{fullShare} M 7) ∗ (sa0.view.loc (c : Thread nD τ) ↦{fullShare} A 0) ∗ (sa1.view.loc (c : Thread nD τ) ↦{fullShare} A 1) ∗ (sa2.view.loc (c : Thread nD τ) ↦{fullShare} A 2) ∗ (sa3.view.loc (c : Thread nD τ) ↦{fullShare} A 3) ∗ (sa4.view.loc (c : Thread nD τ) ↦{fullShare} A 4) ∗ (sa5.view.loc (c : Thread nD τ) ↦{fullShare} A 5) ∗ (sa6.view.loc (c : Thread nD τ) ↦{fullShare} A 6) ∗ (sa7.view.loc (c : Thread nD τ) ↦{fullShare} A 7))

end Cert.Kernel.Att

end
-- ==== Proof.K.Spec.lean ====
module

public import proofs.«01_k».proof.Proof.K.Base
public import Idealize.ShloMosaic.Lib.VecWindow

@[expose] public section

set_option maxRecDepth 16384
set_option Elab.async false

/-! One head's step at one block of keys, as a function of the blocks: the scores, the largest score so far, the weighted values so far. -/

noncomputable section

namespace Cert.Kernel.Att

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The windows of one head: its columns of the query rows, of the keys and of the values. -/
def qS (x : QV) (h : Fin 8) : Vec Bits S1x1024x256 .bf16 :=
  VecWindow.window x ![0, 0, 256 * h.val] S1x1024x256.size (by intro a; have := h.isLt; fin_cases a <;> simp [S1x1024x256, S1x1024x2048] <;> omega)
def kS (x : QV) (h : Fin 8) : Vec Bits S1x1024x128 .bf16 :=
  VecWindow.window x ![0, 0, 128 * h.val] S1x1024x128.size (by intro a; have := h.isLt; fin_cases a <;> simp [S1x1024x128, S1x1024x2048] <;> omega)
def vS (x : QV) (h : Fin 8) : Vec Bits S1x1024x128 .bf16 :=
  VecWindow.window x ![0, 0, 1024 + 128 * h.val] S1x1024x128.size (by intro a; have := h.isLt; fin_cases a <;> simp [S1x1024x128, S1x1024x2048] <;> omega)

/-- The scores of a block of query rows against a block of keys. -/
def sU (x0 x1 : QV) (x2 : RV) (h : Fin 8) : FVec Bits S1024x1024 .bf16 := k0_pay23 x2 (qS x0 h) (kS x1 h)

/-- Which keys a row may see, on the blocks of numbers `a` and `b`. -/
def allow (a b : BitVec 32) : IVec S1024x1024 1 := k0_pay65 (k0_pay61 (F := Bits) a) (k0_pay62 (F := Bits) b) 64#32 (k0_pay63 (F := Bits) b) (k0_pay64 (F := Bits) b)

/-- The same scores with the keys a row may not see put out. -/
def sM (a b : BitVec 32) (x0 x1 : QV) (x2 : RV) (h : Fin 8) : FVec Bits S1024x1024 .bf16 :=
  select (allow a b) (sU x0 x1 x2 h) (broadcast S1024x1024 (Scalar.truncf .bf16 bitsLt_bf16_f32 (Scalar.ofBits .f32 0xFF800000#32 : Bits .f32)))

/-- The largest score so far. -/
def mN (s : FVec Bits S1024x1024 .bf16) (m : MV) : FVec Bits S1024x1 .f32 :=
  maximumf (F := Bits) (φ := .f32) m (extf .f32 (shapeCast S1024x1 (multiReduction .maximumf [1] S1024 s 0xFF80#16 reduces_S1024x1024_S1024 (.inr rfl) rfl) shapeCasts_S1024_S1024x1) bitsLt_bf16_f32)
def mS (s : FVec Bits S1024x1024 .bf16) (m : MV) : MV := shapeCast S1024x1 (mN s m) shapeCasts_S1024x1_S1024x1

/-- The weighted values so far, and beside them the sum of the weights. -/
def aS (s : FVec Bits S1024x1024 .bf16) (v : Vec Bits S1x1024x128 .bf16) (m : MV) (a : AV) : AV :=
  shapeCast S1024x256
    (addf (F := Bits) (φ := .f32) (mulf (F := Bits) (φ := .f32) (broadcastTo S1024x256 (exp2 (subf (F := Bits) (φ := .f32) m (mN s m))) broadcasts_S1024x1_S1024x256) a)
      (matmul dot_S1024x1024_S1024x256_S1024x256_1_0_0_1_n_n none
        (exp2 (subf s (broadcastTo S1024x1024 (truncf .bf16 (mN s m) bitsLt_bf16_f32) broadcasts_S1024x1_S1024x1024)))
        (concatenate S1024x256 1 [⟨S1024x128, shapeCast S1024x128 v shapeCasts_S1x1024x128_S1024x128⟩, ⟨S1024x128, k0_pay22 (F := Bits)⟩] concatenates_S1024x128_S1024x128_S1024x256_d1)
        (constant S1024x256 .f32 0x00000000#32)))
    shapeCasts_S1024x256_S1024x256

/-- The start: nothing seen, nothing summed. -/
def m00 : MV := k0_pay5 (F := Bits)
def a00 : AV := k0_pay6 (F := Bits)

/-- The rows one head writes. -/
def oH (a : AV) : FVec Bits S1x1024x128 .bf16 := k0_pay116 (F := Bits) a

/-- The rows all heads write, each in its own columns. -/
def outV (A : Fin 8 → AV) : OV := fun y => oH (A ⟨(y 2).val / 128, by have := (y 2).isLt; show _ < 8; change _ < 1024 at this; omega⟩)
  (fun a => match a with
    | ⟨0, _⟩ => y 0
    | ⟨1, _⟩ => y 1
    | ⟨2, _⟩ => (⟨(y 2).val % 128, Nat.mod_lt _ (by decide)⟩ : Fin 128))

section
variable (x0 x1 : QV) (x2 : RV)
theorem rq0 (b : Memref sig .tc .vmem S1x1024x2048 .bf16) (x : QV) (inb) : View.readAt (Elt Bits) b.view (Rect.unit (s := S1x1024x2048) ![0, 0, 0] S1x1024x256.size inb).toLoadRect (b.view.rep x) = qS x 0 :=
  View.readAt_rep_unit _ _ inb (by decide) _
theorem rk0 (b : Memref sig .tc .vmem S1x1024x2048 .bf16) (x : QV) (inb) : View.readAt (Elt Bits) b.view (Rect.unit (s := S1x1024x2048) ![0, 0, 0] S1x1024x128.size inb).toLoadRect (b.view.rep x) = kS x 0 :=
  View.readAt_rep_unit _ _ inb (by decide) _
theorem rv0 (b : Memref sig .tc .vmem S1x1024x2048 .bf16) (x : QV) (inb) : View.readAt (Elt Bits) b.view (Rect.unit (s := S1x1024x2048) ![0, 0, 1024] S1x1024x128.size inb).toLoadRect (b.view.rep x) = vS x 0 :=
  View.readAt_rep_unit _ _ inb (by decide) _
theorem rq1 (b : Memref sig .tc .vmem S1x1024x2048 .bf16) (x : QV) (inb) : View.readAt (Elt Bits) b.view (Rect.unit (s := S1x1024x2048) ![0, 0, 256] S1x1024x256.size inb).toLoadRect (b.view.rep x) = qS x 1 :=
  View.readAt_rep_unit _ _ inb (by decide) _
theorem rk1 (b : Memref sig .tc .vmem S1x1024x2048 .bf16) (x : QV) (inb) : View.readAt (Elt Bits) b.view (Rect.unit (s := S1x1024x2048) ![0, 0, 128] S1x1024x128.size inb).toLoadRect (b.view.rep x) = kS x 1 :=
  View.readAt_rep_unit _ _ inb (by decide) _
theorem rv1 (b : Memref sig .tc .vmem S1x1024x2048 .bf16) (x : QV) (inb) : View.readAt (Elt Bits) b.view (Rect.unit (s := S1x1024x2048) ![0, 0, 1152] S1x1024x128.size inb).toLoadRect (b.view.rep x) = vS x 1 :=
  View.readAt_rep_unit _ _ inb (by decide) _
theorem rq2 (b : Memref sig .tc .vmem S1x1024x2048 .bf16) (x : QV) (inb) : View.readAt (Elt Bits) b.view (Rect.unit (s := S1x1024x2048) ![0, 0, 512] S1x1024x256.size inb).toLoadRect (b.view.rep x) = qS x 2 :=
  View.readAt_rep_unit _ _ inb (by decide) _
theorem rk2 (b : Memref sig .tc .vmem S1x1024x2048 .bf16) (x : QV) (inb) : View.readAt (Elt Bits) b.view (Rect.unit (s := S1x1024x2048) ![0, 0, 256] S1x1024x128.size inb).toLoadRect (b.view.rep x) = kS x 2 :=
  View.readAt_rep_unit _ _ inb (by decide) _
theorem rv2 (b : Memref sig .tc .vmem S1x1024x2048 .bf16) (x : QV) (inb) : View.readAt (Elt Bits) b.view (Rect.unit (s := S1x1024x2048) ![0, 0, 1280] S1x1024x128.size inb).toLoadRect (b.view.rep x) = vS x 2 :=
  View.readAt_rep_unit _ _ inb (by decide) _
theorem rq3 (b : Memref sig .tc .vmem S1x1024x2048 .bf16) (x : QV) (inb) : View.readAt (Elt Bits) b.view (Rect.unit (s := S1x1024x2048) ![0, 0, 768] S1x1024x256.size inb).toLoadRect (b.view.rep x) = qS x 3 :=
  View.readAt_rep_unit _ _ inb (by decide) _
theorem rk3 (b : Memref sig .tc .vmem S1x1024x2048 .bf16) (x : QV) (inb) : View.readAt (Elt Bits) b.view (Rect.unit (s := S1x1024x2048) ![0, 0, 384] S1x1024x128.size inb).toLoadRect (b.view.rep x) = kS x 3 :=
  View.readAt_rep_unit _ _ inb (by decide) _
theorem rv3 (b : Memref sig .tc .vmem S1x1024x2048 .bf16) (x : QV) (inb) : View.readAt (Elt Bits) b.view (Rect.unit (s := S1x1024x2048) ![0, 0, 1408] S1x1024x128.size inb).toLoadRect (b.view.rep x) = vS x 3 :=
  View.readAt_rep_unit _ _ inb (by decide) _
theorem rq4 (b : Memref sig .tc .vmem S1x1024x2048 .bf16) (x : QV) (inb) : View.readAt (Elt Bits) b.view (Rect.unit (s := S1x1024x2048) ![0, 0, 1024] S1x1024x256.size inb).toLoadRect (b.view.rep x) = qS x 4 :=
  View.readAt_rep_unit _ _ inb (by decide) _
theorem rk4 (b : Memref sig .tc .vmem S1x1024x2048 .bf16) (x : QV) (inb) : View.readAt (Elt Bits) b.view (Rect.unit (s := S1x1024x2048) ![0, 0, 512] S1x1024x128.size inb).toLoadRect (b.view.rep x) = kS x 4 :=
  View.readAt_rep_unit _ _ inb (by decide) _
theorem rv4 (b : Memref sig .tc .vmem S1x1024x2048 .bf16) (x : QV) (inb) : View.readAt (Elt Bits) b.view (Rect.unit (s := S1x1024x2048) ![0, 0, 1536] S1x1024x128.size inb).toLoadRect (b.view.rep x) = vS x 4 :=
  View.readAt_rep_unit _ _ inb (by decide) _
theorem rq5 (b : Memref sig .tc .vmem S1x1024x2048 .bf16) (x : QV) (inb) : View.readAt (Elt Bits) b.view (Rect.unit (s := S1x1024x2048) ![0, 0, 1280] S1x1024x256.size inb).toLoadRect (b.view.rep x) = qS x 5 :=
  View.readAt_rep_unit _ _ inb (by decide) _
theorem rk5 (b : Memref sig .tc .vmem S1x1024x2048 .bf16) (x : QV) (inb) : View.readAt (Elt Bits) b.view (Rect.unit (s := S1x1024x2048) ![0, 0, 640] S1x1024x128.size inb).toLoadRect (b.view.rep x) = kS x 5 :=
  View.readAt_rep_unit _ _ inb (by decide) _
theorem rv5 (b : Memref sig .tc .vmem S1x1024x2048 .bf16) (x : QV) (inb) : View.readAt (Elt Bits) b.view (Rect.unit (s := S1x1024x2048) ![0, 0, 1664] S1x1024x128.size inb).toLoadRect (b.view.rep x) = vS x 5 :=
  View.readAt_rep_unit _ _ inb (by decide) _
theorem rq6 (b : Memref sig .tc .vmem S1x1024x2048 .bf16) (x : QV) (inb) : View.readAt (Elt Bits) b.view (Rect.unit (s := S1x1024x2048) ![0, 0, 1536] S1x1024x256.size inb).toLoadRect (b.view.rep x) = qS x 6 :=
  View.readAt_rep_unit _ _ inb (by decide) _
theorem rk6 (b : Memref sig .tc .vmem S1x1024x2048 .bf16) (x : QV) (inb) : View.readAt (Elt Bits) b.view (Rect.unit (s := S1x1024x2048) ![0, 0, 768] S1x1024x128.size inb).toLoadRect (b.view.rep x) = kS x 6 :=
  View.readAt_rep_unit _ _ inb (by decide) _
theorem rv6 (b : Memref sig .tc .vmem S1x1024x2048 .bf16) (x : QV) (inb) : View.readAt (Elt Bits) b.view (Rect.unit (s := S1x1024x2048) ![0, 0, 1792] S1x1024x128.size inb).toLoadRect (b.view.rep x) = vS x 6 :=
  View.readAt_rep_unit _ _ inb (by decide) _
theorem rq7 (b : Memref sig .tc .vmem S1x1024x2048 .bf16) (x : QV) (inb) : View.readAt (Elt Bits) b.view (Rect.unit (s := S1x1024x2048) ![0, 0, 1792] S1x1024x256.size inb).toLoadRect (b.view.rep x) = qS x 7 :=
  View.readAt_rep_unit _ _ inb (by decide) _
theorem rk7 (b : Memref sig .tc .vmem S1x1024x2048 .bf16) (x : QV) (inb) : View.readAt (Elt Bits) b.view (Rect.unit (s := S1x1024x2048) ![0, 0, 896] S1x1024x128.size inb).toLoadRect (b.view.rep x) = kS x 7 :=
  View.readAt_rep_unit _ _ inb (by decide) _
theorem rv7 (b : Memref sig .tc .vmem S1x1024x2048 .bf16) (x : QV) (inb) : View.readAt (Elt Bits) b.view (Rect.unit (s := S1x1024x2048) ![0, 0, 1920] S1x1024x128.size inb).toLoadRect (b.view.rep x) = vS x 7 :=
  View.readAt_rep_unit _ _ inb (by decide) _
theorem rr (b : Memref sig .tc .vmem S1x1024x128 .bf16) (x : RV) (inb) : View.readAt (Elt Bits) b.view (Rect.unit (s := S1x1024x128) ![0, 0, 0] S1x1024x128.size inb).toLoadRect (b.view.rep x) = x :=
  View.readAt_rep_full _ _ inb
end
theorem rm0 (m : MV) (inb) : View.readAt (Elt Bits) sm0.view (Rect.unit (s := S1024x1) ![0, 0] S1024x1.size inb).toLoadRect m = m := View.readAt_full sm0.view m inb
theorem ra0 (m : AV) (inb) : View.readAt (Elt Bits) sa0.view (Rect.unit (s := S1024x256) ![0, 0] S1024x256.size inb).toLoadRect m = m := View.readAt_full sa0.view m inb
theorem cm0 (m : MV) (inb inb') (L) : sm0.view.readCov (Val := Elt Bits) (⟨Rect.unit (s := S1024x1) ![0, 0] S1024x1.size inb', m⟩ :: L) (Rect.unit (s := S1024x1) ![0, 0] S1024x1.size inb).toLoadRect = m := View.readCov_full sm0.view inb inb' m L
theorem ca0 (m : AV) (inb inb') (L) : sa0.view.readCov (Val := Elt Bits) (⟨Rect.unit (s := S1024x256) ![0, 0] S1024x256.size inb', m⟩ :: L) (Rect.unit (s := S1024x256) ![0, 0] S1024x256.size inb).toLoadRect = m := View.readCov_full sa0.view inb inb' m L
theorem rm1 (m : MV) (inb) : View.readAt (Elt Bits) sm1.view (Rect.unit (s := S1024x1) ![0, 0] S1024x1.size inb).toLoadRect m = m := View.readAt_full sm1.view m inb
theorem ra1 (m : AV) (inb) : View.readAt (Elt Bits) sa1.view (Rect.unit (s := S1024x256) ![0, 0] S1024x256.size inb).toLoadRect m = m := View.readAt_full sa1.view m inb
theorem cm1 (m : MV) (inb inb') (L) : sm1.view.readCov (Val := Elt Bits) (⟨Rect.unit (s := S1024x1) ![0, 0] S1024x1.size inb', m⟩ :: L) (Rect.unit (s := S1024x1) ![0, 0] S1024x1.size inb).toLoadRect = m := View.readCov_full sm1.view inb inb' m L
theorem ca1 (m : AV) (inb inb') (L) : sa1.view.readCov (Val := Elt Bits) (⟨Rect.unit (s := S1024x256) ![0, 0] S1024x256.size inb', m⟩ :: L) (Rect.unit (s := S1024x256) ![0, 0] S1024x256.size inb).toLoadRect = m := View.readCov_full sa1.view inb inb' m L
theorem rm2 (m : MV) (inb) : View.readAt (Elt Bits) sm2.view (Rect.unit (s := S1024x1) ![0, 0] S1024x1.size inb).toLoadRect m = m := View.readAt_full sm2.view m inb
theorem ra2 (m : AV) (inb) : View.readAt (Elt Bits) sa2.view (Rect.unit (s := S1024x256) ![0, 0] S1024x256.size inb).toLoadRect m = m := View.readAt_full sa2.view m inb
theorem cm2 (m : MV) (inb inb') (L) : sm2.view.readCov (Val := Elt Bits) (⟨Rect.unit (s := S1024x1) ![0, 0] S1024x1.size inb', m⟩ :: L) (Rect.unit (s := S1024x1) ![0, 0] S1024x1.size inb).toLoadRect = m := View.readCov_full sm2.view inb inb' m L
theorem ca2 (m : AV) (inb inb') (L) : sa2.view.readCov (Val := Elt Bits) (⟨Rect.unit (s := S1024x256) ![0, 0] S1024x256.size inb', m⟩ :: L) (Rect.unit (s := S1024x256) ![0, 0] S1024x256.size inb).toLoadRect = m := View.readCov_full sa2.view inb inb' m L
theorem rm3 (m : MV) (inb) : View.readAt (Elt Bits) sm3.view (Rect.unit (s := S1024x1) ![0, 0] S1024x1.size inb).toLoadRect m = m := View.readAt_full sm3.view m inb
theorem ra3 (m : AV) (inb) : View.readAt (Elt Bits) sa3.view (Rect.unit (s := S1024x256) ![0, 0] S1024x256.size inb).toLoadRect m = m := View.readAt_full sa3.view m inb
theorem cm3 (m : MV) (inb inb') (L) : sm3.view.readCov (Val := Elt Bits) (⟨Rect.unit (s := S1024x1) ![0, 0] S1024x1.size inb', m⟩ :: L) (Rect.unit (s := S1024x1) ![0, 0] S1024x1.size inb).toLoadRect = m := View.readCov_full sm3.view inb inb' m L
theorem ca3 (m : AV) (inb inb') (L) : sa3.view.readCov (Val := Elt Bits) (⟨Rect.unit (s := S1024x256) ![0, 0] S1024x256.size inb', m⟩ :: L) (Rect.unit (s := S1024x256) ![0, 0] S1024x256.size inb).toLoadRect = m := View.readCov_full sa3.view inb inb' m L
theorem rm4 (m : MV) (inb) : View.readAt (Elt Bits) sm4.view (Rect.unit (s := S1024x1) ![0, 0] S1024x1.size inb).toLoadRect m = m := View.readAt_full sm4.view m inb
theorem ra4 (m : AV) (inb) : View.readAt (Elt Bits) sa4.view (Rect.unit (s := S1024x256) ![0, 0] S1024x256.size inb).toLoadRect m = m := View.readAt_full sa4.view m inb
theorem cm4 (m : MV) (inb inb') (L) : sm4.view.readCov (Val := Elt Bits) (⟨Rect.unit (s := S1024x1) ![0, 0] S1024x1.size inb', m⟩ :: L) (Rect.unit (s := S1024x1) ![0, 0] S1024x1.size inb).toLoadRect = m := View.readCov_full sm4.view inb inb' m L
theorem ca4 (m : AV) (inb inb') (L) : sa4.view.readCov (Val := Elt Bits) (⟨Rect.unit (s := S1024x256) ![0, 0] S1024x256.size inb', m⟩ :: L) (Rect.unit (s := S1024x256) ![0, 0] S1024x256.size inb).toLoadRect = m := View.readCov_full sa4.view inb inb' m L
theorem rm5 (m : MV) (inb) : View.readAt (Elt Bits) sm5.view (Rect.unit (s := S1024x1) ![0, 0] S1024x1.size inb).toLoadRect m = m := View.readAt_full sm5.view m inb
theorem ra5 (m : AV) (inb) : View.readAt (Elt Bits) sa5.view (Rect.unit (s := S1024x256) ![0, 0] S1024x256.size inb).toLoadRect m = m := View.readAt_full sa5.view m inb
theorem cm5 (m : MV) (inb inb') (L) : sm5.view.readCov (Val := Elt Bits) (⟨Rect.unit (s := S1024x1) ![0, 0] S1024x1.size inb', m⟩ :: L) (Rect.unit (s := S1024x1) ![0, 0] S1024x1.size inb).toLoadRect = m := View.readCov_full sm5.view inb inb' m L
theorem ca5 (m : AV) (inb inb') (L) : sa5.view.readCov (Val := Elt Bits) (⟨Rect.unit (s := S1024x256) ![0, 0] S1024x256.size inb', m⟩ :: L) (Rect.unit (s := S1024x256) ![0, 0] S1024x256.size inb).toLoadRect = m := View.readCov_full sa5.view inb inb' m L
theorem rm6 (m : MV) (inb) : View.readAt (Elt Bits) sm6.view (Rect.unit (s := S1024x1) ![0, 0] S1024x1.size inb).toLoadRect m = m := View.readAt_full sm6.view m inb
theorem ra6 (m : AV) (inb) : View.readAt (Elt Bits) sa6.view (Rect.unit (s := S1024x256) ![0, 0] S1024x256.size inb).toLoadRect m = m := View.readAt_full sa6.view m inb
theorem cm6 (m : MV) (inb inb') (L) : sm6.view.readCov (Val := Elt Bits) (⟨Rect.unit (s := S1024x1) ![0, 0] S1024x1.size inb', m⟩ :: L) (Rect.unit (s := S1024x1) ![0, 0] S1024x1.size inb).toLoadRect = m := View.readCov_full sm6.view inb inb' m L
theorem ca6 (m : AV) (inb inb') (L) : sa6.view.readCov (Val := Elt Bits) (⟨Rect.unit (s := S1024x256) ![0, 0] S1024x256.size inb', m⟩ :: L) (Rect.unit (s := S1024x256) ![0, 0] S1024x256.size inb).toLoadRect = m := View.readCov_full sa6.view inb inb' m L
theorem rm7 (m : MV) (inb) : View.readAt (Elt Bits) sm7.view (Rect.unit (s := S1024x1) ![0, 0] S1024x1.size inb).toLoadRect m = m := View.readAt_full sm7.view m inb
theorem ra7 (m : AV) (inb) : View.readAt (Elt Bits) sa7.view (Rect.unit (s := S1024x256) ![0, 0] S1024x256.size inb).toLoadRect m = m := View.readAt_full sa7.view m inb
theorem cm7 (m : MV) (inb inb') (L) : sm7.view.readCov (Val := Elt Bits) (⟨Rect.unit (s := S1024x1) ![0, 0] S1024x1.size inb', m⟩ :: L) (Rect.unit (s := S1024x1) ![0, 0] S1024x1.size inb).toLoadRect = m := View.readCov_full sm7.view inb inb' m L
theorem ca7 (m : AV) (inb inb') (L) : sa7.view.readCov (Val := Elt Bits) (⟨Rect.unit (s := S1024x256) ![0, 0] S1024x256.size inb', m⟩ :: L) (Rect.unit (s := S1024x256) ![0, 0] S1024x256.size inb).toLoadRect = m := View.readCov_full sa7.view inb inb' m L
theorem wm0 (m : MV) (f) (inb) (L) : sm0.view.writes (Elt Bits) f (⟨Rect.unit (s := S1024x1) ![0, 0] S1024x1.size inb, m⟩ :: L) = m := by
  have h := View.read_writes_full sm0.view f inb m L
  have h2 : ∀ g : sm0.view.ty.Contents (Elt Bits), sm0.view.read (Elt Bits) g = g := fun g => View.read_whole cc0_scratch0 g
  rw [h2] at h
  exact h
theorem wa0 (m : AV) (f) (inb) (L) : sa0.view.writes (Elt Bits) f (⟨Rect.unit (s := S1024x256) ![0, 0] S1024x256.size inb, m⟩ :: L) = m := by
  have h := View.read_writes_full sa0.view f inb m L
  have h2 : ∀ g : sa0.view.ty.Contents (Elt Bits), sa0.view.read (Elt Bits) g = g := fun g => View.read_whole cc0_scratch8 g
  rw [h2] at h
  exact h
theorem wm1 (m : MV) (f) (inb) (L) : sm1.view.writes (Elt Bits) f (⟨Rect.unit (s := S1024x1) ![0, 0] S1024x1.size inb, m⟩ :: L) = m := by
  have h := View.read_writes_full sm1.view f inb m L
  have h2 : ∀ g : sm1.view.ty.Contents (Elt Bits), sm1.view.read (Elt Bits) g = g := fun g => View.read_whole cc0_scratch1 g
  rw [h2] at h
  exact h
theorem wa1 (m : AV) (f) (inb) (L) : sa1.view.writes (Elt Bits) f (⟨Rect.unit (s := S1024x256) ![0, 0] S1024x256.size inb, m⟩ :: L) = m := by
  have h := View.read_writes_full sa1.view f inb m L
  have h2 : ∀ g : sa1.view.ty.Contents (Elt Bits), sa1.view.read (Elt Bits) g = g := fun g => View.read_whole cc0_scratch9 g
  rw [h2] at h
  exact h
theorem wm2 (m : MV) (f) (inb) (L) : sm2.view.writes (Elt Bits) f (⟨Rect.unit (s := S1024x1) ![0, 0] S1024x1.size inb, m⟩ :: L) = m := by
  have h := View.read_writes_full sm2.view f inb m L
  have h2 : ∀ g : sm2.view.ty.Contents (Elt Bits), sm2.view.read (Elt Bits) g = g := fun g => View.read_whole cc0_scratch2 g
  rw [h2] at h
  exact h
theorem wa2 (m : AV) (f) (inb) (L) : sa2.view.writes (Elt Bits) f (⟨Rect.unit (s := S1024x256) ![0, 0] S1024x256.size inb, m⟩ :: L) = m := by
  have h := View.read_writes_full sa2.view f inb m L
  have h2 : ∀ g : sa2.view.ty.Contents (Elt Bits), sa2.view.read (Elt Bits) g = g := fun g => View.read_whole cc0_scratch10 g
  rw [h2] at h
  exact h
theorem wm3 (m : MV) (f) (inb) (L) : sm3.view.writes (Elt Bits) f (⟨Rect.unit (s := S1024x1) ![0, 0] S1024x1.size inb, m⟩ :: L) = m := by
  have h := View.read_writes_full sm3.view f inb m L
  have h2 : ∀ g : sm3.view.ty.Contents (Elt Bits), sm3.view.read (Elt Bits) g = g := fun g => View.read_whole cc0_scratch3 g
  rw [h2] at h
  exact h
theorem wa3 (m : AV) (f) (inb) (L) : sa3.view.writes (Elt Bits) f (⟨Rect.unit (s := S1024x256) ![0, 0] S1024x256.size inb, m⟩ :: L) = m := by
  have h := View.read_writes_full sa3.view f inb m L
  have h2 : ∀ g : sa3.view.ty.Contents (Elt Bits), sa3.view.read (Elt Bits) g = g := fun g => View.read_whole cc0_scratch11 g
  rw [h2] at h
  exact h
theorem wm4 (m : MV) (f) (inb) (L) : sm4.view.writes (Elt Bits) f (⟨Rect.unit (s := S1024x1) ![0, 0] S1024x1.size inb, m⟩ :: L) = m := by
  have h := View.read_writes_full sm4.view f inb m L
  have h2 : ∀ g : sm4.view.ty.Contents (Elt Bits), sm4.view.read (Elt Bits) g = g := fun g => View.read_whole cc0_scratch4 g
  rw [h2] at h
  exact h
theorem wa4 (m : AV) (f) (inb) (L) : sa4.view.writes (Elt Bits) f (⟨Rect.unit (s := S1024x256) ![0, 0] S1024x256.size inb, m⟩ :: L) = m := by
  have h := View.read_writes_full sa4.view f inb m L
  have h2 : ∀ g : sa4.view.ty.Contents (Elt Bits), sa4.view.read (Elt Bits) g = g := fun g => View.read_whole cc0_scratch12 g
  rw [h2] at h
  exact h
theorem wm5 (m : MV) (f) (inb) (L) : sm5.view.writes (Elt Bits) f (⟨Rect.unit (s := S1024x1) ![0, 0] S1024x1.size inb, m⟩ :: L) = m := by
  have h := View.read_writes_full sm5.view f inb m L
  have h2 : ∀ g : sm5.view.ty.Contents (Elt Bits), sm5.view.read (Elt Bits) g = g := fun g => View.read_whole cc0_scratch5 g
  rw [h2] at h
  exact h
theorem wa5 (m : AV) (f) (inb) (L) : sa5.view.writes (Elt Bits) f (⟨Rect.unit (s := S1024x256) ![0, 0] S1024x256.size inb, m⟩ :: L) = m := by
  have h := View.read_writes_full sa5.view f inb m L
  have h2 : ∀ g : sa5.view.ty.Contents (Elt Bits), sa5.view.read (Elt Bits) g = g := fun g => View.read_whole cc0_scratch13 g
  rw [h2] at h
  exact h
theorem wm6 (m : MV) (f) (inb) (L) : sm6.view.writes (Elt Bits) f (⟨Rect.unit (s := S1024x1) ![0, 0] S1024x1.size inb, m⟩ :: L) = m := by
  have h := View.read_writes_full sm6.view f inb m L
  have h2 : ∀ g : sm6.view.ty.Contents (Elt Bits), sm6.view.read (Elt Bits) g = g := fun g => View.read_whole cc0_scratch6 g
  rw [h2] at h
  exact h
theorem wa6 (m : AV) (f) (inb) (L) : sa6.view.writes (Elt Bits) f (⟨Rect.unit (s := S1024x256) ![0, 0] S1024x256.size inb, m⟩ :: L) = m := by
  have h := View.read_writes_full sa6.view f inb m L
  have h2 : ∀ g : sa6.view.ty.Contents (Elt Bits), sa6.view.read (Elt Bits) g = g := fun g => View.read_whole cc0_scratch14 g
  rw [h2] at h
  exact h
theorem wm7 (m : MV) (f) (inb) (L) : sm7.view.writes (Elt Bits) f (⟨Rect.unit (s := S1024x1) ![0, 0] S1024x1.size inb, m⟩ :: L) = m := by
  have h := View.read_writes_full sm7.view f inb m L
  have h2 : ∀ g : sm7.view.ty.Contents (Elt Bits), sm7.view.read (Elt Bits) g = g := fun g => View.read_whole cc0_scratch7 g
  rw [h2] at h
  exact h
theorem wa7 (m : AV) (f) (inb) (L) : sa7.view.writes (Elt Bits) f (⟨Rect.unit (s := S1024x256) ![0, 0] S1024x256.size inb, m⟩ :: L) = m := by
  have h := View.read_writes_full sa7.view f inb m L
  have h2 : ∀ g : sa7.view.ty.Contents (Elt Bits), sa7.view.read (Elt Bits) g = g := fun g => View.read_whole cc0_scratch15 g
  rw [h2] at h
  exact h

theorem outV_emb (A : Fin 8 → AV) (h : Fin 8) (o : Fin 3 → ℕ) (ho : o = ![0, 0, 128 * h.val]) (inb) (x : S1x1024x128.Idx) :
    oH (A h) x = outV A ((Rect.unit (s := S1x1024x1024) o S1x1024x128.size inb).emb x) := by
  subst ho
  have e2 : ((Rect.unit (s := S1x1024x1024) ![0, 0, 128 * h.val] S1x1024x128.size inb).emb x 2).val = 128 * h.val + 1 * (x 2).val := rfl
  have hx : (x 2).val < 128 := (x 2).isLt
  unfold outV
  congr 1
  · congr 1
    congr 1
    refine Fin.ext ?_
    show h.val = _ / 128
    rw [e2]; omega
  · funext a
    match a with
    | ⟨0, _⟩ => exact Fin.ext (by show (x 0).val = 0 + 1 * (x 0).val; omega)
    | ⟨1, _⟩ => exact Fin.ext (by show (x 1).val = 0 + 1 * (x 1).val; omega)
    | ⟨2, _⟩ => exact Fin.ext (by show (x 2).val = _ % 128; rw [e2]; omega)

/-- The eight heads' stores, read back. -/
theorem out_read (b : Memref sig .tc .vmem S1x1024x1024 .bf16) (f) (A : Fin 8 → AV) (B : Fin 8 → FVec Bits S1x1024x128 .bf16) (hB : ∀ h, B h = oH (A h)) (i0) (i1) (i2) (i3) (i4) (i5) (i6) (i7) :
    b.view.read (Elt Bits) (b.view.writes (Elt Bits) f [⟨Rect.unit (s := S1x1024x1024) ![0, 0, 896] S1x1024x128.size i7, B 7⟩, ⟨Rect.unit (s := S1x1024x1024) ![0, 0, 768] S1x1024x128.size i6, B 6⟩, ⟨Rect.unit (s := S1x1024x1024) ![0, 0, 640] S1x1024x128.size i5, B 5⟩, ⟨Rect.unit (s := S1x1024x1024) ![0, 0, 512] S1x1024x128.size i4, B 4⟩, ⟨Rect.unit (s := S1x1024x1024) ![0, 0, 384] S1x1024x128.size i3, B 3⟩, ⟨Rect.unit (s := S1x1024x1024) ![0, 0, 256] S1x1024x128.size i2, B 2⟩, ⟨Rect.unit (s := S1x1024x1024) ![0, 0, 128] S1x1024x128.size i1, B 1⟩, ⟨Rect.unit (s := S1x1024x1024) ![0, 0, 0] S1x1024x128.size i0, B 0⟩]) = outV A := by
  obtain rfl : B = fun h => oH (A h) := funext hB
  funext y
  refine View.read_writes_apply_of_pieces b.view f (outV A) _ ?_ y (View.cover_of_tiledL (s := S1x1024x1024) _ S1x1024x128.size (by sl_kernel_rfl) y)
  intro p hp
  simp only [List.mem_cons, List.not_mem_nil, or_false] at hp
  rcases hp with rfl | rfl | rfl | rfl | rfl | rfl | rfl | rfl
  · exact fun x => outV_emb A 7 _ (by decide) i7 x
  · exact fun x => outV_emb A 6 _ (by decide) i6 x
  · exact fun x => outV_emb A 5 _ (by decide) i5 x
  · exact fun x => outV_emb A 4 _ (by decide) i4 x
  · exact fun x => outV_emb A 3 _ (by decide) i3 x
  · exact fun x => outV_emb A 2 _ (by decide) i2 x
  · exact fun x => outV_emb A 1 _ (by decide) i1 x
  · exact fun x => outV_emb A 0 _ (by decide) i0 x

/-- Equal contents, held alike. -/
theorem pt_eq {ℓ : Loc nD τ sig} {a b : Buf (Elt Bits) ℓ} (h : a = b) : ((ℓ ↦{fullShare} a : sProp 𝕄)) ⊢ (ℓ ↦{fullShare} b) := h ▸ .rfl

/-- A buffer held at some stores that read as `X` is owned at `X`. -/
theorem own_writes {c : Dev nD} {b : Memref sig .tc .vmem S1x1024x1024 .bf16} {ps : List (View.Piece (Elt Bits) S1x1024x1024 .bf16)} {X : OV}
    (h : ∀ f, b.view.read (Elt Bits) (b.view.writes (Elt Bits) f ps) = X) :
    (iprop(∃ f, b.view.loc (c : Thread nD τ) ↦[b.view.set]{fullShare} b.view.writes (Elt Bits) f ps) : sProp 𝕄) ⊢ owns (c : Thread nD τ) b fullShare X := by
  unfold owns
  iintro ⟨%f, H⟩
  iexists _; isplitr; swap
  · iexact H
  · ipureintro; exact h f

end Cert.Kernel.Att

end
-- ==== Proof.KI.Base.lean ====
module

public import proofs.«01_k».proof.Proof.Gen.KernelIdeal.Launch
public import proofs.«01_k».proof.Proof.Gen.KernelIdeal.Skeleton
public import Idealize.ShloMosaic.Lib.Claim
public import Idealize.ShloMosaic.Lib.Pipeline.Kit
public import Idealize.ShloMosaic.Lib.Pipeline.Frame
public import Idealize.ShloMosaic.Lib.Pipeline.Quiescent
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.PureOps.Ideal
public import Idealize.ShloMosaic.Adequacy
public import Idealize.ShloMosaic.Init

@[expose] public section

set_option maxRecDepth 16384
set_option Elab.async false

/-! The two tables of the attention's schedule, the pipeline at them, and the names the proof uses for its buffers. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- A block of query rows against one head's largest score, and against its weighted values. -/
abbrev MV := S1024x1.Idx → Elt Ideal .f32
abbrev AV := S1024x256.Idx → Elt Ideal .f32
abbrev QV := S1x1024x2048.Idx → Elt Ideal .bf16
abbrev RV := S1x1024x128.Idx → Elt Ideal .bf16
abbrev OV := S1x1024x1024.Idx → Elt Ideal .bf16

/-- The tables and the sixteen scratch buffers, whole. -/
abbrev tq : Memref sig .tc .smem S36 .i32 := Memref.whole main_c
abbrev tk : Memref sig .tc .smem S36 .i32 := Memref.whole main_c_0
abbrev sm0 : Memref sig .tc .vmem S1024x1 .f32 := Memref.whole cc0_scratch0
abbrev sm1 : Memref sig .tc .vmem S1024x1 .f32 := Memref.whole cc0_scratch1
abbrev sm2 : Memref sig .tc .vmem S1024x1 .f32 := Memref.whole cc0_scratch2
abbrev sm3 : Memref sig .tc .vmem S1024x1 .f32 := Memref.whole cc0_scratch3
abbrev sm4 : Memref sig .tc .vmem S1024x1 .f32 := Memref.whole cc0_scratch4
abbrev sm5 : Memref sig .tc .vmem S1024x1 .f32 := Memref.whole cc0_scratch5
abbrev sm6 : Memref sig .tc .vmem S1024x1 .f32 := Memref.whole cc0_scratch6
abbrev sm7 : Memref sig .tc .vmem S1024x1 .f32 := Memref.whole cc0_scratch7
abbrev sa0 : Memref sig .tc .vmem S1024x256 .f32 := Memref.whole cc0_scratch8
abbrev sa1 : Memref sig .tc .vmem S1024x256 .f32 := Memref.whole cc0_scratch9
abbrev sa2 : Memref sig .tc .vmem S1024x256 .f32 := Memref.whole cc0_scratch10
abbrev sa3 : Memref sig .tc .vmem S1024x256 .f32 := Memref.whole cc0_scratch11
abbrev sa4 : Memref sig .tc .vmem S1024x256 .f32 := Memref.whole cc0_scratch12
abbrev sa5 : Memref sig .tc .vmem S1024x256 .f32 := Memref.whole cc0_scratch13
abbrev sa6 : Memref sig .tc .vmem S1024x256 .f32 := Memref.whole cc0_scratch14
abbrev sa7 : Memref sig .tc .vmem S1024x256 .f32 := Memref.whole cc0_scratch15

/-- The query block of each of the 36 pairs, and the key block. -/
def qiT : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD (x 0).val 0#32)
def kiT : S36.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD (x 0).val 0#32)

set_option backward.proofsInPublic true in
/-- What the two tables hold, as the pipeline takes them. -/
def pf : pre0.Contents (Elt Ideal) := fun
  | ⟨0, _⟩ => qiT
  | ⟨1, _⟩ => kiT

theorem inb0 : ∀ i : grid0.Coords, ∀ a, (cc0_transform_0 k0_off1_inb numel1_S1 pf i a + 1) * S1x1024x2048.size a ≤ S4x8192x2048.size a := by decide +kernel
theorem inb1 : ∀ i : grid0.Coords, ∀ a, (cc0_transform_1 k0_off1_inb numel1_S1 pf i a + 1) * S1x1024x2048.size a ≤ S4x8192x2048.size a := by decide +kernel
theorem inb2 : ∀ i : grid0.Coords, ∀ a, (cc0_transform_2 k0_off1_inb numel1_S1 pf i a + 1) * S1x1024x128.size a ≤ S4x8192x128.size a := by decide +kernel
theorem inb3 : ∀ i : grid0.Coords, ∀ a, (cc0_transform_3 k0_off1_inb numel1_S1 pf i a + 1) * S1x1024x1024.size a ≤ S4x8192x1024.size a := by decide +kernel
theorem pf_ok : ok0 (F := Ideal) pf :=
  ⟨fun i => ⟨inb0 i, .inr (Affine.block_words_dvd (s := S4x8192x2048) (p := EltTy.packing .bf16) (by decide) (by decide))⟩,
   fun i => ⟨inb1 i, .inr (Affine.block_words_dvd (s := S4x8192x2048) (p := EltTy.packing .bf16) (by decide) (by decide))⟩,
   fun i => ⟨inb2 i, .inr (Affine.block_words_dvd (s := S4x8192x128) (p := EltTy.packing .bf16) (by decide) (by decide))⟩,
   fun i => ⟨inb3 i, .inr (Affine.block_words_dvd (s := S4x8192x1024) (p := EltTy.packing .bf16) (by decide) (by decide))⟩⟩

/-- The pipeline at those tables. -/
def adm : (pcfg0 (F := Ideal)).Adm := ⟨pf, pf_ok⟩
abbrev cfgA : Pipeline.Cfg sig Λ₀ := cfg0 (F := Ideal) adm
abbrev pcs : Fin 1 → Pipeline.Cfg sig Λ₀ := Pipeline.pin (pcfgs (F := Ideal)) fun _ => adm

abbrev crd (t : Fin cfgA.N) : cfgA.grid.Coords := cfgA.grid.coords t
abbrev ms0 (t : Fin cfgA.N) : Memref sig .tc .vmem S1x1024x2048 .bf16 := spec0_0.stage (cfgA.slots t (0 : Fin 4))
abbrev hs0 (t : Fin cfgA.N) : (ms0 t).IsWhole := hstage0_0 ((cfgA.slots t (0 : Fin 4)).cast nbuf0_0)
abbrev ms1 (t : Fin cfgA.N) : Memref sig .tc .vmem S1x1024x2048 .bf16 := spec0_1.stage (cfgA.slots t (1 : Fin 4))
abbrev hs1 (t : Fin cfgA.N) : (ms1 t).IsWhole := hstage0_1 ((cfgA.slots t (1 : Fin 4)).cast nbuf0_1)
abbrev ms2 (t : Fin cfgA.N) : Memref sig .tc .vmem S1x1024x128 .bf16 := spec0_2.stage (cfgA.slots t (2 : Fin 4))
abbrev hs2 (t : Fin cfgA.N) : (ms2 t).IsWhole := hstage0_2 ((cfgA.slots t (2 : Fin 4)).cast nbuf0_2)
abbrev ms3 (t : Fin cfgA.N) : Memref sig .tc .vmem S1x1024x1024 .bf16 := spec0_3.stage (cfgA.slots t (3 : Fin 4))
abbrev hs3 (t : Fin cfgA.N) : (ms3 t).IsWhole := hstage0_3 ((cfgA.slots t (3 : Fin 4)).cast nbuf0_3)

/-- The word of a table at a grid point. -/
abbrev wq (i : grid0.Coords) (T : S36.Idx → BitVec 32) : BitVec 32 :=
  View.readAt (Elt Ideal) tq.view (Rect.unit (s := S36) (k0_off1 i) S1.size (k0_off1_inb i)).toLoadRect T (Shape.Idx.first (numel1_S1.symm ▸ Nat.one_pos))
abbrev wk (i : grid0.Coords) (T : S36.Idx → BitVec 32) : BitVec 32 :=
  View.readAt (Elt Ideal) tk.view (Rect.unit (s := S36) (k0_off1 i) S1.size (k0_off1_inb i)).toLoadRect T (Shape.Idx.first (numel1_S1.symm ▸ Nat.one_pos))

/-- The last key block of query block `a`, as the program computes it. -/
abbrev lastOf (a : BitVec 32) : BitVec 32 :=
  Scalar.select (Scalar.andi (Scalar.cmpi .ne (Scalar.subi (Scalar.extui (Scalar.cmpi .sgt (Scalar.subi (Scalar.muli (Scalar.addi a 1#32) 1024#32) 1#32) 0#32)) (Scalar.extui (Scalar.cmpi .slt (Scalar.subi (Scalar.muli (Scalar.addi a 1#32) 1024#32) 1#32) 0#32))) (Scalar.subi (Scalar.extui (Scalar.cmpi .sgt 1024#32 0#32)) (Scalar.extui (Scalar.cmpi .slt 1024#32 0#32)))) (Scalar.cmpi .ne (Scalar.remsi (Scalar.subi (Scalar.muli (Scalar.addi a 1#32) 1024#32) 1#32) 1024#32) 0#32)) (Scalar.subi (Scalar.divsi (Scalar.subi (Scalar.muli (Scalar.addi a 1#32) 1024#32) 1#32) 1024#32) 1#32) (Scalar.divsi (Scalar.subi (Scalar.muli (Scalar.addi a 1#32) 1024#32) 1#32) 1024#32)

/-- Is the key block the first of its row; does the query block go on after it. -/
abbrev isFirst (b : BitVec 32) : Prop := Scalar.cmpi .ne (Scalar.extui (Scalar.cmpi .eq b 0#32)) 0#32 = 1#1
abbrev goesOn (a b : BitVec 32) : Prop := Scalar.cmpi .ne (Scalar.extui (Scalar.cmpi .slt b (lastOf a))) 0#32 = 1#1

/-- The scratch buffers held, one head's largest scores and weighted values after another. -/
def scr (c : Dev nD) (M : Fin 8 → MV) (A : Fin 8 → AV) : sProp 𝕄 :=
  iprop((sm0.view.loc (c : Thread nD τ) ↦{fullShare} M 0) ∗ (sm1.view.loc (c : Thread nD τ) ↦{fullShare} M 1) ∗ (sm2.view.loc (c : Thread nD τ) ↦{fullShare} M 2) ∗ (sm3.view.loc (c : Thread nD τ) ↦{fullShare} M 3) ∗ (sm4.view.loc (c : Thread nD τ) ↦{fullShare} M 4) ∗ (sm5.view.loc (c : Thread nD τ) ↦{fullShare} M 5) ∗ (sm6.view.loc (c : Thread nD τ) ↦{fullShare} M 6) ∗ (sm7.view.loc (c : Thread nD τ) ↦{fullShare} M 7) ∗ (sa0.view.loc (c : Thread nD τ) ↦{fullShare} A 0) ∗ (sa1.view.loc (c : Thread nD τ) ↦{fullShare} A 1) ∗ (sa2.view.loc (c : Thread nD τ) ↦{fullShare} A 2) ∗ (sa3.view.loc (c : Thread nD τ) ↦{fullShare} A 3) ∗ (sa4.view.loc (c : Thread nD τ) ↦{fullShare} A 4) ∗ (sa5.view.loc (c : Thread nD τ) ↦{fullShare} A 5) ∗ (sa6.view.loc (c : Thread nD τ) ↦{fullShare} A 6) ∗ (sa7.view.loc (c : Thread nD τ) ↦{fullShare} A 7))

end Cert.KernelIdeal.Att

end
-- ==== Proof.KI.Facts.lean ====
module

public import proofs.«01_k».proof.Proof.KI.Base

@[expose] public section

set_option maxRecDepth 16384
set_option Elab.async false

/-! What the schedule says of each of the 144 points, decided. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- A point starts a row of blocks; the row goes on after it. -/
abbrev isF (t : Fin cfgA.N) : Prop := isFirst (wk (crd t) kiT)
abbrev go (t : Fin cfgA.N) : Prop := goesOn (wq (crd t) qiT) (wk (crd t) kiT)

/-- The first point starts a row; a point either goes on, and then writes nothing and leaves its block, or ends its row, and then writes and sends its block home. -/
abbrev FactsAt (t : Fin cfgA.N) : Prop :=
  (t.val = 0 → isF t)
    ∧ ((go t ∧ ¬k0_cond3 (wq (crd t) qiT) (wk (crd t) kiT) = 1#1 ∧ cfgA.idle (3 : Fin 4) (cfgA.grid.coords t) = true ∧ (cfgA.win (3 : Fin 4)).flush t = false)
      ∨ (¬go t ∧ k0_cond3 (wq (crd t) qiT) (wk (crd t) kiT) = 1#1 ∧ cfgA.idle (3 : Fin 4) (cfgA.grid.coords t) = false ∧ (cfgA.win (3 : Fin 4)).flush t = true))

theorem facts_0 : ∀ t : Fin cfgA.N, 0 ≤ t.val → t.val < 18 → FactsAt t := by decide +kernel
theorem facts_1 : ∀ t : Fin cfgA.N, 18 ≤ t.val → t.val < 36 → FactsAt t := by decide +kernel
theorem facts_2 : ∀ t : Fin cfgA.N, 36 ≤ t.val → t.val < 54 → FactsAt t := by decide +kernel
theorem facts_3 : ∀ t : Fin cfgA.N, 54 ≤ t.val → t.val < 72 → FactsAt t := by decide +kernel
theorem facts_4 : ∀ t : Fin cfgA.N, 72 ≤ t.val → t.val < 90 → FactsAt t := by decide +kernel
theorem facts_5 : ∀ t : Fin cfgA.N, 90 ≤ t.val → t.val < 108 → FactsAt t := by decide +kernel
theorem facts_6 : ∀ t : Fin cfgA.N, 108 ≤ t.val → t.val < 126 → FactsAt t := by decide +kernel
theorem facts_7 : ∀ t : Fin cfgA.N, 126 ≤ t.val → t.val < 144 → FactsAt t := by decide +kernel
theorem facts : ∀ t : Fin cfgA.N, FactsAt t := fun t => by
  have h0 : 0 ≤ t.val := Nat.zero_le _
  rcases Nat.lt_or_ge t.val 18 with h1 | h1; · exact facts_0 t h0 h1
  rcases Nat.lt_or_ge t.val 36 with h2 | h2; · exact facts_1 t h1 h2
  rcases Nat.lt_or_ge t.val 54 with h3 | h3; · exact facts_2 t h2 h3
  rcases Nat.lt_or_ge t.val 72 with h4 | h4; · exact facts_3 t h3 h4
  rcases Nat.lt_or_ge t.val 90 with h5 | h5; · exact facts_4 t h4 h5
  rcases Nat.lt_or_ge t.val 108 with h6 | h6; · exact facts_5 t h5 h6
  rcases Nat.lt_or_ge t.val 126 with h7 | h7; · exact facts_6 t h6 h7
  exact facts_7 t h7 t.isLt

end Cert.KernelIdeal.Att

end
-- ==== Proof.KI.Spec.lean ====
module

public import proofs.«01_k».proof.Proof.KI.Base
public import Idealize.ShloMosaic.Lib.VecWindow

@[expose] public section

set_option maxRecDepth 16384
set_option Elab.async false

/-! One head's step at one block of keys, as a function of the blocks: the scores, the largest score so far, the weighted values so far. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The windows of one head: its columns of the query rows, of the keys and of the values. -/
def qS (x : QV) (h : Fin 8) : Vec Ideal S1x1024x256 .bf16 :=
  VecWindow.window x ![0, 0, 256 * h.val] S1x1024x256.size (by intro a; have := h.isLt; fin_cases a <;> simp [S1x1024x256, S1x1024x2048] <;> omega)
def kS (x : QV) (h : Fin 8) : Vec Ideal S1x1024x128 .bf16 :=
  VecWindow.window x ![0, 0, 128 * h.val] S1x1024x128.size (by intro a; have := h.isLt; fin_cases a <;> simp [S1x1024x128, S1x1024x2048] <;> omega)
def vS (x : QV) (h : Fin 8) : Vec Ideal S1x1024x128 .bf16 :=
  VecWindow.window x ![0, 0, 1024 + 128 * h.val] S1x1024x128.size (by intro a; have := h.isLt; fin_cases a <;> simp [S1x1024x128, S1x1024x2048] <;> omega)

/-- The scores of a block of query rows against a block of keys. -/
def sU (x0 x1 : QV) (x2 : RV) (h : Fin 8) : FVec Ideal S1024x1024 .bf16 := k0_pay23 x2 (qS x0 h) (kS x1 h)

/-- Which keys a row may see, on the blocks of numbers `a` and `b`. -/
def allow (a b : BitVec 32) : IVec S1024x1024 1 := k0_pay65 (k0_pay61 (F := Ideal) a) (k0_pay62 (F := Ideal) b) 64#32 (k0_pay63 (F := Ideal) b) (k0_pay64 (F := Ideal) b)

/-- The same scores with the keys a row may not see put out. -/
def sM (a b : BitVec 32) (x0 x1 : QV) (x2 : RV) (h : Fin 8) : FVec Ideal S1024x1024 .bf16 :=
  select (allow a b) (sU x0 x1 x2 h) (broadcast S1024x1024 (Scalar.truncf .bf16 bitsLt_bf16_f32 (Scalar.ofBits .f32 0xFF800000#32 : Ideal .f32)))

/-- The largest score so far. -/
def mN (s : FVec Ideal S1024x1024 .bf16) (m : MV) : FVec Ideal S1024x1 .f32 :=
  maximumf (F := Ideal) (φ := .f32) m (extf .f32 (shapeCast S1024x1 (multiReduction .maximumf [1] S1024 s 0xFF80#16 reduces_S1024x1024_S1024 (.inr rfl) rfl) shapeCasts_S1024_S1024x1) bitsLt_bf16_f32)
def mS (s : FVec Ideal S1024x1024 .bf16) (m : MV) : MV := shapeCast S1024x1 (mN s m) shapeCasts_S1024x1_S1024x1

/-- The weighted values so far, and beside them the sum of the weights. -/
def aS (s : FVec Ideal S1024x1024 .bf16) (v : Vec Ideal S1x1024x128 .bf16) (m : MV) (a : AV) : AV :=
  shapeCast S1024x256
    (addf (F := Ideal) (φ := .f32) (mulf (F := Ideal) (φ := .f32) (broadcastTo S1024x256 (exp2 (subf (F := Ideal) (φ := .f32) m (mN s m))) broadcasts_S1024x1_S1024x256) a)
      (matmul dot_S1024x1024_S1024x256_S1024x256_1_0_0_1_n_n none
        (exp2 (subf s (broadcastTo S1024x1024 (truncf .bf16 (mN s m) bitsLt_bf16_f32) broadcasts_S1024x1_S1024x1024)))
        (concatenate S1024x256 1 [⟨S1024x128, shapeCast S1024x128 v shapeCasts_S1x1024x128_S1024x128⟩, ⟨S1024x128, k0_pay22 (F := Ideal)⟩] concatenates_S1024x128_S1024x128_S1024x256_d1)
        (constant S1024x256 .f32 0x00000000#32)))
    shapeCasts_S1024x256_S1024x256

/-- The start: nothing seen, nothing summed. -/
def m00 : MV := k0_pay5 (F := Ideal)
def a00 : AV := k0_pay6 (F := Ideal)

/-- The rows one head writes. -/
def oH (a : AV) : FVec Ideal S1x1024x128 .bf16 := k0_pay116 (F := Ideal) a

/-- The rows all heads write, each in its own columns. -/
def outV (A : Fin 8 → AV) : OV := fun y => oH (A ⟨(y 2).val / 128, by have := (y 2).isLt; show _ < 8; change _ < 1024 at this; omega⟩)
  (fun a => match a with
    | ⟨0, _⟩ => y 0
    | ⟨1, _⟩ => y 1
    | ⟨2, _⟩ => (⟨(y 2).val % 128, Nat.mod_lt _ (by decide)⟩ : Fin 128))

section
variable (x0 x1 : QV) (x2 : RV)
theorem rq0 (b : Memref sig .tc .vmem S1x1024x2048 .bf16) (x : QV) (inb) : View.readAt (Elt Ideal) b.view (Rect.unit (s := S1x1024x2048) ![0, 0, 0] S1x1024x256.size inb).toLoadRect (b.view.rep x) = qS x 0 :=
  View.readAt_rep_unit _ _ inb (by decide) _
theorem rk0 (b : Memref sig .tc .vmem S1x1024x2048 .bf16) (x : QV) (inb) : View.readAt (Elt Ideal) b.view (Rect.unit (s := S1x1024x2048) ![0, 0, 0] S1x1024x128.size inb).toLoadRect (b.view.rep x) = kS x 0 :=
  View.readAt_rep_unit _ _ inb (by decide) _
theorem rv0 (b : Memref sig .tc .vmem S1x1024x2048 .bf16) (x : QV) (inb) : View.readAt (Elt Ideal) b.view (Rect.unit (s := S1x1024x2048) ![0, 0, 1024] S1x1024x128.size inb).toLoadRect (b.view.rep x) = vS x 0 :=
  View.readAt_rep_unit _ _ inb (by decide) _
theorem rq1 (b : Memref sig .tc .vmem S1x1024x2048 .bf16) (x : QV) (inb) : View.readAt (Elt Ideal) b.view (Rect.unit (s := S1x1024x2048) ![0, 0, 256] S1x1024x256.size inb).toLoadRect (b.view.rep x) = qS x 1 :=
  View.readAt_rep_unit _ _ inb (by decide) _
theorem rk1 (b : Memref sig .tc .vmem S1x1024x2048 .bf16) (x : QV) (inb) : View.readAt (Elt Ideal) b.view (Rect.unit (s := S1x1024x2048) ![0, 0, 128] S1x1024x128.size inb).toLoadRect (b.view.rep x) = kS x 1 :=
  View.readAt_rep_unit _ _ inb (by decide) _
theorem rv1 (b : Memref sig .tc .vmem S1x1024x2048 .bf16) (x : QV) (inb) : View.readAt (Elt Ideal) b.view (Rect.unit (s := S1x1024x2048) ![0, 0, 1152] S1x1024x128.size inb).toLoadRect (b.view.rep x) = vS x 1 :=
  View.readAt_rep_unit _ _ inb (by decide) _
theorem rq2 (b : Memref sig .tc .vmem S1x1024x2048 .bf16) (x : QV) (inb) : View.readAt (Elt Ideal) b.view (Rect.unit (s := S1x1024x2048) ![0, 0, 512] S1x1024x256.size inb).toLoadRect (b.view.rep x) = qS x 2 :=
  View.readAt_rep_unit _ _ inb (by decide) _
theorem rk2 (b : Memref sig .tc .vmem S1x1024x2048 .bf16) (x : QV) (inb) : View.readAt (Elt Ideal) b.view (Rect.unit (s := S1x1024x2048) ![0, 0, 256] S1x1024x128.size inb).toLoadRect (b.view.rep x) = kS x 2 :=
  View.readAt_rep_unit _ _ inb (by decide) _
theorem rv2 (b : Memref sig .tc .vmem S1x1024x2048 .bf16) (x : QV) (inb) : View.readAt (Elt Ideal) b.view (Rect.unit (s := S1x1024x2048) ![0, 0, 1280] S1x1024x128.size inb).toLoadRect (b.view.rep x) = vS x 2 :=
  View.readAt_rep_unit _ _ inb (by decide) _
theorem rq3 (b : Memref sig .tc .vmem S1x1024x2048 .bf16) (x : QV) (inb) : View.readAt (Elt Ideal) b.view (Rect.unit (s := S1x1024x2048) ![0, 0, 768] S1x1024x256.size inb).toLoadRect (b.view.rep x) = qS x 3 :=
  View.readAt_rep_unit _ _ inb (by decide) _
theorem rk3 (b : Memref sig .tc .vmem S1x1024x2048 .bf16) (x : QV) (inb) : View.readAt (Elt Ideal) b.view (Rect.unit (s := S1x1024x2048) ![0, 0, 384] S1x1024x128.size inb).toLoadRect (b.view.rep x) = kS x 3 :=
  View.readAt_rep_unit _ _ inb (by decide) _
theorem rv3 (b : Memref sig .tc .vmem S1x1024x2048 .bf16) (x : QV) (inb) : View.readAt (Elt Ideal) b.view (Rect.unit (s := S1x1024x2048) ![0, 0, 1408] S1x1024x128.size inb).toLoadRect (b.view.rep x) = vS x 3 :=
  View.readAt_rep_unit _ _ inb (by decide) _
theorem rq4 (b : Memref sig .tc .vmem S1x1024x2048 .bf16) (x : QV) (inb) : View.readAt (Elt Ideal) b.view (Rect.unit (s := S1x1024x2048) ![0, 0, 1024] S1x1024x256.size inb).toLoadRect (b.view.rep x) = qS x 4 :=
  View.readAt_rep_unit _ _ inb (by decide) _
theorem rk4 (b : Memref sig .tc .vmem S1x1024x2048 .bf16) (x : QV) (inb) : View.readAt (Elt Ideal) b.view (Rect.unit (s := S1x1024x2048) ![0, 0, 512] S1x1024x128.size inb).toLoadRect (b.view.rep x) = kS x 4 :=
  View.readAt_rep_unit _ _ inb (by decide) _
theorem rv4 (b : Memref sig .tc .vmem S1x1024x2048 .bf16) (x : QV) (inb) : View.readAt (Elt Ideal) b.view (Rect.unit (s := S1x1024x2048) ![0, 0, 1536] S1x1024x128.size inb).toLoadRect (b.view.rep x) = vS x 4 :=
  View.readAt_rep_unit _ _ inb (by decide) _
theorem rq5 (b : Memref sig .tc .vmem S1x1024x2048 .bf16) (x : QV) (inb) : View.readAt (Elt Ideal) b.view (Rect.unit (s := S1x1024x2048) ![0, 0, 1280] S1x1024x256.size inb).toLoadRect (b.view.rep x) = qS x 5 :=
  View.readAt_rep_unit _ _ inb (by decide) _
theorem rk5 (b : Memref sig .tc .vmem S1x1024x2048 .bf16) (x : QV) (inb) : View.readAt (Elt Ideal) b.view (Rect.unit (s := S1x1024x2048) ![0, 0, 640] S1x1024x128.size inb).toLoadRect (b.view.rep x) = kS x 5 :=
  View.readAt_rep_unit _ _ inb (by decide) _
theorem rv5 (b : Memref sig .tc .vmem S1x1024x2048 .bf16) (x : QV) (inb) : View.readAt (Elt Ideal) b.view (Rect.unit (s := S1x1024x2048) ![0, 0, 1664] S1x1024x128.size inb).toLoadRect (b.view.rep x) = vS x 5 :=
  View.readAt_rep_unit _ _ inb (by decide) _
theorem rq6 (b : Memref sig .tc .vmem S1x1024x2048 .bf16) (x : QV) (inb) : View.readAt (Elt Ideal) b.view (Rect.unit (s := S1x1024x2048) ![0, 0, 1536] S1x1024x256.size inb).toLoadRect (b.view.rep x) = qS x 6 :=
  View.readAt_rep_unit _ _ inb (by decide) _
theorem rk6 (b : Memref sig .tc .vmem S1x1024x2048 .bf16) (x : QV) (inb) : View.readAt (Elt Ideal) b.view (Rect.unit (s := S1x1024x2048) ![0, 0, 768] S1x1024x128.size inb).toLoadRect (b.view.rep x) = kS x 6 :=
  View.readAt_rep_unit _ _ inb (by decide) _
theorem rv6 (b : Memref sig .tc .vmem S1x1024x2048 .bf16) (x : QV) (inb) : View.readAt (Elt Ideal) b.view (Rect.unit (s := S1x1024x2048) ![0, 0, 1792] S1x1024x128.size inb).toLoadRect (b.view.rep x) = vS x 6 :=
  View.readAt_rep_unit _ _ inb (by decide) _
theorem rq7 (b : Memref sig .tc .vmem S1x1024x2048 .bf16) (x : QV) (inb) : View.readAt (Elt Ideal) b.view (Rect.unit (s := S1x1024x2048) ![0, 0, 1792] S1x1024x256.size inb).toLoadRect (b.view.rep x) = qS x 7 :=
  View.readAt_rep_unit _ _ inb (by decide) _
theorem rk7 (b : Memref sig .tc .vmem S1x1024x2048 .bf16) (x : QV) (inb) : View.readAt (Elt Ideal) b.view (Rect.unit (s := S1x1024x2048) ![0, 0, 896] S1x1024x128.size inb).toLoadRect (b.view.rep x) = kS x 7 :=
  View.readAt_rep_unit _ _ inb (by decide) _
theorem rv7 (b : Memref sig .tc .vmem S1x1024x2048 .bf16) (x : QV) (inb) : View.readAt (Elt Ideal) b.view (Rect.unit (s := S1x1024x2048) ![0, 0, 1920] S1x1024x128.size inb).toLoadRect (b.view.rep x) = vS x 7 :=
  View.readAt_rep_unit _ _ inb (by decide) _
theorem rr (b : Memref sig .tc .vmem S1x1024x128 .bf16) (x : RV) (inb) : View.readAt (Elt Ideal) b.view (Rect.unit (s := S1x1024x128) ![0, 0, 0] S1x1024x128.size inb).toLoadRect (b.view.rep x) = x :=
  View.readAt_rep_full _ _ inb
end
theorem rm0 (m : MV) (inb) : View.readAt (Elt Ideal) sm0.view (Rect.unit (s := S1024x1) ![0, 0] S1024x1.size inb).toLoadRect m = m := View.readAt_full sm0.view m inb
theorem ra0 (m : AV) (inb) : View.readAt (Elt Ideal) sa0.view (Rect.unit (s := S1024x256) ![0, 0] S1024x256.size inb).toLoadRect m = m := View.readAt_full sa0.view m inb
theorem cm0 (m : MV) (inb inb') (L) : sm0.view.readCov (Val := Elt Ideal) (⟨Rect.unit (s := S1024x1) ![0, 0] S1024x1.size inb', m⟩ :: L) (Rect.unit (s := S1024x1) ![0, 0] S1024x1.size inb).toLoadRect = m := View.readCov_full sm0.view inb inb' m L
theorem ca0 (m : AV) (inb inb') (L) : sa0.view.readCov (Val := Elt Ideal) (⟨Rect.unit (s := S1024x256) ![0, 0] S1024x256.size inb', m⟩ :: L) (Rect.unit (s := S1024x256) ![0, 0] S1024x256.size inb).toLoadRect = m := View.readCov_full sa0.view inb inb' m L
theorem rm1 (m : MV) (inb) : View.readAt (Elt Ideal) sm1.view (Rect.unit (s := S1024x1) ![0, 0] S1024x1.size inb).toLoadRect m = m := View.readAt_full sm1.view m inb
theorem ra1 (m : AV) (inb) : View.readAt (Elt Ideal) sa1.view (Rect.unit (s := S1024x256) ![0, 0] S1024x256.size inb).toLoadRect m = m := View.readAt_full sa1.view m inb
theorem cm1 (m : MV) (inb inb') (L) : sm1.view.readCov (Val := Elt Ideal) (⟨Rect.unit (s := S1024x1) ![0, 0] S1024x1.size inb', m⟩ :: L) (Rect.unit (s := S1024x1) ![0, 0] S1024x1.size inb).toLoadRect = m := View.readCov_full sm1.view inb inb' m L
theorem ca1 (m : AV) (inb inb') (L) : sa1.view.readCov (Val := Elt Ideal) (⟨Rect.unit (s := S1024x256) ![0, 0] S1024x256.size inb', m⟩ :: L) (Rect.unit (s := S1024x256) ![0, 0] S1024x256.size inb).toLoadRect = m := View.readCov_full sa1.view inb inb' m L
theorem rm2 (m : MV) (inb) : View.readAt (Elt Ideal) sm2.view (Rect.unit (s := S1024x1) ![0, 0] S1024x1.size inb).toLoadRect m = m := View.readAt_full sm2.view m inb
theorem ra2 (m : AV) (inb) : View.readAt (Elt Ideal) sa2.view (Rect.unit (s := S1024x256) ![0, 0] S1024x256.size inb).toLoadRect m = m := View.readAt_full sa2.view m inb
theorem cm2 (m : MV) (inb inb') (L) : sm2.view.readCov (Val := Elt Ideal) (⟨Rect.unit (s := S1024x1) ![0, 0] S1024x1.size inb', m⟩ :: L) (Rect.unit (s := S1024x1) ![0, 0] S1024x1.size inb).toLoadRect = m := View.readCov_full sm2.view inb inb' m L
theorem ca2 (m : AV) (inb inb') (L) : sa2.view.readCov (Val := Elt Ideal) (⟨Rect.unit (s := S1024x256) ![0, 0] S1024x256.size inb', m⟩ :: L) (Rect.unit (s := S1024x256) ![0, 0] S1024x256.size inb).toLoadRect = m := View.readCov_full sa2.view inb inb' m L
theorem rm3 (m : MV) (inb) : View.readAt (Elt Ideal) sm3.view (Rect.unit (s := S1024x1) ![0, 0] S1024x1.size inb).toLoadRect m = m := View.readAt_full sm3.view m inb
theorem ra3 (m : AV) (inb) : View.readAt (Elt Ideal) sa3.view (Rect.unit (s := S1024x256) ![0, 0] S1024x256.size inb).toLoadRect m = m := View.readAt_full sa3.view m inb
theorem cm3 (m : MV) (inb inb') (L) : sm3.view.readCov (Val := Elt Ideal) (⟨Rect.unit (s := S1024x1) ![0, 0] S1024x1.size inb', m⟩ :: L) (Rect.unit (s := S1024x1) ![0, 0] S1024x1.size inb).toLoadRect = m := View.readCov_full sm3.view inb inb' m L
theorem ca3 (m : AV) (inb inb') (L) : sa3.view.readCov (Val := Elt Ideal) (⟨Rect.unit (s := S1024x256) ![0, 0] S1024x256.size inb', m⟩ :: L) (Rect.unit (s := S1024x256) ![0, 0] S1024x256.size inb).toLoadRect = m := View.readCov_full sa3.view inb inb' m L
theorem rm4 (m : MV) (inb) : View.readAt (Elt Ideal) sm4.view (Rect.unit (s := S1024x1) ![0, 0] S1024x1.size inb).toLoadRect m = m := View.readAt_full sm4.view m inb
theorem ra4 (m : AV) (inb) : View.readAt (Elt Ideal) sa4.view (Rect.unit (s := S1024x256) ![0, 0] S1024x256.size inb).toLoadRect m = m := View.readAt_full sa4.view m inb
theorem cm4 (m : MV) (inb inb') (L) : sm4.view.readCov (Val := Elt Ideal) (⟨Rect.unit (s := S1024x1) ![0, 0] S1024x1.size inb', m⟩ :: L) (Rect.unit (s := S1024x1) ![0, 0] S1024x1.size inb).toLoadRect = m := View.readCov_full sm4.view inb inb' m L
theorem ca4 (m : AV) (inb inb') (L) : sa4.view.readCov (Val := Elt Ideal) (⟨Rect.unit (s := S1024x256) ![0, 0] S1024x256.size inb', m⟩ :: L) (Rect.unit (s := S1024x256) ![0, 0] S1024x256.size inb).toLoadRect = m := View.readCov_full sa4.view inb inb' m L
theorem rm5 (m : MV) (inb) : View.readAt (Elt Ideal) sm5.view (Rect.unit (s := S1024x1) ![0, 0] S1024x1.size inb).toLoadRect m = m := View.readAt_full sm5.view m inb
theorem ra5 (m : AV) (inb) : View.readAt (Elt Ideal) sa5.view (Rect.unit (s := S1024x256) ![0, 0] S1024x256.size inb).toLoadRect m = m := View.readAt_full sa5.view m inb
theorem cm5 (m : MV) (inb inb') (L) : sm5.view.readCov (Val := Elt Ideal) (⟨Rect.unit (s := S1024x1) ![0, 0] S1024x1.size inb', m⟩ :: L) (Rect.unit (s := S1024x1) ![0, 0] S1024x1.size inb).toLoadRect = m := View.readCov_full sm5.view inb inb' m L
theorem ca5 (m : AV) (inb inb') (L) : sa5.view.readCov (Val := Elt Ideal) (⟨Rect.unit (s := S1024x256) ![0, 0] S1024x256.size inb', m⟩ :: L) (Rect.unit (s := S1024x256) ![0, 0] S1024x256.size inb).toLoadRect = m := View.readCov_full sa5.view inb inb' m L
theorem rm6 (m : MV) (inb) : View.readAt (Elt Ideal) sm6.view (Rect.unit (s := S1024x1) ![0, 0] S1024x1.size inb).toLoadRect m = m := View.readAt_full sm6.view m inb
theorem ra6 (m : AV) (inb) : View.readAt (Elt Ideal) sa6.view (Rect.unit (s := S1024x256) ![0, 0] S1024x256.size inb).toLoadRect m = m := View.readAt_full sa6.view m inb
theorem cm6 (m : MV) (inb inb') (L) : sm6.view.readCov (Val := Elt Ideal) (⟨Rect.unit (s := S1024x1) ![0, 0] S1024x1.size inb', m⟩ :: L) (Rect.unit (s := S1024x1) ![0, 0] S1024x1.size inb).toLoadRect = m := View.readCov_full sm6.view inb inb' m L
theorem ca6 (m : AV) (inb inb') (L) : sa6.view.readCov (Val := Elt Ideal) (⟨Rect.unit (s := S1024x256) ![0, 0] S1024x256.size inb', m⟩ :: L) (Rect.unit (s := S1024x256) ![0, 0] S1024x256.size inb).toLoadRect = m := View.readCov_full sa6.view inb inb' m L
theorem rm7 (m : MV) (inb) : View.readAt (Elt Ideal) sm7.view (Rect.unit (s := S1024x1) ![0, 0] S1024x1.size inb).toLoadRect m = m := View.readAt_full sm7.view m inb
theorem ra7 (m : AV) (inb) : View.readAt (Elt Ideal) sa7.view (Rect.unit (s := S1024x256) ![0, 0] S1024x256.size inb).toLoadRect m = m := View.readAt_full sa7.view m inb
theorem cm7 (m : MV) (inb inb') (L) : sm7.view.readCov (Val := Elt Ideal) (⟨Rect.unit (s := S1024x1) ![0, 0] S1024x1.size inb', m⟩ :: L) (Rect.unit (s := S1024x1) ![0, 0] S1024x1.size inb).toLoadRect = m := View.readCov_full sm7.view inb inb' m L
theorem ca7 (m : AV) (inb inb') (L) : sa7.view.readCov (Val := Elt Ideal) (⟨Rect.unit (s := S1024x256) ![0, 0] S1024x256.size inb', m⟩ :: L) (Rect.unit (s := S1024x256) ![0, 0] S1024x256.size inb).toLoadRect = m := View.readCov_full sa7.view inb inb' m L
theorem wm0 (m : MV) (f) (inb) (L) : sm0.view.writes (Elt Ideal) f (⟨Rect.unit (s := S1024x1) ![0, 0] S1024x1.size inb, m⟩ :: L) = m := by
  have h := View.read_writes_full sm0.view f inb m L
  have h2 : ∀ g : sm0.view.ty.Contents (Elt Ideal), sm0.view.read (Elt Ideal) g = g := fun g => View.read_whole cc0_scratch0 g
  rw [h2] at h
  exact h
theorem wa0 (m : AV) (f) (inb) (L) : sa0.view.writes (Elt Ideal) f (⟨Rect.unit (s := S1024x256) ![0, 0] S1024x256.size inb, m⟩ :: L) = m := by
  have h := View.read_writes_full sa0.view f inb m L
  have h2 : ∀ g : sa0.view.ty.Contents (Elt Ideal), sa0.view.read (Elt Ideal) g = g := fun g => View.read_whole cc0_scratch8 g
  rw [h2] at h
  exact h
theorem wm1 (m : MV) (f) (inb) (L) : sm1.view.writes (Elt Ideal) f (⟨Rect.unit (s := S1024x1) ![0, 0] S1024x1.size inb, m⟩ :: L) = m := by
  have h := View.read_writes_full sm1.view f inb m L
  have h2 : ∀ g : sm1.view.ty.Contents (Elt Ideal), sm1.view.read (Elt Ideal) g = g := fun g => View.read_whole cc0_scratch1 g
  rw [h2] at h
  exact h
theorem wa1 (m : AV) (f) (inb) (L) : sa1.view.writes (Elt Ideal) f (⟨Rect.unit (s := S1024x256) ![0, 0] S1024x256.size inb, m⟩ :: L) = m := by
  have h := View.read_writes_full sa1.view f inb m L
  have h2 : ∀ g : sa1.view.ty.Contents (Elt Ideal), sa1.view.read (Elt Ideal) g = g := fun g => View.read_whole cc0_scratch9 g
  rw [h2] at h
  exact h
theorem wm2 (m : MV) (f) (inb) (L) : sm2.view.writes (Elt Ideal) f (⟨Rect.unit (s := S1024x1) ![0, 0] S1024x1.size inb, m⟩ :: L) = m := by
  have h := View.read_writes_full sm2.view f inb m L
  have h2 : ∀ g : sm2.view.ty.Contents (Elt Ideal), sm2.view.read (Elt Ideal) g = g := fun g => View.read_whole cc0_scratch2 g
  rw [h2] at h
  exact h
theorem wa2 (m : AV) (f) (inb) (L) : sa2.view.writes (Elt Ideal) f (⟨Rect.unit (s := S1024x256) ![0, 0] S1024x256.size inb, m⟩ :: L) = m := by
  have h := View.read_writes_full sa2.view f inb m L
  have h2 : ∀ g : sa2.view.ty.Contents (Elt Ideal), sa2.view.read (Elt Ideal) g = g := fun g => View.read_whole cc0_scratch10 g
  rw [h2] at h
  exact h
theorem wm3 (m : MV) (f) (inb) (L) : sm3.view.writes (Elt Ideal) f (⟨Rect.unit (s := S1024x1) ![0, 0] S1024x1.size inb, m⟩ :: L) = m := by
  have h := View.read_writes_full sm3.view f inb m L
  have h2 : ∀ g : sm3.view.ty.Contents (Elt Ideal), sm3.view.read (Elt Ideal) g = g := fun g => View.read_whole cc0_scratch3 g
  rw [h2] at h
  exact h
theorem wa3 (m : AV) (f) (inb) (L) : sa3.view.writes (Elt Ideal) f (⟨Rect.unit (s := S1024x256) ![0, 0] S1024x256.size inb, m⟩ :: L) = m := by
  have h := View.read_writes_full sa3.view f inb m L
  have h2 : ∀ g : sa3.view.ty.Contents (Elt Ideal), sa3.view.read (Elt Ideal) g = g := fun g => View.read_whole cc0_scratch11 g
  rw [h2] at h
  exact h
theorem wm4 (m : MV) (f) (inb) (L) : sm4.view.writes (Elt Ideal) f (⟨Rect.unit (s := S1024x1) ![0, 0] S1024x1.size inb, m⟩ :: L) = m := by
  have h := View.read_writes_full sm4.view f inb m L
  have h2 : ∀ g : sm4.view.ty.Contents (Elt Ideal), sm4.view.read (Elt Ideal) g = g := fun g => View.read_whole cc0_scratch4 g
  rw [h2] at h
  exact h
theorem wa4 (m : AV) (f) (inb) (L) : sa4.view.writes (Elt Ideal) f (⟨Rect.unit (s := S1024x256) ![0, 0] S1024x256.size inb, m⟩ :: L) = m := by
  have h := View.read_writes_full sa4.view f inb m L
  have h2 : ∀ g : sa4.view.ty.Contents (Elt Ideal), sa4.view.read (Elt Ideal) g = g := fun g => View.read_whole cc0_scratch12 g
  rw [h2] at h
  exact h
theorem wm5 (m : MV) (f) (inb) (L) : sm5.view.writes (Elt Ideal) f (⟨Rect.unit (s := S1024x1) ![0, 0] S1024x1.size inb, m⟩ :: L) = m := by
  have h := View.read_writes_full sm5.view f inb m L
  have h2 : ∀ g : sm5.view.ty.Contents (Elt Ideal), sm5.view.read (Elt Ideal) g = g := fun g => View.read_whole cc0_scratch5 g
  rw [h2] at h
  exact h
theorem wa5 (m : AV) (f) (inb) (L) : sa5.view.writes (Elt Ideal) f (⟨Rect.unit (s := S1024x256) ![0, 0] S1024x256.size inb, m⟩ :: L) = m := by
  have h := View.read_writes_full sa5.view f inb m L
  have h2 : ∀ g : sa5.view.ty.Contents (Elt Ideal), sa5.view.read (Elt Ideal) g = g := fun g => View.read_whole cc0_scratch13 g
  rw [h2] at h
  exact h
theorem wm6 (m : MV) (f) (inb) (L) : sm6.view.writes (Elt Ideal) f (⟨Rect.unit (s := S1024x1) ![0, 0] S1024x1.size inb, m⟩ :: L) = m := by
  have h := View.read_writes_full sm6.view f inb m L
  have h2 : ∀ g : sm6.view.ty.Contents (Elt Ideal), sm6.view.read (Elt Ideal) g = g := fun g => View.read_whole cc0_scratch6 g
  rw [h2] at h
  exact h
theorem wa6 (m : AV) (f) (inb) (L) : sa6.view.writes (Elt Ideal) f (⟨Rect.unit (s := S1024x256) ![0, 0] S1024x256.size inb, m⟩ :: L) = m := by
  have h := View.read_writes_full sa6.view f inb m L
  have h2 : ∀ g : sa6.view.ty.Contents (Elt Ideal), sa6.view.read (Elt Ideal) g = g := fun g => View.read_whole cc0_scratch14 g
  rw [h2] at h
  exact h
theorem wm7 (m : MV) (f) (inb) (L) : sm7.view.writes (Elt Ideal) f (⟨Rect.unit (s := S1024x1) ![0, 0] S1024x1.size inb, m⟩ :: L) = m := by
  have h := View.read_writes_full sm7.view f inb m L
  have h2 : ∀ g : sm7.view.ty.Contents (Elt Ideal), sm7.view.read (Elt Ideal) g = g := fun g => View.read_whole cc0_scratch7 g
  rw [h2] at h
  exact h
theorem wa7 (m : AV) (f) (inb) (L) : sa7.view.writes (Elt Ideal) f (⟨Rect.unit (s := S1024x256) ![0, 0] S1024x256.size inb, m⟩ :: L) = m := by
  have h := View.read_writes_full sa7.view f inb m L
  have h2 : ∀ g : sa7.view.ty.Contents (Elt Ideal), sa7.view.read (Elt Ideal) g = g := fun g => View.read_whole cc0_scratch15 g
  rw [h2] at h
  exact h

theorem outV_emb (A : Fin 8 → AV) (h : Fin 8) (o : Fin 3 → ℕ) (ho : o = ![0, 0, 128 * h.val]) (inb) (x : S1x1024x128.Idx) :
    oH (A h) x = outV A ((Rect.unit (s := S1x1024x1024) o S1x1024x128.size inb).emb x) := by
  subst ho
  have e2 : ((Rect.unit (s := S1x1024x1024) ![0, 0, 128 * h.val] S1x1024x128.size inb).emb x 2).val = 128 * h.val + 1 * (x 2).val := rfl
  have hx : (x 2).val < 128 := (x 2).isLt
  unfold outV
  congr 1
  · congr 1
    congr 1
    refine Fin.ext ?_
    show h.val = _ / 128
    rw [e2]; omega
  · funext a
    match a with
    | ⟨0, _⟩ => exact Fin.ext (by show (x 0).val = 0 + 1 * (x 0).val; omega)
    | ⟨1, _⟩ => exact Fin.ext (by show (x 1).val = 0 + 1 * (x 1).val; omega)
    | ⟨2, _⟩ => exact Fin.ext (by show (x 2).val = _ % 128; rw [e2]; omega)

/-- The eight heads' stores, read back. -/
theorem out_read (b : Memref sig .tc .vmem S1x1024x1024 .bf16) (f) (A : Fin 8 → AV) (B : Fin 8 → FVec Ideal S1x1024x128 .bf16) (hB : ∀ h, B h = oH (A h)) (i0) (i1) (i2) (i3) (i4) (i5) (i6) (i7) :
    b.view.read (Elt Ideal) (b.view.writes (Elt Ideal) f [⟨Rect.unit (s := S1x1024x1024) ![0, 0, 896] S1x1024x128.size i7, B 7⟩, ⟨Rect.unit (s := S1x1024x1024) ![0, 0, 768] S1x1024x128.size i6, B 6⟩, ⟨Rect.unit (s := S1x1024x1024) ![0, 0, 640] S1x1024x128.size i5, B 5⟩, ⟨Rect.unit (s := S1x1024x1024) ![0, 0, 512] S1x1024x128.size i4, B 4⟩, ⟨Rect.unit (s := S1x1024x1024) ![0, 0, 384] S1x1024x128.size i3, B 3⟩, ⟨Rect.unit (s := S1x1024x1024) ![0, 0, 256] S1x1024x128.size i2, B 2⟩, ⟨Rect.unit (s := S1x1024x1024) ![0, 0, 128] S1x1024x128.size i1, B 1⟩, ⟨Rect.unit (s := S1x1024x1024) ![0, 0, 0] S1x1024x128.size i0, B 0⟩]) = outV A := by
  obtain rfl : B = fun h => oH (A h) := funext hB
  funext y
  refine View.read_writes_apply_of_pieces b.view f (outV A) _ ?_ y (View.cover_of_tiledL (s := S1x1024x1024) _ S1x1024x128.size (by sl_kernel_rfl) y)
  intro p hp
  simp only [List.mem_cons, List.not_mem_nil, or_false] at hp
  rcases hp with rfl | rfl | rfl | rfl | rfl | rfl | rfl | rfl
  · exact fun x => outV_emb A 7 _ (by decide) i7 x
  · exact fun x => outV_emb A 6 _ (by decide) i6 x
  · exact fun x => outV_emb A 5 _ (by decide) i5 x
  · exact fun x => outV_emb A 4 _ (by decide) i4 x
  · exact fun x => outV_emb A 3 _ (by decide) i3 x
  · exact fun x => outV_emb A 2 _ (by decide) i2 x
  · exact fun x => outV_emb A 1 _ (by decide) i1 x
  · exact fun x => outV_emb A 0 _ (by decide) i0 x

/-- Equal contents, held alike. -/
theorem pt_eq {ℓ : Loc nD τ sig} {a b : Buf (Elt Ideal) ℓ} (h : a = b) : ((ℓ ↦{fullShare} a : sProp 𝕄)) ⊢ (ℓ ↦{fullShare} b) := h ▸ .rfl

/-- A buffer held at some stores that read as `X` is owned at `X`. -/
theorem own_writes {c : Dev nD} {b : Memref sig .tc .vmem S1x1024x1024 .bf16} {ps : List (View.Piece (Elt Ideal) S1x1024x1024 .bf16)} {X : OV}
    (h : ∀ f, b.view.read (Elt Ideal) (b.view.writes (Elt Ideal) f ps) = X) :
    (iprop(∃ f, b.view.loc (c : Thread nD τ) ↦[b.view.set]{fullShare} b.view.writes (Elt Ideal) f ps) : sProp 𝕄) ⊢ owns (c : Thread nD τ) b fullShare X := by
  unfold owns
  iintro ⟨%f, H⟩
  iexists _; isplitr; swap
  · iexact H
  · ipureintro; exact h f

end Cert.KernelIdeal.Att

end
-- ==== Proof.KI.RunA.lean ====
module

public import proofs.«01_k».proof.Proof.KI.Base

@[expose] public section

set_option maxRecDepth 16384
set_option Elab.async false

/-! One grid point's body, run on each of its four ways through. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The body at a point on given buffers. -/
abbrev bodyOn (i : grid0.Coords) (b4 : Memref sig .tc .vmem S1x1024x2048 .bf16) (h4 : b4.IsWhole) (b5 : Memref sig .tc .vmem S1x1024x2048 .bf16) (h5 : b5.IsWhole)
    (b6 : Memref sig .tc .vmem S1x1024x128 .bf16) (h6 : b6.IsWhole) (b7 : Memref sig .tc .vmem S1x1024x1024 .bf16) (h7 : b7.IsWhole) : Prog (TpuEff nD τ sig (Elt Ideal) Λ₀ .tc) PUnit :=
  cc0_attn_prompt i tq (Memref.isWhole_whole _) tk (Memref.isWhole_whole _) b4 h4 b5 h5 b6 h6 b7 h7 sm0 (Memref.isWhole_whole _) sm1 (Memref.isWhole_whole _) sm2 (Memref.isWhole_whole _) sm3 (Memref.isWhole_whole _) sm4 (Memref.isWhole_whole _) sm5 (Memref.isWhole_whole _) sm6 (Memref.isWhole_whole _) sm7 (Memref.isWhole_whole _) sa0 (Memref.isWhole_whole _) sa1 (Memref.isWhole_whole _) sa2 (Memref.isWhole_whole _) sa3 (Memref.isWhole_whole _) sa4 (Memref.isWhole_whole _) sa5 (Memref.isWhole_whole _) sa6 (Memref.isWhole_whole _) sa7 (Memref.isWhole_whole _)

variable (c : Dev nD) (i : grid0.Coords) (b4 : Memref sig .tc .vmem S1x1024x2048 .bf16) (h4 : b4.IsWhole) (b5 : Memref sig .tc .vmem S1x1024x2048 .bf16) (h5 : b5.IsWhole)
    (b6 : Memref sig .tc .vmem S1x1024x128 .bf16) (h6 : b6.IsWhole) (b7 : Memref sig .tc .vmem S1x1024x1024 .bf16) (h7 : b7.IsWhole) (Tq Tk : S36.Idx → BitVec 32)

/-- The inputs' blocks and the tables, held. -/
def ins (x0 x1 : QV) (x2 : RV) : sProp 𝕄 :=
  iprop((b4.view.loc (c : Thread nD τ) ↦[b4.view.set]{fullShare} b4.view.rep x0) ∗ (b5.view.loc (c : Thread nD τ) ↦[b5.view.set]{fullShare} b5.view.rep x1)
    ∗ (b6.view.loc (c : Thread nD τ) ↦[b6.view.set]{fullShare} b6.view.rep x2) ∗ (tq.view.loc (c : Thread nD τ) ↦{fullShare.right} Tq) ∗ (tk.view.loc (c : Thread nD τ) ↦{fullShare.right} Tk))

set_option backward.proofsInPublic true in
set_option maxHeartbeats 8000000 in
/-- The first key block, which is also the last: the heads start, the block is met with the mask, the rows are written. -/
def runA (x0 x1 : QV) (x2 : RV) (hc0 : isFirst (wk i Tk)) (hc1 : ¬goesOn (wq i Tq) (wk i Tk))
    (hc2 : k0_cond3 (wq i Tq) (wk i Tk) = 1#1) :
    Σ' (ps : List (View.Piece (Elt Ideal) S1x1024x1024 .bf16)) (m0 : MV) (m1 : MV) (m2 : MV) (m3 : MV) (m4 : MV) (m5 : MV) (m6 : MV) (m7 : MV) (a0 : AV) (a1 : AV) (a2 : AV) (a3 : AV) (a4 : AV) (a5 : AV) (a6 : AV), { b7' : AV // ∀ (M : Fin 8 → MV) (A : Fin 8 → AV) (K : PUnit → sProp 𝕄),
      iprop(ins c b4 b5 b6 Tq Tk x0 x1 x2 ∗ (∃ d, owns (c : Thread nD τ) b7 fullShare d) ∗ scr c M A
        ∗ (iprop(ins c b4 b5 b6 Tq Tk x0 x1 x2 ∗ (∃ f, b7.view.loc (c : Thread nD τ) ↦[b7.view.set]{fullShare} b7.view.writes (Elt Ideal) f ps) ∗ (sm0.view.loc (c : Thread nD τ) ↦{fullShare} m0) ∗ (sm1.view.loc (c : Thread nD τ) ↦{fullShare} m1) ∗ (sm2.view.loc (c : Thread nD τ) ↦{fullShare} m2) ∗ (sm3.view.loc (c : Thread nD τ) ↦{fullShare} m3) ∗ (sm4.view.loc (c : Thread nD τ) ↦{fullShare} m4) ∗ (sm5.view.loc (c : Thread nD τ) ↦{fullShare} m5) ∗ (sm6.view.loc (c : Thread nD τ) ↦{fullShare} m6) ∗ (sm7.view.loc (c : Thread nD τ) ↦{fullShare} m7) ∗ (sa0.view.loc (c : Thread nD τ) ↦{fullShare} a0) ∗ (sa1.view.loc (c : Thread nD τ) ↦{fullShare} a1) ∗ (sa2.view.loc (c : Thread nD τ) ↦{fullShare} a2) ∗ (sa3.view.loc (c : Thread nD τ) ↦{fullShare} a3) ∗ (sa4.view.loc (c : Thread nD τ) ↦{fullShare} a4) ∗ (sa5.view.loc (c : Thread nD τ) ↦{fullShare} a5) ∗ (sa6.view.loc (c : Thread nD τ) ↦{fullShare} a6) ∗ (sa7.view.loc (c : Thread nD τ) ↦{fullShare} b7')) -∗ K ⟨⟩))
      ⊢ wp frame (wpE (defs₀ (F := Ideal)) Variants.none c none) Set.univ (bodyOn i b4 h4 b5 h5 b6 h6 b7 h7) K } :=
  ⟨_, _, _, _, _, _, _, _, _, _, _, _, _, _, _, _, _, fun M A K => by
    unfold ins scr owns bodyOn
    rw [cc0_attn_prompt_eq_skeleton]; unfold cc0_attn_prompt_skel
    iintro ⟨⟨H0, H1, H2, HT0, HT1⟩, ⟨%d, %f, %hf, HO⟩, ⟨S0, S1, S2, S3, S4, S5, S6, S7, S8, S9, S10, S11, S12, S13, S14, S15⟩, Hk⟩
    have hm0 : sm0.IsWhole := Memref.isWhole_whole _
    have hm1 : sm1.IsWhole := Memref.isWhole_whole _
    have hm2 : sm2.IsWhole := Memref.isWhole_whole _
    have hm3 : sm3.IsWhole := Memref.isWhole_whole _
    have hm4 : sm4.IsWhole := Memref.isWhole_whole _
    have hm5 : sm5.IsWhole := Memref.isWhole_whole _
    have hm6 : sm6.IsWhole := Memref.isWhole_whole _
    have hm7 : sm7.IsWhole := Memref.isWhole_whole _
    have ha0 : sa0.IsWhole := Memref.isWhole_whole _
    have ha1 : sa1.IsWhole := Memref.isWhole_whole _
    have ha2 : sa2.IsWhole := Memref.isWhole_whole _
    have ha3 : sa3.IsWhole := Memref.isWhole_whole _
    have ha4 : sa4.IsWhole := Memref.isWhole_whole _
    have ha5 : sa5.IsWhole := Memref.isWhole_whole _
    have ha6 : sa6.IsWhole := Memref.isWhole_whole _
    have ha7 : sa7.IsWhole := Memref.isWhole_whole _
    have hq : tq.IsWhole := Memref.isWhole_whole _
    have hk : tk.IsWhole := Memref.isWhole_whole _
    sl_exec! (disch := first | (guard_target = Scalar.cmpi = _; exact hc0) | (guard_target = ¬(Scalar.cmpi = _); exact hc1) | (guard_target = k0_cond3 _ _ = _; exact hc2))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]; · iexists _; iexact HO
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15⟩

end Cert.KernelIdeal.Att

end
-- ==== Proof.KI.StepA.lean ====
module

public import proofs.«01_k».proof.Proof.KI.Spec
public import proofs.«01_k».proof.Proof.KI.RunA

@[expose] public section

set_option maxRecDepth 16384
set_option Elab.async false

/-! What the body leaves on this path, by the heads' steps. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (c : Dev nD) (i : grid0.Coords) (b4 : Memref sig .tc .vmem S1x1024x2048 .bf16) (h4 : b4.IsWhole) (b5 : Memref sig .tc .vmem S1x1024x2048 .bf16) (h5 : b5.IsWhole)
    (b6 : Memref sig .tc .vmem S1x1024x128 .bf16) (h6 : b6.IsWhole) (b7 : Memref sig .tc .vmem S1x1024x1024 .bf16) (h7 : b7.IsWhole) (Tq Tk : S36.Idx → BitVec 32) (x0 x1 : QV) (x2 : RV) (M : Fin 8 → MV) (A : Fin 8 → AV)

theorem runA_m0 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.1 = mS (sM (wq i Tq) (wk i Tk) x0 x1 x2 0) m00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq0, rk0, rm0, cm0]
  refine (wm0 _ _ _ _).trans ?_
  rfl
theorem runA_a0 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.2.2.2.2.1 = aS (sM (wq i Tq) (wk i Tk) x0 x1 x2 0) (vS x1 0) m00 a00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq0, rk0, rv0, rm0, ra0, cm0, ca0]
  refine (wa0 _ _ _ _).trans ?_
  rfl
theorem runA_m1 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.1 = mS (sM (wq i Tq) (wk i Tk) x0 x1 x2 1) m00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq1, rk1, rm1, cm1]
  refine (wm1 _ _ _ _).trans ?_
  rfl
theorem runA_a1 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.2.2.2.2.2.1 = aS (sM (wq i Tq) (wk i Tk) x0 x1 x2 1) (vS x1 1) m00 a00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq1, rk1, rv1, rm1, ra1, cm1, ca1]
  refine (wa1 _ _ _ _).trans ?_
  rfl
theorem runA_m2 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.1 = mS (sM (wq i Tq) (wk i Tk) x0 x1 x2 2) m00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq2, rk2, rm2, cm2]
  refine (wm2 _ _ _ _).trans ?_
  rfl
theorem runA_a2 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.2.2.2.2.2.2.1 = aS (sM (wq i Tq) (wk i Tk) x0 x1 x2 2) (vS x1 2) m00 a00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq2, rk2, rv2, rm2, ra2, cm2, ca2]
  refine (wa2 _ _ _ _).trans ?_
  rfl
theorem runA_m3 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.1 = mS (sM (wq i Tq) (wk i Tk) x0 x1 x2 3) m00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq3, rk3, rm3, cm3]
  refine (wm3 _ _ _ _).trans ?_
  rfl
theorem runA_a3 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.2.2.2.2.2.2.2.1 = aS (sM (wq i Tq) (wk i Tk) x0 x1 x2 3) (vS x1 3) m00 a00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq3, rk3, rv3, rm3, ra3, cm3, ca3]
  refine (wa3 _ _ _ _).trans ?_
  rfl
theorem runA_m4 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.1 = mS (sM (wq i Tq) (wk i Tk) x0 x1 x2 4) m00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq4, rk4, rm4, cm4]
  refine (wm4 _ _ _ _).trans ?_
  rfl
theorem runA_a4 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.2.2.2.2.2.2.2.2.1 = aS (sM (wq i Tq) (wk i Tk) x0 x1 x2 4) (vS x1 4) m00 a00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq4, rk4, rv4, rm4, ra4, cm4, ca4]
  refine (wa4 _ _ _ _).trans ?_
  rfl
theorem runA_m5 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.2.1 = mS (sM (wq i Tq) (wk i Tk) x0 x1 x2 5) m00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq5, rk5, rm5, cm5]
  refine (wm5 _ _ _ _).trans ?_
  rfl
theorem runA_a5 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.2.2.2.2.2.2.2.2.2.1 = aS (sM (wq i Tq) (wk i Tk) x0 x1 x2 5) (vS x1 5) m00 a00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq5, rk5, rv5, rm5, ra5, cm5, ca5]
  refine (wa5 _ _ _ _).trans ?_
  rfl
theorem runA_m6 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.2.2.1 = mS (sM (wq i Tq) (wk i Tk) x0 x1 x2 6) m00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq6, rk6, rm6, cm6]
  refine (wm6 _ _ _ _).trans ?_
  rfl
theorem runA_a6 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.2.2.2.2.2.2.2.2.2.2.1 = aS (sM (wq i Tq) (wk i Tk) x0 x1 x2 6) (vS x1 6) m00 a00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq6, rk6, rv6, rm6, ra6, cm6, ca6]
  refine (wa6 _ _ _ _).trans ?_
  rfl
theorem runA_m7 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.2.2.2.1 = mS (sM (wq i Tq) (wk i Tk) x0 x1 x2 7) m00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq7, rk7, rm7, cm7]
  refine (wm7 _ _ _ _).trans ?_
  rfl
theorem runA_a7 (hc0 : isFirst (wk i Tk)) (hc1 : ¬goesOn (wq i Tq) (wk i Tk)) (hc2 : k0_cond3 (wq i Tq) (wk i Tk) = 1#1) : (runA c i b4 h4 b5 h5 b6 h6 b7 h7 Tq Tk x0 x1 x2 hc0 hc1 hc2).2.2.2.2.2.2.2.2.2.2.2.2.2.2.2.2.1 = aS (sM (wq i Tq) (wk i Tk) x0 x1 x2 7) (vS x1 7) m00 a00 := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq7, rk7, rv7, rm7, ra7, cm7, ca7]
  refine (wa7 _ _ _ _).trans ?_
  rfl
theorem runA_out (f) (hc0 : isFirst (wk i Tk)) (hc1 : ¬goesOn (wq i Tq) (wk i Tk)) (hc2 : k0_cond3 (wq i Tq) (wk i Tk) = 1#1) : b7.view.read (Elt Ideal) (b7.view.writes (Elt Ideal) f (runA c i b4 h4 b5 h5 b6 h6 b7 h7 Tq Tk x0 x1 x2 hc0 hc1 hc2).1) = outV (fun h => aS (sM (wq i Tq) (wk i Tk) x0 x1 x2 h) (vS x1 h) m00 a00) := by
  simp only [runA]
  simp (proj := false) only [runA.sl.HO_8, runA.sl.S0_1, runA.sl.S0_2, runA.sl.S10_1, runA.sl.S10_2, runA.sl.S11_1, runA.sl.S11_2, runA.sl.S12_1, runA.sl.S12_2, runA.sl.S13_1, runA.sl.S13_2, runA.sl.S14_1, runA.sl.S14_2, runA.sl.S15_1, runA.sl.S15_2, runA.sl.S1_1, runA.sl.S1_2, runA.sl.S2_1, runA.sl.S2_2, runA.sl.S3_1, runA.sl.S3_2, runA.sl.S4_1, runA.sl.S4_2, runA.sl.S5_1, runA.sl.S5_2, runA.sl.S6_1, runA.sl.S6_2, runA.sl.S7_1, runA.sl.S7_2, runA.sl.S8_1, runA.sl.S8_2, runA.sl.S9_1, runA.sl.S9_2, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_24, runA.sl.r_25, runA.sl.r_26, runA.sl.r_27, runA.sl.r_28, runA.sl.r_29, runA.sl.r_3, runA.sl.r_30, runA.sl.r_31, runA.sl.r_32, runA.sl.r_33, runA.sl.r_34, runA.sl.r_35, runA.sl.r_36, runA.sl.r_37, runA.sl.r_4, runA.sl.r_5, runA.sl.r_6, runA.sl.r_7, runA.sl.r_8, runA.sl.r_9, runA.sl.v10, runA.sl.v108, runA.sl.v11, runA.sl.v12, runA.sl.v122, runA.sl.v143, runA.sl.v157, runA.sl.v178, runA.sl.v18, runA.sl.v19, runA.sl.v192, runA.sl.v20, runA.sl.v21, runA.sl.v213, runA.sl.v22, runA.sl.v227, runA.sl.v23, runA.sl.v24, runA.sl.v248, runA.sl.v25, runA.sl.v26, runA.sl.v262, runA.sl.v27, runA.sl.v28, runA.sl.v283, runA.sl.v29, runA.sl.v297, runA.sl.v318, runA.sl.v332, runA.sl.v353, runA.sl.v367, runA.sl.v378, runA.sl.v387, runA.sl.v396, runA.sl.v4, runA.sl.v405, runA.sl.v414, runA.sl.v423, runA.sl.v432, runA.sl.v441, runA.sl.v5, runA.sl.v6, runA.sl.v7, runA.sl.v8, runA.sl.v9, rr, rq0, rk0, rv0, rm0, ra0, cm0, ca0, rq1, rk1, rv1, rm1, ra1, cm1, ca1, rq2, rk2, rv2, rm2, ra2, cm2, ca2, rq3, rk3, rv3, rm3, ra3, cm3, ca3, rq4, rk4, rv4, rm4, ra4, cm4, ca4, rq5, rk5, rv5, rm5, ra5, cm5, ca5, rq6, rk6, rv6, rm6, ra6, cm6, ca6, rq7, rk7, rv7, rm7, ra7, cm7, ca7]
  refine Eq.trans ?_ (out_read b7 f (fun h => aS (sM (wq i Tq) (wk i Tk) x0 x1 x2 h) (vS x1 h) m00 a00) _ (fun h => rfl) inb_S1x1024x1024_S1x1024x128_0_0_0 inb_S1x1024x1024_S1x1024x128_0_0_128 inb_S1x1024x1024_S1x1024x128_0_0_256 inb_S1x1024x1024_S1x1024x128_0_0_384 inb_S1x1024x1024_S1x1024x128_0_0_512 inb_S1x1024x1024_S1x1024x128_0_0_640 inb_S1x1024x1024_S1x1024x128_0_0_768 inb_S1x1024x1024_S1x1024x128_0_0_896)
  rfl
/-- The body on this path, from the scratch to the scratch. -/
theorem stepA (hc0 : isFirst (wk i Tk)) (hc1 : ¬goesOn (wq i Tq) (wk i Tk)) (hc2 : k0_cond3 (wq i Tq) (wk i Tk) = 1#1) (K : PUnit → sProp 𝕄) :
    iprop(ins c b4 b5 b6 Tq Tk x0 x1 x2 ∗ (∃ d, owns (c : Thread nD τ) b7 fullShare d) ∗ scr c M A
      ∗ (iprop(ins c b4 b5 b6 Tq Tk x0 x1 x2 ∗ owns (c : Thread nD τ) b7 fullShare (outV (fun h => aS (sM (wq i Tq) (wk i Tk) x0 x1 x2 h) (vS x1 h) m00 a00))
        ∗ scr c (fun h => mS (sM (wq i Tq) (wk i Tk) x0 x1 x2 h) m00)
            (fun h => aS (sM (wq i Tq) (wk i Tk) x0 x1 x2 h) (vS x1 h) m00 a00)) -∗ K ⟨⟩))
    ⊢ wp frame (wpE (defs₀ (F := Ideal)) Variants.none c none) Set.univ (bodyOn i b4 h4 b5 h5 b6 h6 b7 h7) K := by
  iintro ⟨HI, HO, HS, Hk⟩
  iapply ((runA c i b4 h4 b5 h5 b6 h6 b7 h7 Tq Tk x0 x1 x2 hc0 hc1 hc2).2.2.2.2.2.2.2.2.2.2.2.2.2.2.2.2.2 M A K)
  isplitl [HI]; · iexact HI
  isplitl [HO]; · iexact HO
  isplitl [HS]; · iexact HS
  iintro ⟨HI, HO, S0, S1, S2, S3, S4, S5, S6, S7, S8, S9, S10, S11, S12, S13, S14, S15⟩
  iapply Hk
  isplitl [HI]; · iexact HI
  isplitl [HO]
  · iapply (own_writes (runA_out c i b4 h4 b5 h5 b6 h6 b7 h7 Tq Tk x0 x1 x2 · hc0 hc1 hc2)); iexact HO
  unfold scr
  isplitl [S0]; · iapply (pt_eq (runA_m0 c i b4 h4 b5 h5 b6 h6 b7 h7 Tq Tk x0 x1 x2 hc0 hc1 hc2)); iexact S0
  isplitl [S1]; · iapply (pt_eq (runA_m1 c i b4 h4 b5 h5 b6 h6 b7 h7 Tq Tk x0 x1 x2 hc0 hc1 hc2)); iexact S1
  isplitl [S2]; · iapply (pt_eq (runA_m2 c i b4 h4 b5 h5 b6 h6 b7 h7 Tq Tk x0 x1 x2 hc0 hc1 hc2)); iexact S2
  isplitl [S3]; · iapply (pt_eq (runA_m3 c i b4 h4 b5 h5 b6 h6 b7 h7 Tq Tk x0 x1 x2 hc0 hc1 hc2)); iexact S3
  isplitl [S4]; · iapply (pt_eq (runA_m4 c i b4 h4 b5 h5 b6 h6 b7 h7 Tq Tk x0 x1 x2 hc0 hc1 hc2)); iexact S4
  isplitl [S5]; · iapply (pt_eq (runA_m5 c i b4 h4 b5 h5 b6 h6 b7 h7 Tq Tk x0 x1 x2 hc0 hc1 hc2)); iexact S5
  isplitl [S6]; · iapply (pt_eq (runA_m6 c i b4 h4 b5 h5 b6 h6 b7 h7 Tq Tk x0 x1 x2 hc0 hc1 hc2)); iexact S6
  isplitl [S7]; · iapply (pt_eq (runA_m7 c i b4 h4 b5 h5 b6 h6 b7 h7 Tq Tk x0 x1 x2 hc0 hc1 hc2)); iexact S7
  isplitl [S8]; · iapply (pt_eq (runA_a0 c i b4 h4 b5 h5 b6 h6 b7 h7 Tq Tk x0 x1 x2 hc0 hc1 hc2)); iexact S8
  isplitl [S9]; · iapply (pt_eq (runA_a1 c i b4 h4 b5 h5 b6 h6 b7 h7 Tq Tk x0 x1 x2 hc0 hc1 hc2)); iexact S9
  isplitl [S10]; · iapply (pt_eq (runA_a2 c i b4 h4 b5 h5 b6 h6 b7 h7 Tq Tk x0 x1 x2 hc0 hc1 hc2)); iexact S10
  isplitl [S11]; · iapply (pt_eq (runA_a3 c i b4 h4 b5 h5 b6 h6 b7 h7 Tq Tk x0 x1 x2 hc0 hc1 hc2)); iexact S11
  isplitl [S12]; · iapply (pt_eq (runA_a4 c i b4 h4 b5 h5 b6 h6 b7 h7 Tq Tk x0 x1 x2 hc0 hc1 hc2)); iexact S12
  isplitl [S13]; · iapply (pt_eq (runA_a5 c i b4 h4 b5 h5 b6 h6 b7 h7 Tq Tk x0 x1 x2 hc0 hc1 hc2)); iexact S13
  isplitl [S14]; · iapply (pt_eq (runA_a6 c i b4 h4 b5 h5 b6 h6 b7 h7 Tq Tk x0 x1 x2 hc0 hc1 hc2)); iexact S14
  iapply (pt_eq (runA_a7 c i b4 h4 b5 h5 b6 h6 b7 h7 Tq Tk x0 x1 x2 hc0 hc1 hc2)); iexact S15

end Cert.KernelIdeal.Att

end
-- ==== Proof.KI.RunB.lean ====
module

public import proofs.«01_k».proof.Proof.KI.RunA

@[expose] public section

set_option maxRecDepth 16384
set_option Elab.async false

/-! The same body on another of its ways through. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (c : Dev nD) (i : grid0.Coords) (b4 : Memref sig .tc .vmem S1x1024x2048 .bf16) (h4 : b4.IsWhole) (b5 : Memref sig .tc .vmem S1x1024x2048 .bf16) (h5 : b5.IsWhole)
    (b6 : Memref sig .tc .vmem S1x1024x128 .bf16) (h6 : b6.IsWhole) (b7 : Memref sig .tc .vmem S1x1024x1024 .bf16) (h7 : b7.IsWhole) (Tq Tk : S36.Idx → BitVec 32)

set_option backward.proofsInPublic true in
set_option maxHeartbeats 8000000 in
/-- The first key block of several: the heads start and the block is met whole. -/
def runB (x0 x1 : QV) (x2 : RV) (hc0 : isFirst (wk i Tk)) (hc1 : goesOn (wq i Tq) (wk i Tk))
    (hc2 : ¬k0_cond3 (wq i Tq) (wk i Tk) = 1#1) :
    Σ' (m0 : MV) (m1 : MV) (m2 : MV) (m3 : MV) (m4 : MV) (m5 : MV) (m6 : MV) (m7 : MV) (a0 : AV) (a1 : AV) (a2 : AV) (a3 : AV) (a4 : AV) (a5 : AV) (a6 : AV), { b7' : AV // ∀ (y : OV) (M : Fin 8 → MV) (A : Fin 8 → AV) (K : PUnit → sProp 𝕄),
      iprop(ins c b4 b5 b6 Tq Tk x0 x1 x2 ∗ owns (c : Thread nD τ) b7 fullShare y ∗ scr c M A
        ∗ (iprop(ins c b4 b5 b6 Tq Tk x0 x1 x2 ∗ owns (c : Thread nD τ) b7 fullShare y ∗ (sm0.view.loc (c : Thread nD τ) ↦{fullShare} m0) ∗ (sm1.view.loc (c : Thread nD τ) ↦{fullShare} m1) ∗ (sm2.view.loc (c : Thread nD τ) ↦{fullShare} m2) ∗ (sm3.view.loc (c : Thread nD τ) ↦{fullShare} m3) ∗ (sm4.view.loc (c : Thread nD τ) ↦{fullShare} m4) ∗ (sm5.view.loc (c : Thread nD τ) ↦{fullShare} m5) ∗ (sm6.view.loc (c : Thread nD τ) ↦{fullShare} m6) ∗ (sm7.view.loc (c : Thread nD τ) ↦{fullShare} m7) ∗ (sa0.view.loc (c : Thread nD τ) ↦{fullShare} a0) ∗ (sa1.view.loc (c : Thread nD τ) ↦{fullShare} a1) ∗ (sa2.view.loc (c : Thread nD τ) ↦{fullShare} a2) ∗ (sa3.view.loc (c : Thread nD τ) ↦{fullShare} a3) ∗ (sa4.view.loc (c : Thread nD τ) ↦{fullShare} a4) ∗ (sa5.view.loc (c : Thread nD τ) ↦{fullShare} a5) ∗ (sa6.view.loc (c : Thread nD τ) ↦{fullShare} a6) ∗ (sa7.view.loc (c : Thread nD τ) ↦{fullShare} b7')) -∗ K ⟨⟩))
      ⊢ wp frame (wpE (defs₀ (F := Ideal)) Variants.none c none) Set.univ (bodyOn i b4 h4 b5 h5 b6 h6 b7 h7) K } :=
  ⟨_, _, _, _, _, _, _, _, _, _, _, _, _, _, _, _, fun y M A K => by
    unfold ins scr owns bodyOn
    rw [cc0_attn_prompt_eq_skeleton]; unfold cc0_attn_prompt_skel
    iintro ⟨⟨H0, H1, H2, HT0, HT1⟩, ⟨%f, %hf, HO⟩, ⟨S0, S1, S2, S3, S4, S5, S6, S7, S8, S9, S10, S11, S12, S13, S14, S15⟩, Hk⟩
    obtain rfl := h7.eq_unread hf
    have hm0 : sm0.IsWhole := Memref.isWhole_whole _
    have hm1 : sm1.IsWhole := Memref.isWhole_whole _
    have hm2 : sm2.IsWhole := Memref.isWhole_whole _
    have hm3 : sm3.IsWhole := Memref.isWhole_whole _
    have hm4 : sm4.IsWhole := Memref.isWhole_whole _
    have hm5 : sm5.IsWhole := Memref.isWhole_whole _
    have hm6 : sm6.IsWhole := Memref.isWhole_whole _
    have hm7 : sm7.IsWhole := Memref.isWhole_whole _
    have ha0 : sa0.IsWhole := Memref.isWhole_whole _
    have ha1 : sa1.IsWhole := Memref.isWhole_whole _
    have ha2 : sa2.IsWhole := Memref.isWhole_whole _
    have ha3 : sa3.IsWhole := Memref.isWhole_whole _
    have ha4 : sa4.IsWhole := Memref.isWhole_whole _
    have ha5 : sa5.IsWhole := Memref.isWhole_whole _
    have ha6 : sa6.IsWhole := Memref.isWhole_whole _
    have ha7 : sa7.IsWhole := Memref.isWhole_whole _
    have hq : tq.IsWhole := Memref.isWhole_whole _
    have hk : tk.IsWhole := Memref.isWhole_whole _
    sl_exec! (disch := first | (guard_target = Scalar.cmpi = _; exact hc0) | (guard_target = Scalar.cmpi = _; exact hc1) | (guard_target = ¬(k0_cond3 _ _ = _); exact hc2))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]
    · iexists _; isplitr; · ipureintro; exact h7.read_unread _
      iexact HO
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15⟩

end Cert.KernelIdeal.Att

end
-- ==== Proof.KI.StepB.lean ====
module

public import proofs.«01_k».proof.Proof.KI.Spec
public import proofs.«01_k».proof.Proof.KI.RunB

@[expose] public section

set_option maxRecDepth 16384
set_option Elab.async false

/-! What the body leaves on this path, by the heads' steps. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (c : Dev nD) (i : grid0.Coords) (b4 : Memref sig .tc .vmem S1x1024x2048 .bf16) (h4 : b4.IsWhole) (b5 : Memref sig .tc .vmem S1x1024x2048 .bf16) (h5 : b5.IsWhole)
    (b6 : Memref sig .tc .vmem S1x1024x128 .bf16) (h6 : b6.IsWhole) (b7 : Memref sig .tc .vmem S1x1024x1024 .bf16) (h7 : b7.IsWhole) (Tq Tk : S36.Idx → BitVec 32) (x0 x1 : QV) (x2 : RV) (M : Fin 8 → MV) (A : Fin 8 → AV)

theorem runB_m0 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).1 = mS (sU x0 x1 x2 0) m00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq0, rk0, rm0, cm0]
  refine (wm0 _ _ _ _).trans ?_
  rfl
theorem runB_a0 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.2.2.2.2.1 = aS (sU x0 x1 x2 0) (vS x1 0) m00 a00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq0, rk0, rv0, rm0, ra0, cm0, ca0]
  refine (wa0 _ _ _ _).trans ?_
  rfl
theorem runB_m1 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.1 = mS (sU x0 x1 x2 1) m00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq1, rk1, rm1, cm1]
  refine (wm1 _ _ _ _).trans ?_
  rfl
theorem runB_a1 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.2.2.2.2.2.1 = aS (sU x0 x1 x2 1) (vS x1 1) m00 a00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq1, rk1, rv1, rm1, ra1, cm1, ca1]
  refine (wa1 _ _ _ _).trans ?_
  rfl
theorem runB_m2 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.1 = mS (sU x0 x1 x2 2) m00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq2, rk2, rm2, cm2]
  refine (wm2 _ _ _ _).trans ?_
  rfl
theorem runB_a2 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.2.2.2.2.2.2.1 = aS (sU x0 x1 x2 2) (vS x1 2) m00 a00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq2, rk2, rv2, rm2, ra2, cm2, ca2]
  refine (wa2 _ _ _ _).trans ?_
  rfl
theorem runB_m3 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.1 = mS (sU x0 x1 x2 3) m00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq3, rk3, rm3, cm3]
  refine (wm3 _ _ _ _).trans ?_
  rfl
theorem runB_a3 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.2.2.2.2.2.2.2.1 = aS (sU x0 x1 x2 3) (vS x1 3) m00 a00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq3, rk3, rv3, rm3, ra3, cm3, ca3]
  refine (wa3 _ _ _ _).trans ?_
  rfl
theorem runB_m4 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.1 = mS (sU x0 x1 x2 4) m00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq4, rk4, rm4, cm4]
  refine (wm4 _ _ _ _).trans ?_
  rfl
theorem runB_a4 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.2.2.2.2.2.2.2.2.1 = aS (sU x0 x1 x2 4) (vS x1 4) m00 a00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq4, rk4, rv4, rm4, ra4, cm4, ca4]
  refine (wa4 _ _ _ _).trans ?_
  rfl
theorem runB_m5 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.2.1 = mS (sU x0 x1 x2 5) m00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq5, rk5, rm5, cm5]
  refine (wm5 _ _ _ _).trans ?_
  rfl
theorem runB_a5 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.2.2.2.2.2.2.2.2.2.1 = aS (sU x0 x1 x2 5) (vS x1 5) m00 a00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq5, rk5, rv5, rm5, ra5, cm5, ca5]
  refine (wa5 _ _ _ _).trans ?_
  rfl
theorem runB_m6 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.2.2.1 = mS (sU x0 x1 x2 6) m00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq6, rk6, rm6, cm6]
  refine (wm6 _ _ _ _).trans ?_
  rfl
theorem runB_a6 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.2.2.2.2.2.2.2.2.2.2.1 = aS (sU x0 x1 x2 6) (vS x1 6) m00 a00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq6, rk6, rv6, rm6, ra6, cm6, ca6]
  refine (wa6 _ _ _ _).trans ?_
  rfl
theorem runB_m7 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.2.2.2.1 = mS (sU x0 x1 x2 7) m00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq7, rk7, rm7, cm7]
  refine (wm7 _ _ _ _).trans ?_
  rfl
theorem runB_a7 (hc0 : isFirst (wk i Tk)) (hc1 : goesOn (wq i Tq) (wk i Tk)) (hc2 : ¬k0_cond3 (wq i Tq) (wk i Tk) = 1#1) : (runB c i b4 h4 b5 h5 b6 h6 b7 h7 Tq Tk x0 x1 x2 hc0 hc1 hc2).2.2.2.2.2.2.2.2.2.2.2.2.2.2.2.1 = aS (sU x0 x1 x2 7) (vS x1 7) m00 a00 := by
  simp only [runB]
  simp (proj := false) only [runB.sl.S0_1, runB.sl.S0_2, runB.sl.S10_1, runB.sl.S10_2, runB.sl.S11_1, runB.sl.S11_2, runB.sl.S12_1, runB.sl.S12_2, runB.sl.S13_1, runB.sl.S13_2, runB.sl.S14_1, runB.sl.S14_2, runB.sl.S15_1, runB.sl.S15_2, runB.sl.S1_1, runB.sl.S1_2, runB.sl.S2_1, runB.sl.S2_2, runB.sl.S3_1, runB.sl.S3_2, runB.sl.S4_1, runB.sl.S4_2, runB.sl.S5_1, runB.sl.S5_2, runB.sl.S6_1, runB.sl.S6_2, runB.sl.S7_1, runB.sl.S7_2, runB.sl.S8_1, runB.sl.S8_2, runB.sl.S9_1, runB.sl.S9_2, runB.sl.cst_90, runB.sl.r, runB.sl.r_1, runB.sl.r_10, runB.sl.r_11, runB.sl.r_12, runB.sl.r_13, runB.sl.r_2, runB.sl.r_3, runB.sl.r_4, runB.sl.r_5, runB.sl.r_6, runB.sl.r_7, runB.sl.r_8, runB.sl.r_9, runB.sl.v10, runB.sl.v11, runB.sl.v112, runB.sl.v12, runB.sl.v126, runB.sl.v144, runB.sl.v158, runB.sl.v176, runB.sl.v18, runB.sl.v19, runB.sl.v190, runB.sl.v20, runB.sl.v208, runB.sl.v21, runB.sl.v22, runB.sl.v222, runB.sl.v23, runB.sl.v24, runB.sl.v240, runB.sl.v25, runB.sl.v254, runB.sl.v26, runB.sl.v27, runB.sl.v272, runB.sl.v28, runB.sl.v286, runB.sl.v29, runB.sl.v4, runB.sl.v48, runB.sl.v5, runB.sl.v6, runB.sl.v62, runB.sl.v7, runB.sl.v8, runB.sl.v80, runB.sl.v9, runB.sl.v94, rr, rq7, rk7, rv7, rm7, ra7, cm7, ca7]
  refine (wa7 _ _ _ _).trans ?_
  rfl
/-- The body on this path, from the scratch to the scratch. -/
theorem stepB (hc0 : isFirst (wk i Tk)) (hc1 : goesOn (wq i Tq) (wk i Tk)) (hc2 : ¬k0_cond3 (wq i Tq) (wk i Tk) = 1#1) (y : S1x1024x1024.Idx → Elt Ideal .bf16) (K : PUnit → sProp 𝕄) :
    iprop(ins c b4 b5 b6 Tq Tk x0 x1 x2 ∗ owns (c : Thread nD τ) b7 fullShare y ∗ scr c M A
      ∗ (iprop(ins c b4 b5 b6 Tq Tk x0 x1 x2 ∗ owns (c : Thread nD τ) b7 fullShare y
        ∗ scr c (fun h => mS (sU x0 x1 x2 h) m00)
            (fun h => aS (sU x0 x1 x2 h) (vS x1 h) m00 a00)) -∗ K ⟨⟩))
    ⊢ wp frame (wpE (defs₀ (F := Ideal)) Variants.none c none) Set.univ (bodyOn i b4 h4 b5 h5 b6 h6 b7 h7) K := by
  iintro ⟨HI, HO, HS, Hk⟩
  iapply ((runB c i b4 h4 b5 h5 b6 h6 b7 h7 Tq Tk x0 x1 x2 hc0 hc1 hc2).2.2.2.2.2.2.2.2.2.2.2.2.2.2.2.2 y M A K)
  isplitl [HI]; · iexact HI
  isplitl [HO]; · iexact HO
  isplitl [HS]; · iexact HS
  iintro ⟨HI, HO, S0, S1, S2, S3, S4, S5, S6, S7, S8, S9, S10, S11, S12, S13, S14, S15⟩
  iapply Hk
  isplitl [HI]; · iexact HI
  isplitl [HO]
  · iexact HO
  unfold scr
  isplitl [S0]; · iapply (pt_eq (runB_m0 c i b4 h4 b5 h5 b6 h6 b7 h7 Tq Tk x0 x1 x2 hc0 hc1 hc2)); iexact S0
  isplitl [S1]; · iapply (pt_eq (runB_m1 c i b4 h4 b5 h5 b6 h6 b7 h7 Tq Tk x0 x1 x2 hc0 hc1 hc2)); iexact S1
  isplitl [S2]; · iapply (pt_eq (runB_m2 c i b4 h4 b5 h5 b6 h6 b7 h7 Tq Tk x0 x1 x2 hc0 hc1 hc2)); iexact S2
  isplitl [S3]; · iapply (pt_eq (runB_m3 c i b4 h4 b5 h5 b6 h6 b7 h7 Tq Tk x0 x1 x2 hc0 hc1 hc2)); iexact S3
  isplitl [S4]; · iapply (pt_eq (runB_m4 c i b4 h4 b5 h5 b6 h6 b7 h7 Tq Tk x0 x1 x2 hc0 hc1 hc2)); iexact S4
  isplitl [S5]; · iapply (pt_eq (runB_m5 c i b4 h4 b5 h5 b6 h6 b7 h7 Tq Tk x0 x1 x2 hc0 hc1 hc2)); iexact S5
  isplitl [S6]; · iapply (pt_eq (runB_m6 c i b4 h4 b5 h5 b6 h6 b7 h7 Tq Tk x0 x1 x2 hc0 hc1 hc2)); iexact S6
  isplitl [S7]; · iapply (pt_eq (runB_m7 c i b4 h4 b5 h5 b6 h6 b7 h7 Tq Tk x0 x1 x2 hc0 hc1 hc2)); iexact S7
  isplitl [S8]; · iapply (pt_eq (runB_a0 c i b4 h4 b5 h5 b6 h6 b7 h7 Tq Tk x0 x1 x2 hc0 hc1 hc2)); iexact S8
  isplitl [S9]; · iapply (pt_eq (runB_a1 c i b4 h4 b5 h5 b6 h6 b7 h7 Tq Tk x0 x1 x2 hc0 hc1 hc2)); iexact S9
  isplitl [S10]; · iapply (pt_eq (runB_a2 c i b4 h4 b5 h5 b6 h6 b7 h7 Tq Tk x0 x1 x2 hc0 hc1 hc2)); iexact S10
  isplitl [S11]; · iapply (pt_eq (runB_a3 c i b4 h4 b5 h5 b6 h6 b7 h7 Tq Tk x0 x1 x2 hc0 hc1 hc2)); iexact S11
  isplitl [S12]; · iapply (pt_eq (runB_a4 c i b4 h4 b5 h5 b6 h6 b7 h7 Tq Tk x0 x1 x2 hc0 hc1 hc2)); iexact S12
  isplitl [S13]; · iapply (pt_eq (runB_a5 c i b4 h4 b5 h5 b6 h6 b7 h7 Tq Tk x0 x1 x2 hc0 hc1 hc2)); iexact S13
  isplitl [S14]; · iapply (pt_eq (runB_a6 c i b4 h4 b5 h5 b6 h6 b7 h7 Tq Tk x0 x1 x2 hc0 hc1 hc2)); iexact S14
  iapply (pt_eq (runB_a7 c i b4 h4 b5 h5 b6 h6 b7 h7 Tq Tk x0 x1 x2 hc0 hc1 hc2)); iexact S15

end Cert.KernelIdeal.Att

end
-- ==== Proof.KI.RunC.lean ====
module

public import proofs.«01_k».proof.Proof.KI.RunA

@[expose] public section

set_option maxRecDepth 16384
set_option Elab.async false

/-! The same body on another of its ways through. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (c : Dev nD) (i : grid0.Coords) (b4 : Memref sig .tc .vmem S1x1024x2048 .bf16) (h4 : b4.IsWhole) (b5 : Memref sig .tc .vmem S1x1024x2048 .bf16) (h5 : b5.IsWhole)
    (b6 : Memref sig .tc .vmem S1x1024x128 .bf16) (h6 : b6.IsWhole) (b7 : Memref sig .tc .vmem S1x1024x1024 .bf16) (h7 : b7.IsWhole) (Tq Tk : S36.Idx → BitVec 32)

set_option backward.proofsInPublic true in
set_option maxHeartbeats 8000000 in
/-- The last key block of several: the block is met with the mask, the rows are written. -/
def runC (x0 x1 : QV) (x2 : RV) (M : Fin 8 → MV) (A : Fin 8 → AV) (hc0 : ¬isFirst (wk i Tk)) (hc1 : ¬goesOn (wq i Tq) (wk i Tk))
    (hc2 : k0_cond3 (wq i Tq) (wk i Tk) = 1#1) :
    Σ' (ps : List (View.Piece (Elt Ideal) S1x1024x1024 .bf16)) (m0 : MV) (m1 : MV) (m2 : MV) (m3 : MV) (m4 : MV) (m5 : MV) (m6 : MV) (m7 : MV) (a0 : AV) (a1 : AV) (a2 : AV) (a3 : AV) (a4 : AV) (a5 : AV) (a6 : AV), { b7' : AV // ∀ (K : PUnit → sProp 𝕄),
      iprop(ins c b4 b5 b6 Tq Tk x0 x1 x2 ∗ (∃ d, owns (c : Thread nD τ) b7 fullShare d) ∗ scr c M A
        ∗ (iprop(ins c b4 b5 b6 Tq Tk x0 x1 x2 ∗ (∃ f, b7.view.loc (c : Thread nD τ) ↦[b7.view.set]{fullShare} b7.view.writes (Elt Ideal) f ps) ∗ (sm0.view.loc (c : Thread nD τ) ↦{fullShare} m0) ∗ (sm1.view.loc (c : Thread nD τ) ↦{fullShare} m1) ∗ (sm2.view.loc (c : Thread nD τ) ↦{fullShare} m2) ∗ (sm3.view.loc (c : Thread nD τ) ↦{fullShare} m3) ∗ (sm4.view.loc (c : Thread nD τ) ↦{fullShare} m4) ∗ (sm5.view.loc (c : Thread nD τ) ↦{fullShare} m5) ∗ (sm6.view.loc (c : Thread nD τ) ↦{fullShare} m6) ∗ (sm7.view.loc (c : Thread nD τ) ↦{fullShare} m7) ∗ (sa0.view.loc (c : Thread nD τ) ↦{fullShare} a0) ∗ (sa1.view.loc (c : Thread nD τ) ↦{fullShare} a1) ∗ (sa2.view.loc (c : Thread nD τ) ↦{fullShare} a2) ∗ (sa3.view.loc (c : Thread nD τ) ↦{fullShare} a3) ∗ (sa4.view.loc (c : Thread nD τ) ↦{fullShare} a4) ∗ (sa5.view.loc (c : Thread nD τ) ↦{fullShare} a5) ∗ (sa6.view.loc (c : Thread nD τ) ↦{fullShare} a6) ∗ (sa7.view.loc (c : Thread nD τ) ↦{fullShare} b7')) -∗ K ⟨⟩))
      ⊢ wp frame (wpE (defs₀ (F := Ideal)) Variants.none c none) Set.univ (bodyOn i b4 h4 b5 h5 b6 h6 b7 h7) K } :=
  ⟨_, _, _, _, _, _, _, _, _, _, _, _, _, _, _, _, _, fun K => by
    unfold ins scr owns bodyOn
    rw [cc0_attn_prompt_eq_skeleton]; unfold cc0_attn_prompt_skel
    iintro ⟨⟨H0, H1, H2, HT0, HT1⟩, ⟨%d, %f, %hf, HO⟩, ⟨S0, S1, S2, S3, S4, S5, S6, S7, S8, S9, S10, S11, S12, S13, S14, S15⟩, Hk⟩
    have hm0 : sm0.IsWhole := Memref.isWhole_whole _
    have hm1 : sm1.IsWhole := Memref.isWhole_whole _
    have hm2 : sm2.IsWhole := Memref.isWhole_whole _
    have hm3 : sm3.IsWhole := Memref.isWhole_whole _
    have hm4 : sm4.IsWhole := Memref.isWhole_whole _
    have hm5 : sm5.IsWhole := Memref.isWhole_whole _
    have hm6 : sm6.IsWhole := Memref.isWhole_whole _
    have hm7 : sm7.IsWhole := Memref.isWhole_whole _
    have ha0 : sa0.IsWhole := Memref.isWhole_whole _
    have ha1 : sa1.IsWhole := Memref.isWhole_whole _
    have ha2 : sa2.IsWhole := Memref.isWhole_whole _
    have ha3 : sa3.IsWhole := Memref.isWhole_whole _
    have ha4 : sa4.IsWhole := Memref.isWhole_whole _
    have ha5 : sa5.IsWhole := Memref.isWhole_whole _
    have ha6 : sa6.IsWhole := Memref.isWhole_whole _
    have ha7 : sa7.IsWhole := Memref.isWhole_whole _
    have hq : tq.IsWhole := Memref.isWhole_whole _
    have hk : tk.IsWhole := Memref.isWhole_whole _
    sl_exec! (disch := first | (guard_target = ¬(Scalar.cmpi = _); exact hc0) | (guard_target = ¬(Scalar.cmpi = _); exact hc1) | (guard_target = k0_cond3 _ _ = _; exact hc2))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]; · iexists _; iexact HO
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15⟩

end Cert.KernelIdeal.Att

end
-- ==== Proof.KI.StepC.lean ====
module

public import proofs.«01_k».proof.Proof.KI.Spec
public import proofs.«01_k».proof.Proof.KI.RunC

@[expose] public section

set_option maxRecDepth 16384
set_option Elab.async false

/-! What the body leaves on this path, by the heads' steps. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (c : Dev nD) (i : grid0.Coords) (b4 : Memref sig .tc .vmem S1x1024x2048 .bf16) (h4 : b4.IsWhole) (b5 : Memref sig .tc .vmem S1x1024x2048 .bf16) (h5 : b5.IsWhole)
    (b6 : Memref sig .tc .vmem S1x1024x128 .bf16) (h6 : b6.IsWhole) (b7 : Memref sig .tc .vmem S1x1024x1024 .bf16) (h7 : b7.IsWhole) (Tq Tk : S36.Idx → BitVec 32) (x0 x1 : QV) (x2 : RV) (M : Fin 8 → MV) (A : Fin 8 → AV)

theorem runC_m0 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.1 = mS (sM (wq i Tq) (wk i Tk) x0 x1 x2 0) (M 0) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq0, rk0, rm0, cm0]
  refine (wm0 _ _ _ _).trans ?_
  rfl
theorem runC_a0 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.2.2.2.2.1 = aS (sM (wq i Tq) (wk i Tk) x0 x1 x2 0) (vS x1 0) (M 0) (A 0) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq0, rk0, rv0, rm0, ra0, cm0, ca0]
  refine (wa0 _ _ _ _).trans ?_
  rfl
theorem runC_m1 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.1 = mS (sM (wq i Tq) (wk i Tk) x0 x1 x2 1) (M 1) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq1, rk1, rm1, cm1]
  refine (wm1 _ _ _ _).trans ?_
  rfl
theorem runC_a1 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.2.2.2.2.2.1 = aS (sM (wq i Tq) (wk i Tk) x0 x1 x2 1) (vS x1 1) (M 1) (A 1) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq1, rk1, rv1, rm1, ra1, cm1, ca1]
  refine (wa1 _ _ _ _).trans ?_
  rfl
theorem runC_m2 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.1 = mS (sM (wq i Tq) (wk i Tk) x0 x1 x2 2) (M 2) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq2, rk2, rm2, cm2]
  refine (wm2 _ _ _ _).trans ?_
  rfl
theorem runC_a2 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.2.2.2.2.2.2.1 = aS (sM (wq i Tq) (wk i Tk) x0 x1 x2 2) (vS x1 2) (M 2) (A 2) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq2, rk2, rv2, rm2, ra2, cm2, ca2]
  refine (wa2 _ _ _ _).trans ?_
  rfl
theorem runC_m3 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.1 = mS (sM (wq i Tq) (wk i Tk) x0 x1 x2 3) (M 3) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq3, rk3, rm3, cm3]
  refine (wm3 _ _ _ _).trans ?_
  rfl
theorem runC_a3 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.2.2.2.2.2.2.2.1 = aS (sM (wq i Tq) (wk i Tk) x0 x1 x2 3) (vS x1 3) (M 3) (A 3) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq3, rk3, rv3, rm3, ra3, cm3, ca3]
  refine (wa3 _ _ _ _).trans ?_
  rfl
theorem runC_m4 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.1 = mS (sM (wq i Tq) (wk i Tk) x0 x1 x2 4) (M 4) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq4, rk4, rm4, cm4]
  refine (wm4 _ _ _ _).trans ?_
  rfl
theorem runC_a4 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.2.2.2.2.2.2.2.2.1 = aS (sM (wq i Tq) (wk i Tk) x0 x1 x2 4) (vS x1 4) (M 4) (A 4) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq4, rk4, rv4, rm4, ra4, cm4, ca4]
  refine (wa4 _ _ _ _).trans ?_
  rfl
theorem runC_m5 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.2.1 = mS (sM (wq i Tq) (wk i Tk) x0 x1 x2 5) (M 5) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq5, rk5, rm5, cm5]
  refine (wm5 _ _ _ _).trans ?_
  rfl
theorem runC_a5 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.2.2.2.2.2.2.2.2.2.1 = aS (sM (wq i Tq) (wk i Tk) x0 x1 x2 5) (vS x1 5) (M 5) (A 5) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq5, rk5, rv5, rm5, ra5, cm5, ca5]
  refine (wa5 _ _ _ _).trans ?_
  rfl
theorem runC_m6 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.2.2.1 = mS (sM (wq i Tq) (wk i Tk) x0 x1 x2 6) (M 6) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq6, rk6, rm6, cm6]
  refine (wm6 _ _ _ _).trans ?_
  rfl
theorem runC_a6 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.2.2.2.2.2.2.2.2.2.2.1 = aS (sM (wq i Tq) (wk i Tk) x0 x1 x2 6) (vS x1 6) (M 6) (A 6) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq6, rk6, rv6, rm6, ra6, cm6, ca6]
  refine (wa6 _ _ _ _).trans ?_
  rfl
theorem runC_m7 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.2.2.2.1 = mS (sM (wq i Tq) (wk i Tk) x0 x1 x2 7) (M 7) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq7, rk7, rm7, cm7]
  refine (wm7 _ _ _ _).trans ?_
  rfl
theorem runC_a7 (hc0 : ¬isFirst (wk i Tk)) (hc1 : ¬goesOn (wq i Tq) (wk i Tk)) (hc2 : k0_cond3 (wq i Tq) (wk i Tk) = 1#1) : (runC c i b4 h4 b5 h5 b6 h6 b7 h7 Tq Tk x0 x1 x2 M A hc0 hc1 hc2).2.2.2.2.2.2.2.2.2.2.2.2.2.2.2.2.1 = aS (sM (wq i Tq) (wk i Tk) x0 x1 x2 7) (vS x1 7) (M 7) (A 7) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq7, rk7, rv7, rm7, ra7, cm7, ca7]
  refine (wa7 _ _ _ _).trans ?_
  rfl
theorem runC_out (f) (hc0 : ¬isFirst (wk i Tk)) (hc1 : ¬goesOn (wq i Tq) (wk i Tk)) (hc2 : k0_cond3 (wq i Tq) (wk i Tk) = 1#1) : b7.view.read (Elt Ideal) (b7.view.writes (Elt Ideal) f (runC c i b4 h4 b5 h5 b6 h6 b7 h7 Tq Tk x0 x1 x2 M A hc0 hc1 hc2).1) = outV (fun h => aS (sM (wq i Tq) (wk i Tk) x0 x1 x2 h) (vS x1 h) (M h) (A h)) := by
  simp only [runC]
  simp (proj := false) only [runC.sl.HO_8, runC.sl.S0_1, runC.sl.S10_1, runC.sl.S11_1, runC.sl.S12_1, runC.sl.S13_1, runC.sl.S14_1, runC.sl.S15_1, runC.sl.S1_1, runC.sl.S2_1, runC.sl.S3_1, runC.sl.S4_1, runC.sl.S5_1, runC.sl.S6_1, runC.sl.S7_1, runC.sl.S8_1, runC.sl.S9_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_28, runC.sl.r_29, runC.sl.r_3, runC.sl.r_30, runC.sl.r_31, runC.sl.r_32, runC.sl.r_33, runC.sl.r_34, runC.sl.r_35, runC.sl.r_36, runC.sl.r_37, runC.sl.r_38, runC.sl.r_39, runC.sl.r_4, runC.sl.r_5, runC.sl.r_6, runC.sl.r_7, runC.sl.r_8, runC.sl.r_9, runC.sl.v10, runC.sl.v11, runC.sl.v12, runC.sl.v18, runC.sl.v19, runC.sl.v20, runC.sl.v21, runC.sl.v22, runC.sl.v23, runC.sl.v24, runC.sl.v25, runC.sl.v26, runC.sl.v27, runC.sl.v28, runC.sl.v29, runC.sl.v378, runC.sl.v387, runC.sl.v396, runC.sl.v4, runC.sl.v405, runC.sl.v414, runC.sl.v423, runC.sl.v432, runC.sl.v441, runC.sl.v5, runC.sl.v6, runC.sl.v7, runC.sl.v8, runC.sl.v9, rr, rq0, rk0, rv0, rm0, ra0, cm0, ca0, rq1, rk1, rv1, rm1, ra1, cm1, ca1, rq2, rk2, rv2, rm2, ra2, cm2, ca2, rq3, rk3, rv3, rm3, ra3, cm3, ca3, rq4, rk4, rv4, rm4, ra4, cm4, ca4, rq5, rk5, rv5, rm5, ra5, cm5, ca5, rq6, rk6, rv6, rm6, ra6, cm6, ca6, rq7, rk7, rv7, rm7, ra7, cm7, ca7]
  refine Eq.trans ?_ (out_read b7 f (fun h => aS (sM (wq i Tq) (wk i Tk) x0 x1 x2 h) (vS x1 h) (M h) (A h)) _ (fun h => rfl) inb_S1x1024x1024_S1x1024x128_0_0_0 inb_S1x1024x1024_S1x1024x128_0_0_128 inb_S1x1024x1024_S1x1024x128_0_0_256 inb_S1x1024x1024_S1x1024x128_0_0_384 inb_S1x1024x1024_S1x1024x128_0_0_512 inb_S1x1024x1024_S1x1024x128_0_0_640 inb_S1x1024x1024_S1x1024x128_0_0_768 inb_S1x1024x1024_S1x1024x128_0_0_896)
  rfl
/-- The body on this path, from the scratch to the scratch. -/
theorem stepC (hc0 : ¬isFirst (wk i Tk)) (hc1 : ¬goesOn (wq i Tq) (wk i Tk)) (hc2 : k0_cond3 (wq i Tq) (wk i Tk) = 1#1) (K : PUnit → sProp 𝕄) :
    iprop(ins c b4 b5 b6 Tq Tk x0 x1 x2 ∗ (∃ d, owns (c : Thread nD τ) b7 fullShare d) ∗ scr c M A
      ∗ (iprop(ins c b4 b5 b6 Tq Tk x0 x1 x2 ∗ owns (c : Thread nD τ) b7 fullShare (outV (fun h => aS (sM (wq i Tq) (wk i Tk) x0 x1 x2 h) (vS x1 h) (M h) (A h)))
        ∗ scr c (fun h => mS (sM (wq i Tq) (wk i Tk) x0 x1 x2 h) (M h))
            (fun h => aS (sM (wq i Tq) (wk i Tk) x0 x1 x2 h) (vS x1 h) (M h) (A h))) -∗ K ⟨⟩))
    ⊢ wp frame (wpE (defs₀ (F := Ideal)) Variants.none c none) Set.univ (bodyOn i b4 h4 b5 h5 b6 h6 b7 h7) K := by
  iintro ⟨HI, HO, HS, Hk⟩
  iapply ((runC c i b4 h4 b5 h5 b6 h6 b7 h7 Tq Tk x0 x1 x2 M A hc0 hc1 hc2).2.2.2.2.2.2.2.2.2.2.2.2.2.2.2.2.2 K)
  isplitl [HI]; · iexact HI
  isplitl [HO]; · iexact HO
  isplitl [HS]; · iexact HS
  iintro ⟨HI, HO, S0, S1, S2, S3, S4, S5, S6, S7, S8, S9, S10, S11, S12, S13, S14, S15⟩
  iapply Hk
  isplitl [HI]; · iexact HI
  isplitl [HO]
  · iapply (own_writes (runC_out c i b4 h4 b5 h5 b6 h6 b7 h7 Tq Tk x0 x1 x2 M A · hc0 hc1 hc2)); iexact HO
  unfold scr
  isplitl [S0]; · iapply (pt_eq (runC_m0 c i b4 h4 b5 h5 b6 h6 b7 h7 Tq Tk x0 x1 x2 M A hc0 hc1 hc2)); iexact S0
  isplitl [S1]; · iapply (pt_eq (runC_m1 c i b4 h4 b5 h5 b6 h6 b7 h7 Tq Tk x0 x1 x2 M A hc0 hc1 hc2)); iexact S1
  isplitl [S2]; · iapply (pt_eq (runC_m2 c i b4 h4 b5 h5 b6 h6 b7 h7 Tq Tk x0 x1 x2 M A hc0 hc1 hc2)); iexact S2
  isplitl [S3]; · iapply (pt_eq (runC_m3 c i b4 h4 b5 h5 b6 h6 b7 h7 Tq Tk x0 x1 x2 M A hc0 hc1 hc2)); iexact S3
  isplitl [S4]; · iapply (pt_eq (runC_m4 c i b4 h4 b5 h5 b6 h6 b7 h7 Tq Tk x0 x1 x2 M A hc0 hc1 hc2)); iexact S4
  isplitl [S5]; · iapply (pt_eq (runC_m5 c i b4 h4 b5 h5 b6 h6 b7 h7 Tq Tk x0 x1 x2 M A hc0 hc1 hc2)); iexact S5
  isplitl [S6]; · iapply (pt_eq (runC_m6 c i b4 h4 b5 h5 b6 h6 b7 h7 Tq Tk x0 x1 x2 M A hc0 hc1 hc2)); iexact S6
  isplitl [S7]; · iapply (pt_eq (runC_m7 c i b4 h4 b5 h5 b6 h6 b7 h7 Tq Tk x0 x1 x2 M A hc0 hc1 hc2)); iexact S7
  isplitl [S8]; · iapply (pt_eq (runC_a0 c i b4 h4 b5 h5 b6 h6 b7 h7 Tq Tk x0 x1 x2 M A hc0 hc1 hc2)); iexact S8
  isplitl [S9]; · iapply (pt_eq (runC_a1 c i b4 h4 b5 h5 b6 h6 b7 h7 Tq Tk x0 x1 x2 M A hc0 hc1 hc2)); iexact S9
  isplitl [S10]; · iapply (pt_eq (runC_a2 c i b4 h4 b5 h5 b6 h6 b7 h7 Tq Tk x0 x1 x2 M A hc0 hc1 hc2)); iexact S10
  isplitl [S11]; · iapply (pt_eq (runC_a3 c i b4 h4 b5 h5 b6 h6 b7 h7 Tq Tk x0 x1 x2 M A hc0 hc1 hc2)); iexact S11
  isplitl [S12]; · iapply (pt_eq (runC_a4 c i b4 h4 b5 h5 b6 h6 b7 h7 Tq Tk x0 x1 x2 M A hc0 hc1 hc2)); iexact S12
  isplitl [S13]; · iapply (pt_eq (runC_a5 c i b4 h4 b5 h5 b6 h6 b7 h7 Tq Tk x0 x1 x2 M A hc0 hc1 hc2)); iexact S13
  isplitl [S14]; · iapply (pt_eq (runC_a6 c i b4 h4 b5 h5 b6 h6 b7 h7 Tq Tk x0 x1 x2 M A hc0 hc1 hc2)); iexact S14
  iapply (pt_eq (runC_a7 c i b4 h4 b5 h5 b6 h6 b7 h7 Tq Tk x0 x1 x2 M A hc0 hc1 hc2)); iexact S15

end Cert.KernelIdeal.Att

end
-- ==== Proof.KI.RunD.lean ====
module

public import proofs.«01_k».proof.Proof.KI.RunA

@[expose] public section

set_option maxRecDepth 16384
set_option Elab.async false

/-! The same body on another of its ways through. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (c : Dev nD) (i : grid0.Coords) (b4 : Memref sig .tc .vmem S1x1024x2048 .bf16) (h4 : b4.IsWhole) (b5 : Memref sig .tc .vmem S1x1024x2048 .bf16) (h5 : b5.IsWhole)
    (b6 : Memref sig .tc .vmem S1x1024x128 .bf16) (h6 : b6.IsWhole) (b7 : Memref sig .tc .vmem S1x1024x1024 .bf16) (h7 : b7.IsWhole) (Tq Tk : S36.Idx → BitVec 32)

set_option backward.proofsInPublic true in
set_option maxHeartbeats 8000000 in
/-- A key block between: the block is met whole. -/
def runD (x0 x1 : QV) (x2 : RV) (M : Fin 8 → MV) (A : Fin 8 → AV) (hc0 : ¬isFirst (wk i Tk)) (hc1 : goesOn (wq i Tq) (wk i Tk))
    (hc2 : ¬k0_cond3 (wq i Tq) (wk i Tk) = 1#1) :
    Σ' (m0 : MV) (m1 : MV) (m2 : MV) (m3 : MV) (m4 : MV) (m5 : MV) (m6 : MV) (m7 : MV) (a0 : AV) (a1 : AV) (a2 : AV) (a3 : AV) (a4 : AV) (a5 : AV) (a6 : AV), { b7' : AV // ∀ (y : OV) (K : PUnit → sProp 𝕄),
      iprop(ins c b4 b5 b6 Tq Tk x0 x1 x2 ∗ owns (c : Thread nD τ) b7 fullShare y ∗ scr c M A
        ∗ (iprop(ins c b4 b5 b6 Tq Tk x0 x1 x2 ∗ owns (c : Thread nD τ) b7 fullShare y ∗ (sm0.view.loc (c : Thread nD τ) ↦{fullShare} m0) ∗ (sm1.view.loc (c : Thread nD τ) ↦{fullShare} m1) ∗ (sm2.view.loc (c : Thread nD τ) ↦{fullShare} m2) ∗ (sm3.view.loc (c : Thread nD τ) ↦{fullShare} m3) ∗ (sm4.view.loc (c : Thread nD τ) ↦{fullShare} m4) ∗ (sm5.view.loc (c : Thread nD τ) ↦{fullShare} m5) ∗ (sm6.view.loc (c : Thread nD τ) ↦{fullShare} m6) ∗ (sm7.view.loc (c : Thread nD τ) ↦{fullShare} m7) ∗ (sa0.view.loc (c : Thread nD τ) ↦{fullShare} a0) ∗ (sa1.view.loc (c : Thread nD τ) ↦{fullShare} a1) ∗ (sa2.view.loc (c : Thread nD τ) ↦{fullShare} a2) ∗ (sa3.view.loc (c : Thread nD τ) ↦{fullShare} a3) ∗ (sa4.view.loc (c : Thread nD τ) ↦{fullShare} a4) ∗ (sa5.view.loc (c : Thread nD τ) ↦{fullShare} a5) ∗ (sa6.view.loc (c : Thread nD τ) ↦{fullShare} a6) ∗ (sa7.view.loc (c : Thread nD τ) ↦{fullShare} b7')) -∗ K ⟨⟩))
      ⊢ wp frame (wpE (defs₀ (F := Ideal)) Variants.none c none) Set.univ (bodyOn i b4 h4 b5 h5 b6 h6 b7 h7) K } :=
  ⟨_, _, _, _, _, _, _, _, _, _, _, _, _, _, _, _, fun y K => by
    unfold ins scr owns bodyOn
    rw [cc0_attn_prompt_eq_skeleton]; unfold cc0_attn_prompt_skel
    iintro ⟨⟨H0, H1, H2, HT0, HT1⟩, ⟨%f, %hf, HO⟩, ⟨S0, S1, S2, S3, S4, S5, S6, S7, S8, S9, S10, S11, S12, S13, S14, S15⟩, Hk⟩
    obtain rfl := h7.eq_unread hf
    have hm0 : sm0.IsWhole := Memref.isWhole_whole _
    have hm1 : sm1.IsWhole := Memref.isWhole_whole _
    have hm2 : sm2.IsWhole := Memref.isWhole_whole _
    have hm3 : sm3.IsWhole := Memref.isWhole_whole _
    have hm4 : sm4.IsWhole := Memref.isWhole_whole _
    have hm5 : sm5.IsWhole := Memref.isWhole_whole _
    have hm6 : sm6.IsWhole := Memref.isWhole_whole _
    have hm7 : sm7.IsWhole := Memref.isWhole_whole _
    have ha0 : sa0.IsWhole := Memref.isWhole_whole _
    have ha1 : sa1.IsWhole := Memref.isWhole_whole _
    have ha2 : sa2.IsWhole := Memref.isWhole_whole _
    have ha3 : sa3.IsWhole := Memref.isWhole_whole _
    have ha4 : sa4.IsWhole := Memref.isWhole_whole _
    have ha5 : sa5.IsWhole := Memref.isWhole_whole _
    have ha6 : sa6.IsWhole := Memref.isWhole_whole _
    have ha7 : sa7.IsWhole := Memref.isWhole_whole _
    have hq : tq.IsWhole := Memref.isWhole_whole _
    have hk : tk.IsWhole := Memref.isWhole_whole _
    sl_exec! (disch := first | (guard_target = ¬(Scalar.cmpi = _); exact hc0) | (guard_target = Scalar.cmpi = _; exact hc1) | (guard_target = ¬(k0_cond3 _ _ = _); exact hc2))
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO]
    · iexists _; isplitr; · ipureintro; exact h7.read_unread _
      iexact HO
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15⟩

end Cert.KernelIdeal.Att

end
-- ==== Proof.KI.StepD.lean ====
module

public import proofs.«01_k».proof.Proof.KI.Spec
public import proofs.«01_k».proof.Proof.KI.RunD

@[expose] public section

set_option maxRecDepth 16384
set_option Elab.async false

/-! What the body leaves on this path, by the heads' steps. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (c : Dev nD) (i : grid0.Coords) (b4 : Memref sig .tc .vmem S1x1024x2048 .bf16) (h4 : b4.IsWhole) (b5 : Memref sig .tc .vmem S1x1024x2048 .bf16) (h5 : b5.IsWhole)
    (b6 : Memref sig .tc .vmem S1x1024x128 .bf16) (h6 : b6.IsWhole) (b7 : Memref sig .tc .vmem S1x1024x1024 .bf16) (h7 : b7.IsWhole) (Tq Tk : S36.Idx → BitVec 32) (x0 x1 : QV) (x2 : RV) (M : Fin 8 → MV) (A : Fin 8 → AV)

theorem runD_m0 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).1 = mS (sU x0 x1 x2 0) (M 0) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq0, rk0, rm0, cm0]
  refine (wm0 _ _ _ _).trans ?_
  rfl
theorem runD_a0 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.2.2.2.2.1 = aS (sU x0 x1 x2 0) (vS x1 0) (M 0) (A 0) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq0, rk0, rv0, rm0, ra0, cm0, ca0]
  refine (wa0 _ _ _ _).trans ?_
  rfl
theorem runD_m1 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.1 = mS (sU x0 x1 x2 1) (M 1) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq1, rk1, rm1, cm1]
  refine (wm1 _ _ _ _).trans ?_
  rfl
theorem runD_a1 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.2.2.2.2.2.1 = aS (sU x0 x1 x2 1) (vS x1 1) (M 1) (A 1) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq1, rk1, rv1, rm1, ra1, cm1, ca1]
  refine (wa1 _ _ _ _).trans ?_
  rfl
theorem runD_m2 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.1 = mS (sU x0 x1 x2 2) (M 2) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq2, rk2, rm2, cm2]
  refine (wm2 _ _ _ _).trans ?_
  rfl
theorem runD_a2 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.2.2.2.2.2.2.1 = aS (sU x0 x1 x2 2) (vS x1 2) (M 2) (A 2) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq2, rk2, rv2, rm2, ra2, cm2, ca2]
  refine (wa2 _ _ _ _).trans ?_
  rfl
theorem runD_m3 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.1 = mS (sU x0 x1 x2 3) (M 3) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq3, rk3, rm3, cm3]
  refine (wm3 _ _ _ _).trans ?_
  rfl
theorem runD_a3 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.2.2.2.2.2.2.2.1 = aS (sU x0 x1 x2 3) (vS x1 3) (M 3) (A 3) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq3, rk3, rv3, rm3, ra3, cm3, ca3]
  refine (wa3 _ _ _ _).trans ?_
  rfl
theorem runD_m4 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.1 = mS (sU x0 x1 x2 4) (M 4) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq4, rk4, rm4, cm4]
  refine (wm4 _ _ _ _).trans ?_
  rfl
theorem runD_a4 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.2.2.2.2.2.2.2.2.1 = aS (sU x0 x1 x2 4) (vS x1 4) (M 4) (A 4) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq4, rk4, rv4, rm4, ra4, cm4, ca4]
  refine (wa4 _ _ _ _).trans ?_
  rfl
theorem runD_m5 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.2.1 = mS (sU x0 x1 x2 5) (M 5) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq5, rk5, rm5, cm5]
  refine (wm5 _ _ _ _).trans ?_
  rfl
theorem runD_a5 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.2.2.2.2.2.2.2.2.2.1 = aS (sU x0 x1 x2 5) (vS x1 5) (M 5) (A 5) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq5, rk5, rv5, rm5, ra5, cm5, ca5]
  refine (wa5 _ _ _ _).trans ?_
  rfl
theorem runD_m6 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.2.2.1 = mS (sU x0 x1 x2 6) (M 6) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq6, rk6, rm6, cm6]
  refine (wm6 _ _ _ _).trans ?_
  rfl
theorem runD_a6 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.2.2.2.2.2.2.2.2.2.2.1 = aS (sU x0 x1 x2 6) (vS x1 6) (M 6) (A 6) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq6, rk6, rv6, rm6, ra6, cm6, ca6]
  refine (wa6 _ _ _ _).trans ?_
  rfl
theorem runD_m7 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.2.2.2.1 = mS (sU x0 x1 x2 7) (M 7) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq7, rk7, rm7, cm7]
  refine (wm7 _ _ _ _).trans ?_
  rfl
theorem runD_a7 (hc0 : ¬isFirst (wk i Tk)) (hc1 : goesOn (wq i Tq) (wk i Tk)) (hc2 : ¬k0_cond3 (wq i Tq) (wk i Tk) = 1#1) : (runD c i b4 h4 b5 h5 b6 h6 b7 h7 Tq Tk x0 x1 x2 M A hc0 hc1 hc2).2.2.2.2.2.2.2.2.2.2.2.2.2.2.2.1 = aS (sU x0 x1 x2 7) (vS x1 7) (M 7) (A 7) := by
  simp only [runD]
  simp (proj := false) only [runD.sl.S0_1, runD.sl.S10_1, runD.sl.S11_1, runD.sl.S12_1, runD.sl.S13_1, runD.sl.S14_1, runD.sl.S15_1, runD.sl.S1_1, runD.sl.S2_1, runD.sl.S3_1, runD.sl.S4_1, runD.sl.S5_1, runD.sl.S6_1, runD.sl.S7_1, runD.sl.S8_1, runD.sl.S9_1, runD.sl.cst_90, runD.sl.r, runD.sl.r_1, runD.sl.r_10, runD.sl.r_11, runD.sl.r_12, runD.sl.r_13, runD.sl.r_14, runD.sl.r_2, runD.sl.r_3, runD.sl.r_4, runD.sl.r_5, runD.sl.r_6, runD.sl.r_7, runD.sl.r_8, runD.sl.r_9, runD.sl.v10, runD.sl.v11, runD.sl.v12, runD.sl.v18, runD.sl.v19, runD.sl.v20, runD.sl.v21, runD.sl.v22, runD.sl.v23, runD.sl.v24, runD.sl.v25, runD.sl.v26, runD.sl.v27, runD.sl.v28, runD.sl.v29, runD.sl.v4, runD.sl.v5, runD.sl.v6, runD.sl.v7, runD.sl.v8, runD.sl.v9, rr, rq7, rk7, rv7, rm7, ra7, cm7, ca7]
  refine (wa7 _ _ _ _).trans ?_
  rfl
/-- The body on this path, from the scratch to the scratch. -/
theorem stepD (hc0 : ¬isFirst (wk i Tk)) (hc1 : goesOn (wq i Tq) (wk i Tk)) (hc2 : ¬k0_cond3 (wq i Tq) (wk i Tk) = 1#1) (y : S1x1024x1024.Idx → Elt Ideal .bf16) (K : PUnit → sProp 𝕄) :
    iprop(ins c b4 b5 b6 Tq Tk x0 x1 x2 ∗ owns (c : Thread nD τ) b7 fullShare y ∗ scr c M A
      ∗ (iprop(ins c b4 b5 b6 Tq Tk x0 x1 x2 ∗ owns (c : Thread nD τ) b7 fullShare y
        ∗ scr c (fun h => mS (sU x0 x1 x2 h) (M h))
            (fun h => aS (sU x0 x1 x2 h) (vS x1 h) (M h) (A h))) -∗ K ⟨⟩))
    ⊢ wp frame (wpE (defs₀ (F := Ideal)) Variants.none c none) Set.univ (bodyOn i b4 h4 b5 h5 b6 h6 b7 h7) K := by
  iintro ⟨HI, HO, HS, Hk⟩
  iapply ((runD c i b4 h4 b5 h5 b6 h6 b7 h7 Tq Tk x0 x1 x2 M A hc0 hc1 hc2).2.2.2.2.2.2.2.2.2.2.2.2.2.2.2.2 y K)
  isplitl [HI]; · iexact HI
  isplitl [HO]; · iexact HO
  isplitl [HS]; · iexact HS
  iintro ⟨HI, HO, S0, S1, S2, S3, S4, S5, S6, S7, S8, S9, S10, S11, S12, S13, S14, S15⟩
  iapply Hk
  isplitl [HI]; · iexact HI
  isplitl [HO]
  · iexact HO
  unfold scr
  isplitl [S0]; · iapply (pt_eq (runD_m0 c i b4 h4 b5 h5 b6 h6 b7 h7 Tq Tk x0 x1 x2 M A hc0 hc1 hc2)); iexact S0
  isplitl [S1]; · iapply (pt_eq (runD_m1 c i b4 h4 b5 h5 b6 h6 b7 h7 Tq Tk x0 x1 x2 M A hc0 hc1 hc2)); iexact S1
  isplitl [S2]; · iapply (pt_eq (runD_m2 c i b4 h4 b5 h5 b6 h6 b7 h7 Tq Tk x0 x1 x2 M A hc0 hc1 hc2)); iexact S2
  isplitl [S3]; · iapply (pt_eq (runD_m3 c i b4 h4 b5 h5 b6 h6 b7 h7 Tq Tk x0 x1 x2 M A hc0 hc1 hc2)); iexact S3
  isplitl [S4]; · iapply (pt_eq (runD_m4 c i b4 h4 b5 h5 b6 h6 b7 h7 Tq Tk x0 x1 x2 M A hc0 hc1 hc2)); iexact S4
  isplitl [S5]; · iapply (pt_eq (runD_m5 c i b4 h4 b5 h5 b6 h6 b7 h7 Tq Tk x0 x1 x2 M A hc0 hc1 hc2)); iexact S5
  isplitl [S6]; · iapply (pt_eq (runD_m6 c i b4 h4 b5 h5 b6 h6 b7 h7 Tq Tk x0 x1 x2 M A hc0 hc1 hc2)); iexact S6
  isplitl [S7]; · iapply (pt_eq (runD_m7 c i b4 h4 b5 h5 b6 h6 b7 h7 Tq Tk x0 x1 x2 M A hc0 hc1 hc2)); iexact S7
  isplitl [S8]; · iapply (pt_eq (runD_a0 c i b4 h4 b5 h5 b6 h6 b7 h7 Tq Tk x0 x1 x2 M A hc0 hc1 hc2)); iexact S8
  isplitl [S9]; · iapply (pt_eq (runD_a1 c i b4 h4 b5 h5 b6 h6 b7 h7 Tq Tk x0 x1 x2 M A hc0 hc1 hc2)); iexact S9
  isplitl [S10]; · iapply (pt_eq (runD_a2 c i b4 h4 b5 h5 b6 h6 b7 h7 Tq Tk x0 x1 x2 M A hc0 hc1 hc2)); iexact S10
  isplitl [S11]; · iapply (pt_eq (runD_a3 c i b4 h4 b5 h5 b6 h6 b7 h7 Tq Tk x0 x1 x2 M A hc0 hc1 hc2)); iexact S11
  isplitl [S12]; · iapply (pt_eq (runD_a4 c i b4 h4 b5 h5 b6 h6 b7 h7 Tq Tk x0 x1 x2 M A hc0 hc1 hc2)); iexact S12
  isplitl [S13]; · iapply (pt_eq (runD_a5 c i b4 h4 b5 h5 b6 h6 b7 h7 Tq Tk x0 x1 x2 M A hc0 hc1 hc2)); iexact S13
  isplitl [S14]; · iapply (pt_eq (runD_a6 c i b4 h4 b5 h5 b6 h6 b7 h7 Tq Tk x0 x1 x2 M A hc0 hc1 hc2)); iexact S14
  iapply (pt_eq (runD_a7 c i b4 h4 b5 h5 b6 h6 b7 h7 Tq Tk x0 x1 x2 M A hc0 hc1 hc2)); iexact S15

end Cert.KernelIdeal.Att

end
-- ==== Proof.KI.Frame.lean ====
module

public import Idealize.ShloMosaic.Lib.StableHlo.RunRead
public import proofs.«01_k».proof.Proof.KI.Facts
public import proofs.«01_k».proof.Proof.KI.StepA
public import proofs.«01_k».proof.Proof.KI.StepB
public import proofs.«01_k».proof.Proof.KI.StepC
public import proofs.«01_k».proof.Proof.KI.StepD

@[expose] public section

set_option maxRecDepth 16384
set_option Elab.async false

/-! The attention's run: what the scratch holds from point to point, the body at every point, the launch. -/

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the host's own buffers hold when the grid begins. -/
def V0 (c : Dev nD) (b : Ref sig .tc) : Buf (Elt Ideal) ((c : Thread nD τ).loc b) := StableHlo.after hostOps0 (fun b => m (c, b)) b

/-- The block of an array that a window holds at a point. -/
def iblk (c : Dev nD) (w : Fin cfgA.W) (t : Fin cfgA.N) : (cfgA.win w).block.Idx → Elt Ideal (cfgA.win w).elt :=
  ((cfgA.win w).blk t).view.read (Elt Ideal) (V0 m c (Pipeline.arrRef cfgA.spec w))
abbrev ib0 (c : Dev nD) (t : Fin cfgA.N) : QV := iblk m c (0 : Fin 4) t
abbrev ib1 (c : Dev nD) (t : Fin cfgA.N) : QV := iblk m c (1 : Fin 4) t
abbrev ib2 (c : Dev nD) (t : Fin cfgA.N) : RV := iblk m c (2 : Fin 4) t

/-- The scores a head meets at a point. -/
def scoreAt (c : Dev nD) (t : Fin cfgA.N) (h : Fin 8) : FVec Ideal S1024x1024 .bf16 :=
  if go t then sU (ib0 m c t) (ib1 m c t) (ib2 m c t) h else sM (wq (crd t) qiT) (wk (crd t) kiT) (ib0 m c t) (ib1 m c t) (ib2 m c t) h

/-- One point's step. -/
def ptM (c : Dev nD) (t : Fin cfgA.N) (M : Fin 8 → MV) (h : Fin 8) : MV :=
  mS (scoreAt m c t h) (if isF t then m00 else M h)
def ptA (c : Dev nD) (t : Fin cfgA.N) (M : Fin 8 → MV) (A : Fin 8 → AV) (h : Fin 8) : AV :=
  aS (scoreAt m c t h) (vS (ib1 m c t) h) (if isF t then m00 else M h) (if isF t then a00 else A h)

/-- The scratch before point `n`. -/
def traj (c : Dev nD) : ℕ → (Fin 8 → MV) × (Fin 8 → AV)
  | 0 => (fun _ => m00, fun _ => a00)
  | n + 1 => if h : n < cfgA.N then (ptM m c ⟨n, h⟩ (traj c n).1, ptA m c ⟨n, h⟩ (traj c n).1 (traj c n).2) else traj c n

theorem traj_succ (c : Dev nD) (t : Fin cfgA.N) :
    traj m c (t.val + 1) = (ptM m c t (traj m c t.val).1, ptA m c t (traj m c t.val).1 (traj m c t.val).2) := by
  show (if h : t.val < cfgA.N then _ else _) = _
  rw [dif_pos t.isLt]

/-- The invariant before a point: the scratch, once a point has set it; the tables; the register. -/
def Phi (c : Dev nD) (t : Fin (cfgA.N + 1)) : sProp 𝕄 :=
  iprop(∃ M A, ⌜t.val ≠ 0 → M = (traj m c t.val).1 ∧ A = (traj m c t.val).2⌝ ∗ scr c M A
    ∗ (tq.view.loc (c : Thread nD τ) ↦{fullShare.right} qiT) ∗ (tk.view.loc (c : Thread nD τ) ↦{fullShare.right} kiT) ∗ ∃ r, prngReg c r)

/-- The proof's data on a core. -/
def dats (_ : Fin 1) (c : Dev nD) : Dat τ (Elt Ideal) Unit ℕ (UR sig nD τ) ℕ cfgA c where
  A w := V0 m c (Pipeline.arrRef cfgA.spec w)
  after w t := match w with
    | ⟨0, _⟩ => iblk m c (0 : Fin 4) t
    | ⟨1, _⟩ => iblk m c (1 : Fin 4) t
    | ⟨2, _⟩ => iblk m c (2 : Fin 4) t
    | ⟨3, _⟩ => outV (traj m c (t.val + 1)).2
  Φ t := Phi m c t
  q _ := fullShare
  owed _ := 0

theorem after0 (c : Dev nD) (t : Fin cfgA.N) : (dats m 0 c).after (0 : Fin 4) t = iblk m c (0 : Fin 4) t := rfl
theorem after1 (c : Dev nD) (t : Fin cfgA.N) : (dats m 0 c).after (1 : Fin 4) t = iblk m c (1 : Fin 4) t := rfl
theorem after2 (c : Dev nD) (t : Fin cfgA.N) : (dats m 0 c).after (2 : Fin 4) t = iblk m c (2 : Fin 4) t := rfl
theorem after3 (c : Dev nD) (t : Fin cfgA.N) : (dats m 0 c).after (3 : Fin 4) t = outV (traj m c (t.val + 1)).2 := rfl

theorem before0 (c : Dev nD) (t : Fin cfgA.N) (d) : (dats m 0 c).before (0 : Fin 4) t d = iblk m c (0 : Fin 4) t :=
  ((dats m 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin cfgA.N) (d) : (dats m 0 c).before (1 : Fin 4) t d = iblk m c (1 : Fin 4) t :=
  ((dats m 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin cfgA.N) (d) : (dats m 0 c).before (2 : Fin 4) t d = iblk m c (2 : Fin 4) t :=
  ((dats m 0 c).before_in_eq_fetched (2 : Fin 4) rfl (fun _ => rfl) (fun _ _ _ => rfl) (fun t => by rw [after2]; unfold Dat.blockOf iblk; rfl) t d).trans
    (by unfold Dat.fetched Dat.blockOf iblk; rfl)

/-- The rows' buffer holds nothing of value before any point: a row is written only where it goes home. -/
theorem fresh3 (t : Fin cfgA.N) : cfgA.fresh (3 : Fin 4) t.val = true :=
  Pipeline.Cfg.fresh_tab cfgA (3 : Fin 4) (fun _ => true) rfl
    (fun t => by rcases (facts t).2 with ⟨-, -, h, h'⟩ | ⟨-, -, h, h'⟩ <;> rw [h, h'] <;> rfl) t.val (Nat.le_of_lt t.isLt)

theorem before3 (c : Dev nD) (t : Fin cfgA.N) (d) : (dats m 0 c).before (3 : Fin 4) t d = d := by
  rw [(dats m 0 c).before_out_traj (3 : Fin 4) rfl (fun _ _ => rfl)
    (fun t _ _ hf => absurd (hf.symm.trans (fresh3 t)) Bool.false_ne_true) t.val t rfl d]
  simp only [fresh3 t, ↓reduceIte]

theorem ptM_A (c : Dev nD) (t : Fin cfgA.N) (M : Fin 8 → MV) (q0 : isF t) (q1 : ¬go t) :
    ptM m c t M = fun h => mS (sM (wq (crd t) qiT) (wk (crd t) kiT) (ib0 m c t) (ib1 m c t) (ib2 m c t) h) m00 := funext fun h => by
  unfold ptM scoreAt; rw [if_pos q0, if_neg q1]
theorem ptA_A (c : Dev nD) (t : Fin cfgA.N) (M : Fin 8 → MV) (A : Fin 8 → AV) (q0 : isF t) (q1 : ¬go t) :
    ptA m c t M A = fun h => aS (sM (wq (crd t) qiT) (wk (crd t) kiT) (ib0 m c t) (ib1 m c t) (ib2 m c t) h) (vS (ib1 m c t) h) m00 a00 := funext fun h => by
  unfold ptA scoreAt; rw [if_pos q0, if_pos q0, if_neg q1]
theorem ptM_B (c : Dev nD) (t : Fin cfgA.N) (M : Fin 8 → MV) (q0 : isF t) (q1 : go t) :
    ptM m c t M = fun h => mS (sU (ib0 m c t) (ib1 m c t) (ib2 m c t) h) m00 := funext fun h => by
  unfold ptM scoreAt; rw [if_pos q0, if_pos q1]
theorem ptA_B (c : Dev nD) (t : Fin cfgA.N) (M : Fin 8 → MV) (A : Fin 8 → AV) (q0 : isF t) (q1 : go t) :
    ptA m c t M A = fun h => aS (sU (ib0 m c t) (ib1 m c t) (ib2 m c t) h) (vS (ib1 m c t) h) m00 a00 := funext fun h => by
  unfold ptA scoreAt; rw [if_pos q0, if_pos q0, if_pos q1]
theorem ptM_C (c : Dev nD) (t : Fin cfgA.N) (M : Fin 8 → MV) (q0 : ¬isF t) (q1 : ¬go t) :
    ptM m c t M = fun h => mS (sM (wq (crd t) qiT) (wk (crd t) kiT) (ib0 m c t) (ib1 m c t) (ib2 m c t) h) (M h) := funext fun h => by
  unfold ptM scoreAt; rw [if_neg q0, if_neg q1]
theorem ptA_C (c : Dev nD) (t : Fin cfgA.N) (M : Fin 8 → MV) (A : Fin 8 → AV) (q0 : ¬isF t) (q1 : ¬go t) :
    ptA m c t M A = fun h => aS (sM (wq (crd t) qiT) (wk (crd t) kiT) (ib0 m c t) (ib1 m c t) (ib2 m c t) h) (vS (ib1 m c t) h) (M h) (A h) := funext fun h => by
  unfold ptA scoreAt; rw [if_neg q0, if_neg q0, if_neg q1]
theorem ptM_D (c : Dev nD) (t : Fin cfgA.N) (M : Fin 8 → MV) (q0 : ¬isF t) (q1 : go t) :
    ptM m c t M = fun h => mS (sU (ib0 m c t) (ib1 m c t) (ib2 m c t) h) (M h) := funext fun h => by
  unfold ptM scoreAt; rw [if_neg q0, if_pos q1]
theorem ptA_D (c : Dev nD) (t : Fin cfgA.N) (M : Fin 8 → MV) (A : Fin 8 → AV) (q0 : ¬isF t) (q1 : go t) :
    ptA m c t M A = fun h => aS (sU (ib0 m c t) (ib1 m c t) (ib2 m c t) h) (vS (ib1 m c t) h) (M h) (A h) := funext fun h => by
  unfold ptA scoreAt; rw [if_neg q0, if_neg q0, if_pos q1]

set_option maxHeartbeats 4000000 in
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before (0 : Fin 4) t d))
        ∗ (∃ d, owns (c : Thread nD τ) (ms1 t) fullShare ((dats m 0 c).before (1 : Fin 4) t d))
        ∗ (∃ d, owns (c : Thread nD τ) (ms2 t) fullShare ((dats m 0 c).before (2 : Fin 4) t d))
        ∗ (∃ d, owns (c : Thread nD τ) (ms3 t) fullShare ((dats m 0 c).before (3 : Fin 4) t d)))
      ⊢ wp frame (wpE (defs₀ (F := Ideal)) Variants.none c none) Set.univ (bodyOn (crd t) (ms0 t) (hs0 t) (ms1 t) (hs1 t) (ms2 t) (hs2 t) (ms3 t) (hs3 t)) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  obtain ⟨hz, hp⟩ := facts t
  by_cases q0 : isF t
  · have hc0 := q0
    rcases hp with ⟨hc1, hc2, i3, f3⟩ | ⟨hc1, hc2, i3, f3⟩
    · rewrite [i3]
      simp only [before0, before1, before2, before3, after0, after1, after2, after3, f3]
      unfold Phi
      iintro ⟨⟨%M, %A, %hMA, HS, HT0, HT1, Hr⟩, Ho, ⟨%d0, H0⟩, ⟨%d1, H1⟩, ⟨%d2, H2⟩, ⟨%d3, H3⟩⟩
      iapply (stepB c (crd t) (ms0 t) (hs0 t) (ms1 t) (hs1 t) (ms2 t) (hs2 t) (ms3 t) (hs3 t) qiT kiT (ib0 m c t) (ib1 m c t) (ib2 m c t) M A hc0 hc1 hc2 d3 _)
      isplitl [H0 H1 H2 HT0 HT1]
      · unfold ins
        isplitl [H0]; · iapply rep_of_owns; iexact H0
        isplitl [H1]; · iapply rep_of_owns; iexact H1
        isplitl [H2]; · iapply rep_of_owns; iexact H2
        isplitl [HT0]; · iexact HT0
        iexact HT1
      isplitl [H3]; · iexact H3
      isplitl [HS]; · iexact HS
      iintro ⟨HI, H3, HS⟩
      unfold ins
      icases HI with ⟨H0, H1, H2, HT0, HT1⟩
      isplitl [HS HT0 HT1 Hr]
      · iexists _, _; isplitr; swap
        · isplitl [HS]; · iexact HS
          isplitl [HT0]; · iexact HT0
          isplitl [HT1]; · iexact HT1
          iexact Hr
        · ipureintro; intro _; rw [show t.succ.val = t.val + 1 from rfl, traj_succ]
          dsimp only
          rw [ptM_B m c t _ q0 hc1, ptA_B m c t _ _ q0 hc1]
          exact ⟨rfl, rfl⟩
      isplitl [Ho]; · iexact Ho
      isplitl [H0]; · iapply owns_of_rep; iexact H0
      isplitl [H1]; · iapply owns_of_rep; iexact H1
      isplitl [H2]; · iapply owns_of_rep; iexact H2
      iexists d3; iexact H3
    · rewrite [i3]
      simp only [before0, before1, before2, before3, after0, after1, after2, after3, f3]
      unfold Phi
      iintro ⟨⟨%M, %A, %hMA, HS, HT0, HT1, Hr⟩, Ho, ⟨%d0, H0⟩, ⟨%d1, H1⟩, ⟨%d2, H2⟩, ⟨%d3, H3⟩⟩
      iapply (stepA c (crd t) (ms0 t) (hs0 t) (ms1 t) (hs1 t) (ms2 t) (hs2 t) (ms3 t) (hs3 t) qiT kiT (ib0 m c t) (ib1 m c t) (ib2 m c t) M A hc0 hc1 hc2 _)
      isplitl [H0 H1 H2 HT0 HT1]
      · unfold ins
        isplitl [H0]; · iapply rep_of_owns; iexact H0
        isplitl [H1]; · iapply rep_of_owns; iexact H1
        isplitl [H2]; · iapply rep_of_owns; iexact H2
        isplitl [HT0]; · iexact HT0
        iexact HT1
      isplitl [H3]; · iexists d3; iexact H3
      isplitl [HS]; · iexact HS
      iintro ⟨HI, H3, HS⟩
      unfold ins
      icases HI with ⟨H0, H1, H2, HT0, HT1⟩
      isplitl [HS HT0 HT1 Hr]
      · iexists _, _; isplitr; swap
        · isplitl [HS]; · iexact HS
          isplitl [HT0]; · iexact HT0
          isplitl [HT1]; · iexact HT1
          iexact Hr
        · ipureintro; intro _; rw [show t.succ.val = t.val + 1 from rfl, traj_succ]
          dsimp only
          rw [ptM_A m c t _ q0 hc1, ptA_A m c t _ _ q0 hc1]
          exact ⟨rfl, rfl⟩
      isplitl [Ho]; · iexact Ho
      isplitl [H0]; · iapply owns_of_rep; iexact H0
      isplitl [H1]; · iapply owns_of_rep; iexact H1
      isplitl [H2]; · iapply owns_of_rep; iexact H2
      rw [traj_succ]
      dsimp only
      rw [ptA_A m c t _ _ q0 hc1]
      iexact H3
  · have hc0 := q0
    rcases hp with ⟨hc1, hc2, i3, f3⟩ | ⟨hc1, hc2, i3, f3⟩
    · rewrite [i3]
      simp only [before0, before1, before2, before3, after0, after1, after2, after3, f3]
      unfold Phi
      iintro ⟨⟨%M, %A, %hMA, HS, HT0, HT1, Hr⟩, Ho, ⟨%d0, H0⟩, ⟨%d1, H1⟩, ⟨%d2, H2⟩, ⟨%d3, H3⟩⟩
      obtain ⟨eM, eA⟩ : M = (traj m c t.val).1 ∧ A = (traj m c t.val).2 := hMA fun h => q0 (hz h)
      iapply (stepD c (crd t) (ms0 t) (hs0 t) (ms1 t) (hs1 t) (ms2 t) (hs2 t) (ms3 t) (hs3 t) qiT kiT (ib0 m c t) (ib1 m c t) (ib2 m c t) M A hc0 hc1 hc2 d3 _)
      isplitl [H0 H1 H2 HT0 HT1]
      · unfold ins
        isplitl [H0]; · iapply rep_of_owns; iexact H0
        isplitl [H1]; · iapply rep_of_owns; iexact H1
        isplitl [H2]; · iapply rep_of_owns; iexact H2
        isplitl [HT0]; · iexact HT0
        iexact HT1
      isplitl [H3]; · iexact H3
      isplitl [HS]; · iexact HS
      iintro ⟨HI, H3, HS⟩
      unfold ins
      icases HI with ⟨H0, H1, H2, HT0, HT1⟩
      isplitl [HS HT0 HT1 Hr]
      · iexists _, _; isplitr; swap
        · isplitl [HS]; · iexact HS
          isplitl [HT0]; · iexact HT0
          isplitl [HT1]; · iexact HT1
          iexact Hr
        · ipureintro; intro _; rw [show t.succ.val = t.val + 1 from rfl, traj_succ]
          dsimp only
          rw [← eM, ← eA, ptM_D m c t M q0 hc1, ptA_D m c t M A q0 hc1]
          exact ⟨rfl, rfl⟩
      isplitl [Ho]; · iexact Ho
      isplitl [H0]; · iapply owns_of_rep; iexact H0
      isplitl [H1]; · iapply owns_of_rep; iexact H1
      isplitl [H2]; · iapply owns_of_rep; iexact H2
      iexists d3; iexact H3
    · rewrite [i3]
      simp only [before0, before1, before2, before3, after0, after1, after2, after3, f3]
      unfold Phi
      iintro ⟨⟨%M, %A, %hMA, HS, HT0, HT1, Hr⟩, Ho, ⟨%d0, H0⟩, ⟨%d1, H1⟩, ⟨%d2, H2⟩, ⟨%d3, H3⟩⟩
      obtain ⟨eM, eA⟩ : M = (traj m c t.val).1 ∧ A = (traj m c t.val).2 := hMA fun h => q0 (hz h)
      iapply (stepC c (crd t) (ms0 t) (hs0 t) (ms1 t) (hs1 t) (ms2 t) (hs2 t) (ms3 t) (hs3 t) qiT kiT (ib0 m c t) (ib1 m c t) (ib2 m c t) M A hc0 hc1 hc2 _)
      isplitl [H0 H1 H2 HT0 HT1]
      · unfold ins
        isplitl [H0]; · iapply rep_of_owns; iexact H0
        isplitl [H1]; · iapply rep_of_owns; iexact H1
        isplitl [H2]; · iapply rep_of_owns; iexact H2
        isplitl [HT0]; · iexact HT0
        iexact HT1
      isplitl [H3]; · iexists d3; iexact H3
      isplitl [HS]; · iexact HS
      iintro ⟨HI, H3, HS⟩
      unfold ins
      icases HI with ⟨H0, H1, H2, HT0, HT1⟩
      isplitl [HS HT0 HT1 Hr]
      · iexists _, _; isplitr; swap
        · isplitl [HS]; · iexact HS
          isplitl [HT0]; · iexact HT0
          isplitl [HT1]; · iexact HT1
          iexact Hr
        · ipureintro; intro _; rw [show t.succ.val = t.val + 1 from rfl, traj_succ]
          dsimp only
          rw [← eM, ← eA, ptM_C m c t M q0 hc1, ptA_C m c t M A q0 hc1]
          exact ⟨rfl, rfl⟩
      isplitl [Ho]; · iexact Ho
      isplitl [H0]; · iapply owns_of_rep; iexact H0
      isplitl [H1]; · iapply owns_of_rep; iexact H1
      isplitl [H2]; · iapply owns_of_rep; iexact H2
      rw [traj_succ]
      dsimp only
      rw [← eM, ← eA, ptA_C m c t M A q0 hc1]
      iexact H3

/-- The body's obligation at every point. -/
theorem body_obligation (c : Dev nD) : BodyObligation (dats m 0 c) (defs₀ (F := Ideal)) Variants.none () Set.univ := fun t => by
  rw [bigSep_W0]
  exact sound_body m c t

theorem share_eq (c : Dev nD) (w : Fin cfgA.W) : (dats m 0 c).share w = fullShare := by unfold Dat.share; split <;> rfl

/-- The tables as the launch hands them over. -/
theorem prefHeld_two (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) : iprop(Pipeline.ΦA cfgA.spec c ∗ Pipeline.ΦT pre0 adm.1 c) ⊢ (dats m 0 c).Φ 0 := by
  rw [show (dats m 0 c).Φ 0 = Phi m c 0 from rfl]
  unfold Pipeline.ΦA Pipeline.ΦT
  rw [prefHeld_two, show Pipeline.scopedRest cfgA.spec c = Pipeline.scopedRest spec0 c from rfl, scopedRest0_eq]
  unfold Phi scr
  iintro ⟨⟨⟨⟨%a0, H0⟩, ⟨%a1, H1⟩, ⟨%a2, H2⟩, ⟨%a3, H3⟩, ⟨%a4, H4⟩, ⟨%a5, H5⟩, ⟨%a6, H6⟩, ⟨%a7, H7⟩, ⟨%a8, H8⟩, ⟨%a9, H9⟩, ⟨%a10, H10⟩, ⟨%a11, H11⟩, ⟨%a12, H12⟩, ⟨%a13, H13⟩, ⟨%a14, H14⟩, ⟨%a15, H15⟩⟩, Hr⟩, HT0, HT1⟩
  iexists ![a0, a1, a2, a3, a4, a5, a6, a7], ![a8, a9, a10, a11, a12, a13, a14, a15]
  isplitr
  · ipureintro; intro h; exact absurd rfl h
  isplitl [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [HT0]; · iexact HT0
  isplitl [HT1]; · iexact HT1
  iexact Hr

theorem phi_out (c : Dev nD) : (dats m 0 c).Φ (Fin.last cfgA.N) ⊢ Pipeline.ΦA cfgA.spec c := by
  rw [show (dats m 0 c).Φ (Fin.last cfgA.N) = Phi m c (Fin.last _) from rfl]
  unfold Pipeline.ΦA
  rw [show Pipeline.scopedRest cfgA.spec c = Pipeline.scopedRest spec0 c from rfl, scopedRest0_eq]
  unfold Phi scr
  iintro ⟨%M, %A, -, ⟨H0, H1, H2, H3, H4, H5, H6, H7, H8, H9, H10, H11, H12, H13, H14, H15⟩, -, -, Hr⟩
  isplitr [Hr]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  iexact Hr

theorem lit0_qi (i : S36.Idx) : lit0 (S36.rowMajor i) = qiT i := by
  revert i; decide +kernel
theorem lit1_ki (i : S36.Idx) : lit1 (S36.rowMajor i) = kiT i := by
  revert i; decide +kernel

theorem V0_pre (c : Dev nD) (k : Fin 2) : V0 m c (pre0.ref k) = adm.1 k := by
  match k with
  | ⟨0, _⟩ =>
    show StableHlo.after hostOps0 (fun b => m (c, b)) (Proc.devRef .tc main_c) = qiT
    rw [StableHlo.after_last_write (i := 0) [main_c_0] rfl rfl (by decide), StableHlo.nullary_result']
    funext i
    exact lit0_qi i
  | ⟨1, _⟩ =>
    show StableHlo.after hostOps0 (fun b => m (c, b)) (Proc.devRef .tc main_c_0) = kiT
    rw [StableHlo.after_last_write (i := 1) [] rfl rfl (by decide), StableHlo.nullary_result']
    funext i
    exact lit1_ki i

theorem V0_arg (c : Dev nD) (r : Ref sig .tc) (hr : r ∉ [main_c, main_c_0]) : V0 m c r = m ((c : Thread nD τ).loc r) :=
  StableHlo.after_unwritten [main_c, main_c_0] rfl hr _

set_option backward.isDefEq.respectTransparency.types false in
set_option maxHeartbeats 4000000 in
/-- The run: every array ends at what the data compute, every counter at zero. -/
theorem run_main : θ_run (defs (F := Ideal)) (onTc (τ := τ) (main (F := Ideal))) (s₀ m ρ)
    (fun r => Pipeline.FramePost pcs (dats m) 0 (V0 m) r ∧ r.2.sem = fun _ => 0) :=
  Pipeline.θ_run_frameP_track (pcfgs (F := Ideal)) (fun _ => adm) (dats m) 0 launch0 defs₀ Variants.none m ρ main
    (fun c => (body_obligation m c).loose) (share_eq m) (fun _ _ => rfl) (V0 m)
    (Pipeline.hmainP_prefix (pcfgs (F := Ideal)) 0 defs₀ Variants.none m main hostOps0 hostOps0_sub ⟨rfl, rfl⟩ main_chain)
    (fun _ _ => rfl) (V0_pre m) (phi_in m) (phi_out m) _ (fun _ h => h)

end Cert.KernelIdeal.Att

end
-- ==== Proof.KI.Math.lean ====
module

public import Idealize.ShloMosaic.PureOps.Ideal
public import Mathlib.Analysis.SpecialFunctions.Pow.Real
public import Mathlib.Data.EReal.Operations

@[expose] public section

/-! Weighted sums over the extended reals: rescaling one, and a softmax's two ways of dividing. Values may be infinite; weights are real. -/

noncomputable section

namespace Cert.KernelIdeal.Att

open Idealize.ShloMosaic

theorem ninf32 : Ideal.ofBits .f32 0xFF800000#32 = ⊥ := by simp [Ideal.ofBits, Ideal.ieee]
theorem ninf16 : Ideal.ofBits .bf16 0xFF80#16 = ⊥ := by simp [Ideal.ofBits, Ideal.ieee]

/-- A real factor that is not negative goes into a sum. -/
theorem coe_mul_sum (c : ℝ) (hc : 0 ≤ c) (S : Finset ℕ) (f : ℕ → EReal) : (c : EReal) * ∑ k ∈ S, f k = ∑ k ∈ S, (c : EReal) * f k := by
  classical
  induction S using Finset.induction_on with
  | empty => simp
  | insert a S ha ih =>
    rw [Finset.sum_insert ha, Finset.sum_insert ha, EReal.left_distrib_of_nonneg_of_ne_top (EReal.coe_nonneg.mpr hc) (EReal.coe_ne_top _), ih]

theorem coe_sum (S : Finset ℕ) (f : ℕ → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

/-- The weight of a score below a real reference point: nothing for a score put out. -/
def pw (x : EReal) (μ : ℝ) : ℝ := if x = ⊥ then 0 else Real.rpow 2 (x.toReal - μ)

theorem pw_nonneg (x : EReal) (μ : ℝ) : 0 ≤ pw x μ := by
  unfold pw; split
  · exact le_rfl
  · exact Real.rpow_nonneg (by norm_num) _
theorem pw_pos (x : EReal) (μ : ℝ) (h : x ≠ ⊥) : 0 < pw x μ := by
  unfold pw; rw [if_neg h]; exact Real.rpow_pos_of_pos (by norm_num) _
theorem pw_bot (μ : ℝ) : pw ⊥ μ = 0 := by unfold pw; rw [if_pos rfl]

theorem pw_shift (x : EReal) (μ ν : ℝ) : pw x ν = Real.rpow 2 (μ - ν) * pw x μ := by
  unfold pw; split
  · rw [mul_zero]
  · simp only [Real.rpow_eq_pow]
    rw [← Real.rpow_add (by norm_num)]; congr 1; ring

theorem exp2_sub (x : EReal) (hx : x ≠ ⊤) (μ : ℝ) : Ideal.exp2 (x - (μ : EReal)) = (pw x μ : EReal) := by
  induction x with
  | bot => rw [pw_bot, EReal.bot_sub]; rfl
  | top => exact absurd rfl hx
  | coe r => rw [← EReal.coe_sub, Ideal.exp2_coe]; unfold pw; rw [if_neg (EReal.coe_ne_bot _), EReal.toReal_coe]

theorem exp_sub (x : EReal) (hx : x ≠ ⊤) (μ M : ℝ) :
    Ideal.exp (x * ((Real.log 2 : ℝ) : EReal) - (M : EReal)) = ((Real.exp (-M) * Real.rpow 2 μ * pw x μ : ℝ) : EReal) := by
  induction x with
  | bot => rw [pw_bot, mul_zero, EReal.bot_mul_coe_of_pos (Real.log_pos (by norm_num)), EReal.bot_sub]; rfl
  | top => exact absurd rfl hx
  | coe r =>
    rw [← EReal.coe_mul, ← EReal.coe_sub, Ideal.exp_coe]; unfold pw; rw [if_neg (EReal.coe_ne_bot _), EReal.toReal_coe]
    congr 1
    simp only [Real.rpow_eq_pow]
    rw [mul_assoc, ← Real.rpow_add (by norm_num), Real.rpow_def_of_pos (by norm_num), ← Real.exp_add]
    congr 1; ring

/-- Weighted sums rescaled from one reference point to another. -/
theorem rescale (s v : ℕ → EReal) (hs : ∀ k, s k ≠ ⊤) (μ ν : ℝ) (n : ℕ) :
    Ideal.exp2 ((μ : EReal) - (ν : EReal)) * ∑ k ∈ Finset.range n, Ideal.exp2 (s k - (μ : EReal)) * v k
      = ∑ k ∈ Finset.range n, Ideal.exp2 (s k - (ν : EReal)) * v k := by
  have h0 : 0 ≤ Real.rpow 2 (μ - ν) := Real.rpow_nonneg (by norm_num) _
  rw [← EReal.coe_sub, Ideal.exp2_coe, coe_mul_sum _ h0]
  refine Finset.sum_congr rfl fun k _ => ?_
  rw [exp2_sub _ (hs k), exp2_sub _ (hs k), pw_shift (s k) μ ν, EReal.coe_mul, mul_assoc]

/-- The sum divided once is the sum of the divided weights, whatever the two reference points. -/
theorem softmax_two (s v : ℕ → EReal) (hs : ∀ k, s k ≠ ⊤) (n N : ℕ) (hn : n ≤ N) (hz : ∀ k, n ≤ k → k < N → s k = ⊥)
    (k0 : ℕ) (hk : k0 < n) (h0 : s k0 ≠ ⊥) (μ M : ℝ) :
    Ideal.div (∑ k ∈ Finset.range n, Ideal.exp2 (s k - (μ : EReal)) * v k) (∑ k ∈ Finset.range n, Ideal.exp2 (s k - (μ : EReal)) * 1)
      = ∑ k ∈ Finset.range N, v k * Ideal.div (Ideal.exp (s k * ((Real.log 2 : ℝ) : EReal) - (M : EReal)))
          (∑ j ∈ Finset.range N, Ideal.exp (s j * ((Real.log 2 : ℝ) : EReal) - (M : EReal))) := by
  have hsub : Finset.range n ⊆ Finset.range N := Finset.range_mono hn
  have hc : 0 < Real.exp (-M) * Real.rpow 2 μ := mul_pos (Real.exp_pos _) (Real.rpow_pos_of_pos (by norm_num) _)
  generalize hcd : Real.exp (-M) * Real.rpow 2 μ = c at hc
  have he : ∀ k, Ideal.exp (s k * ((Real.log 2 : ℝ) : EReal) - (M : EReal)) = ((c * pw (s k) μ : ℝ) : EReal) := fun k => by
    rw [exp_sub _ (hs k) μ M, hcd]
  simp only [he, exp2_sub _ (hs _), mul_one]
  have hL : 0 < ∑ k ∈ Finset.range n, pw (s k) μ :=
    Finset.sum_pos' (fun k _ => pw_nonneg _ _) ⟨k0, Finset.mem_range.mpr hk, pw_pos _ _ h0⟩
  have hZ : ∑ k ∈ Finset.range N, ((c * pw (s k) μ : ℝ) : EReal) = ((c * ∑ k ∈ Finset.range n, pw (s k) μ : ℝ) : EReal) := by
    rw [coe_sum, ← Finset.mul_sum]
    congr 2
    refine (Finset.sum_subset hsub fun k h1 h2 => ?_).symm
    rw [hz k (Nat.not_lt.mp fun h => h2 (Finset.mem_range.mpr h)) (Finset.mem_range.mp h1), pw_bot]
  rw [hZ, coe_sum]
  generalize (∑ k ∈ Finset.range n, pw (s k) μ) = L at hL
  rw [Ideal.div_coe hL.ne', mul_comm, coe_mul_sum _ (by positivity)]
  refine (Finset.sum_congr rfl fun k _ => ?_).trans (Finset.sum_subset hsub fun k h1 h2 => ?_)
  · rw [Ideal.div_coe (mul_pos hc hL).ne', mul_comm _ (v k), ← mul_assoc, mul_comm _ (v k), mul_assoc, ← EReal.coe_mul, ← EReal.coe_mul]
    congr 2
    field_simp
  · rw [hz k (Nat.not_lt.mp fun h => h2 (Finset.mem_range.mpr h)) (Finset.mem_range.mp h1), pw_bot, mul_zero, EReal.coe_zero]
    rw [Ideal.div_coe (mul_pos hc hL).ne', zero_mul, mul_zero]

/-- The largest of a block's scores is real when none is infinite and one is not put out. -/
theorem fold_max_real {n : ℕ} (f : Fin n → EReal) (ht : ∀ k, f k ≠ ⊤) (m : EReal) (hm : m ≠ ⊤) (h : m ≠ ⊥ ∨ ∃ k, f k ≠ ⊥) :
    ∃ μ : ℝ, max m (Finset.fold max ⊥ f Finset.univ) = (μ : EReal) := by
  have h1 : max m (Finset.fold max ⊥ f Finset.univ) ≠ ⊤ := by
    refine (max_lt (lt_top_iff_ne_top.mpr hm) ((Finset.fold_max_lt _).mpr ⟨bot_lt_top, fun k _ => lt_top_iff_ne_top.mpr (ht k)⟩)).ne
  have h2 : max m (Finset.fold max ⊥ f Finset.univ) ≠ ⊥ := by
    rcases h with h | ⟨k, hk⟩
    · exact (lt_max_of_lt_left (bot_lt_iff_ne_bot.mpr h)).ne'
    · exact (lt_max_of_lt_right ((Finset.lt_fold_max _).mpr (.inr ⟨k, Finset.mem_univ _, bot_lt_iff_ne_bot.mpr hk⟩))).ne'
  exact ⟨_, (EReal.coe_toReal h1 h2).symm⟩

/-- One more block of weighted values. -/
theorem more (f : ℕ → EReal) (n b : ℕ) : ∑ k ∈ Finset.range (n + b), f k = ∑ k ∈ Finset.range n, f k + ∑ k : Fin b, f (n + k.val) := by
  rw [Finset.sum_range_add, Finset.sum_range fun k => f (n + k)]

end Cert.KernelIdeal.Att

end
-- ==== Proof.KI.Point.lean ====
module

public import proofs.«01_k».proof.Proof.KI.Spec
public import proofs.«01_k».proof.Proof.KI.Math
public import Idealize.ShloMosaic.Lib.Pointwise

@[expose] public section

set_option maxRecDepth 16384
set_option Elab.async false

/-! What one point of the grid computes, read at an index. -/

noncomputable section

namespace Cert.KernelIdeal.Att

open Cert.KernelIdeal Cert.KernelIdeal.Gen Idealize.ShloMosaic Idealize.SL.Sem Idealize.ShloMosaic.TcCoe

/-- An array read at three numbers. -/
def at3 {a b c : ℕ} [NeZero a] [NeZero b] [NeZero c] (X : (⟨3, ![a, b, c]⟩ : Shape).Idx → EReal) (i j k : ℕ) : EReal :=
  X (ix3 (Fin.ofNat a i) (Fin.ofNat b j) (Fin.ofNat c k))

theorem at3_eq {a b c : ℕ} [NeZero a] [NeZero b] [NeZero c] (X : (⟨3, ![a, b, c]⟩ : Shape).Idx → EReal) (i : Fin a) (j : Fin b) (k : Fin c) :
    at3 X i.val j.val k.val = X (ix3 i j k) := by
  unfold at3; rw [Fin.ofNat_val_eq_self, Fin.ofNat_val_eq_self, Fin.ofNat_val_eq_self]

/-- A row's number over 64, as the program divides. -/
def fdiv (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem fdiv_eq : ∀ n : Fin 8192, fdiv (BitVec.ofNat 32 n.val) = BitVec.ofNat 32 (n.val / 64) := by decide +kernel

theorem allow_at (a b : BitVec 32) (r k : Fin 1024) :
    allow a b (ix2 r k) = IntOp.cmpi CmpIPredicate.sle (fdiv (IntOp.addi (Scalar.muli b 1024#32) (BitVec.ofNat 32 k.val)))
      (fdiv (IntOp.addi (Scalar.muli a 1024#32) (BitVec.ofNat 32 r.val))) := by
  pointwise [allow, k0_pay61, k0_pay62, k0_pay63, k0_pay64, k0_pay65]
  rfl

theorem word_row (a : ℕ) (r : Fin 1024) : IntOp.addi (Scalar.muli (BitVec.ofNat 32 a) 1024#32) (BitVec.ofNat 32 r.val) = BitVec.ofNat 32 (1024 * a + r.val) := by
  show BitVec.ofNat 32 a * BitVec.ofNat 32 1024 + BitVec.ofNat 32 r.val = _
  rw [← BitVec.ofNat_mul, ← BitVec.ofNat_add, mul_comm]

theorem sle_small (x y : ℕ) (hx : x < 128) (hy : y < 128) : IntOp.cmpi CmpIPredicate.sle (BitVec.ofNat 32 x) (BitVec.ofNat 32 y) = if x ≤ y then 1#1 else 0#1 := by
  have h : ∀ x y : Fin 128, IntOp.cmpi CmpIPredicate.sle (BitVec.ofNat 32 x.val) (BitVec.ofNat 32 y.val) = if x.val ≤ y.val then 1#1 else 0#1 := by decide +kernel
  exact h ⟨x, hx⟩ ⟨y, hy⟩

/-- A row may see the keys of its own chunk of 64 and of those before. -/
theorem allow_iff (a b : ℕ) (ha : a < 8) (hb : b < 8) (r k : Fin 1024) :
    allow (BitVec.ofNat 32 a) (BitVec.ofNat 32 b) (ix2 r k) = if (1024 * b + k.val) / 64 ≤ (1024 * a + r.val) / 64 then 1#1 else 0#1 := by
  have hr := r.isLt
  have hk := k.isLt
  rw [allow_at, word_row, word_row, fdiv_eq ⟨1024 * b + k.val, by omega⟩, fdiv_eq ⟨1024 * a + r.val, by omega⟩]
  exact sle_small _ _ (by show (1024 * b + k.val) / 64 < 128; omega) (by show (1024 * a + r.val) / 64 < 128; omega)

theorem qS_at (x : QV) (h : Fin 8) (r : Fin 1024) (d : Fin 256) : qS x h (ix3 0 r d) = at3 x 0 r.val (256 * h.val + d.val) := by
  have hh := h.isLt; have hd := d.isLt; have hr := r.isLt
  unfold qS VecWindow.window at3
  congr 1; funext a; apply Fin.ext
  fin_cases a
  · rfl
  · show 0 + 1 * r.val = r.val % 1024; omega
  · show 256 * h.val + 1 * d.val = (256 * h.val + d.val) % 2048; omega
theorem kS_at (x : QV) (h : Fin 8) (r : Fin 1024) (d : Fin 128) : kS x h (ix3 0 r d) = at3 x 0 r.val (128 * h.val + d.val) := by
  have hh := h.isLt; have hd := d.isLt; have hr := r.isLt
  unfold kS VecWindow.window at3
  congr 1; funext a; apply Fin.ext
  fin_cases a
  · rfl
  · show 0 + 1 * r.val = r.val % 1024; omega
  · show 128 * h.val + 1 * d.val = (128 * h.val + d.val) % 2048; omega
theorem vS_at (x : QV) (h : Fin 8) (r : Fin 1024) (d : Fin 128) : vS x h (ix3 0 r d) = at3 x 0 r.val (1024 + 128 * h.val + d.val) := by
  have hh := h.isLt; have hd := d.isLt; have hr := r.isLt
  unfold vS VecWindow.window at3
  congr 1; funext a; apply Fin.ext
  fin_cases a
  · rfl
  · show 0 + 1 * r.val = r.val % 1024; omega
  · show 1024 + 128 * h.val + 1 * d.val = (1024 + 128 * h.val + d.val) % 2048; omega

theorem sU_at (x0 x1 : QV) (x2 : RV) (h : Fin 8) (r k : Fin 1024) :
    sU x0 x1 x2 h (ix2 r k) = (∑ d : Fin 128, at3 x0 0 r.val (256 * h.val + d.val) * at3 x1 0 k.val (128 * h.val + d.val))
      + ∑ d : Fin 128, at3 x0 0 r.val (256 * h.val + (128 + d.val)) * at3 x2 0 k.val d.val := by
  pointwise [sU, k0_pay23, k0_pay21]
  congr 1 <;> refine Finset.sum_congr rfl fun d _ => ?_
  · rw [kS_at, qS_at]
  · rw [qS_at]; congr 1; exact (at3_eq x2 0 k d).symm

theorem sM_at (a b : BitVec 32) (x0 x1 : QV) (x2 : RV) (h : Fin 8) (r k : Fin 1024) :
    sM a b x0 x1 x2 h (ix2 r k) = Scalar.select (allow a b (ix2 r k)) (sU x0 x1 x2 h (ix2 r k)) (⊥ : EReal) := by
  pointwise [sM]
  rw [show Ideal.ofBits FTy.f32 4286578688#32 = ⊥ from ninf32]

/-- The largest score of a row after a block. -/
def top (s : FVec Ideal S1024x1024 .bf16) (m : MV) (r : Fin 1024) : EReal :=
  max (m (ix2 r 0)) (Finset.fold max ⊥ (fun x => s (ix2 r x)) Finset.univ)

theorem mS_at (s : FVec Ideal S1024x1024 .bf16) (m : MV) (r : Fin 1024) : mS s m (ix2 r 0) = top s m r := by
  pointwise [mS, mN]
  rw [show Ideal.ofBits FTy.bf16 65408#16 = ⊥ from ninf16]
  rfl

theorem one_col : ∀ d : Fin 256, ¬ d.val < 128 →
    BitVec.setWidth 32 (IntOp.cmpi CmpIPredicate.eq (BitVec.ofNat 32 (d.val - 128)) 0#32) = if d.val = 128 then 1#32 else 0#32 := by decide +kernel

theorem aS_at (s : FVec Ideal S1024x1024 .bf16) (v : Vec Ideal S1x1024x128 .bf16) (m : MV) (a : AV) (r : Fin 1024) (d : Fin 256) :
    aS s v m a (ix2 r d) = Ideal.exp2 (m (ix2 r 0) - top s m r) * a (ix2 r d)
      + ∑ x : Fin 1024, Ideal.exp2 (s (ix2 r x) - top s m r) * (if h : d.val < 128 then v (ix3 0 x ⟨d.val, h⟩) else if d.val = 128 then (1 : EReal) else 0) := by
  pointwise [aS, k0_pay22, mN]
  rw [show Ideal.ofBits FTy.bf16 65408#16 = ⊥ from ninf16]
  refine congrArg₂ (· + ·) rfl (Finset.sum_congr rfl fun x _ => congrArg₂ (· * ·) rfl ?_)
  split
  · rfl
  · next h =>
    rw [one_col d h]
    by_cases hd : d.val = 128
    · rw [if_pos hd, if_pos hd]
      show (((1#32 : BitVec 32).toInt : ℝ) : EReal) = 1
      rw [show (1#32 : BitVec 32).toInt = 1 from rfl, Int.cast_one, EReal.coe_one]
    · rw [if_neg hd, if_neg hd]
      show (((0#32 : BitVec 32).toInt : ℝ) : EReal) = 0
      rw [show (0#32 : BitVec 32).toInt = 0 from rfl, Int.cast_zero, EReal.coe_zero]

theorem a00_at (r : Fin 1024) (d : Fin 256) : a00 (ix2 r d) = (0 : EReal) := by
  pointwise [a00, k0_pay6]
theorem m00_at (r : Fin 1024) : m00 (ix2 r 0) = (⊥ : EReal) := by
  pointwise [m00, k0_pay5]
  exact ninf32

theorem oH_at (a : AV) (r : Fin 1024) (d : Fin 128) : oH a (ix3 0 r d) = Ideal.div (a (ix2 r ⟨d.val, by omega⟩)) (a (ix2 r 128)) := by
  pointwise [oH, k0_pay116]

end Cert.KernelIdeal.Att

end
-- ==== Proof.KI.Place.lean ====
module

public import proofs.«01_k».proof.Proof.KI.Frame
public import proofs.«01_k».proof.Proof.KI.Point
public import Idealize.ShloMosaic.Lib.Pipeline.ValueKit

@[expose] public section

set_option maxRecDepth 16384
set_option Elab.async false

/-! Where each point of the grid works: its batch, its block of rows, its block of keys. -/

noncomputable section

namespace Cert.KernelIdeal.Att

open Cert.KernelIdeal Cert.KernelIdeal.Gen Idealize.ShloMosaic Idealize.SL.Sem Idealize.ShloMosaic.TcCoe

/-- The block of rows of a point, its block of keys, its batch. -/
def qN (t : Fin cfgA.N) : ℕ := (wq (crd t) qiT).toNat
def kN (t : Fin cfgA.N) : ℕ := (wk (crd t) kiT).toNat
def bN (t : Fin cfgA.N) : ℕ := t.val / 36

/-- The point before. -/
def prev (t : Fin cfgA.N) : Fin cfgA.N := ⟨t.val - 1, Nat.lt_of_le_of_lt (Nat.sub_le _ _) t.isLt⟩

theorem bN_lt (t : Fin cfgA.N) : bN t < 4 := by
  have h : t.val < 144 := t.isLt
  unfold bN; omega

/-- What the schedule says of a point. -/
abbrev PlaceAt (t : Fin cfgA.N) : Prop :=
  qN t < 8 ∧ kN t ≤ qN t ∧ (go t → kN t < qN t) ∧ (¬go t → kN t = qN t) ∧ (isF t → kN t = 0)
    ∧ (¬isF t → t.val ≠ 0 ∧ kN (prev t) + 1 = kN t ∧ qN (prev t) = qN t ∧ bN (prev t) = bN t)

theorem place_0 : ∀ t : Fin cfgA.N, 0 ≤ t.val → t.val < 18 → PlaceAt t := by decide +kernel
theorem place_1 : ∀ t : Fin cfgA.N, 18 ≤ t.val → t.val < 36 → PlaceAt t := by decide +kernel
theorem place_2 : ∀ t : Fin cfgA.N, 36 ≤ t.val → t.val < 54 → PlaceAt t := by decide +kernel
theorem place_3 : ∀ t : Fin cfgA.N, 54 ≤ t.val → t.val < 72 → PlaceAt t := by decide +kernel
theorem place_4 : ∀ t : Fin cfgA.N, 72 ≤ t.val → t.val < 90 → PlaceAt t := by decide +kernel
theorem place_5 : ∀ t : Fin cfgA.N, 90 ≤ t.val → t.val < 108 → PlaceAt t := by decide +kernel
theorem place_6 : ∀ t : Fin cfgA.N, 108 ≤ t.val → t.val < 126 → PlaceAt t := by decide +kernel
theorem place_7 : ∀ t : Fin cfgA.N, 126 ≤ t.val → t.val < 144 → PlaceAt t := by decide +kernel
theorem place : ∀ t : Fin cfgA.N, PlaceAt t := fun t => by
  have h0 : 0 ≤ t.val := Nat.zero_le _
  rcases Nat.lt_or_ge t.val 18 with h1 | h1; · exact place_0 t h0 h1
  rcases Nat.lt_or_ge t.val 36 with h2 | h2; · exact place_1 t h1 h2
  rcases Nat.lt_or_ge t.val 54 with h3 | h3; · exact place_2 t h2 h3
  rcases Nat.lt_or_ge t.val 72 with h4 | h4; · exact place_3 t h3 h4
  rcases Nat.lt_or_ge t.val 90 with h5 | h5; · exact place_4 t h4 h5
  rcases Nat.lt_or_ge t.val 108 with h6 | h6; · exact place_5 t h5 h6
  rcases Nat.lt_or_ge t.val 126 with h7 | h7; · exact place_6 t h6 h7
  exact place_7 t h7 t.isLt

theorem index0 : ∀ t : Fin cfgA.N, (cfgA.win (0 : Fin 4)).index t = ![bN t, qN t, 0] := by decide +kernel
theorem index1 : ∀ t : Fin cfgA.N, (cfgA.win (1 : Fin 4)).index t = ![bN t, kN t, 0] := by decide +kernel
theorem index2 : ∀ t : Fin cfgA.N, (cfgA.win (2 : Fin 4)).index t = ![bN t, kN t, 0] := by decide +kernel
theorem index3 : ∀ t : Fin cfgA.N, (cfgA.win (3 : Fin 4)).index t = ![bN t, qN t, 0] := by decide +kernel
theorem covers3 : (cfgA.win (3 : Fin 4)).Covers := by decide +kernel

theorem wq_eq (t : Fin cfgA.N) : wq (crd t) qiT = BitVec.ofNat 32 (qN t) := by unfold qN; rw [BitVec.ofNat_toNat, BitVec.setWidth_eq]
theorem wk_eq (t : Fin cfgA.N) : wk (crd t) kiT = BitVec.ofNat 32 (kN t) := by unfold kN; rw [BitVec.ofNat_toNat, BitVec.setWidth_eq]

variable (m : (ℓ : Loc nD τ sig) → Buf (Elt Ideal) ℓ)

/-- The arguments. -/
abbrev argQ (c : Dev nD) : S4x8192x2048.Idx → EReal := m ((c : Thread nD τ).loc main_arg0)
abbrev argV (c : Dev nD) : S4x8192x2048.Idx → EReal := m ((c : Thread nD τ).loc main_arg1)
abbrev argR (c : Dev nD) : S4x8192x128.Idx → EReal := m ((c : Thread nD τ).loc main_arg2)

theorem ib0_at (c : Dev nD) (t : Fin cfgA.N) (r d : ℕ) (hr : r < 1024) (hd : d < 2048) :
    at3 (ib0 m c t) 0 r d = at3 (argQ m c) (bN t) (1024 * qN t + r) d := by
  have hq := (place t).1
  have hk := (place t).2.1
  have hb := bN_lt t
  unfold ib0 iblk
  show V0 m c main_arg0 (((cfgA.win (0 : Fin 4)).blk t).view.emb (ix3 _ _ _)) = _
  rw [V0_arg m c main_arg0 (by decide)]
  unfold at3
  congr 1
  funext a
  apply Fin.ext
  blk_simp [index0 t]
  fin_cases a
  · show bN t * 1 + 0 % 1 = bN t % 4; omega
  · show qN t * 1024 + r % 1024 = (1024 * qN t + r) % 8192; omega
  · show 0 * 2048 + d % 2048 = d % 2048; omega
theorem ib1_at (c : Dev nD) (t : Fin cfgA.N) (r d : ℕ) (hr : r < 1024) (hd : d < 2048) :
    at3 (ib1 m c t) 0 r d = at3 (argV m c) (bN t) (1024 * kN t + r) d := by
  have hq := (place t).1
  have hk := (place t).2.1
  have hb := bN_lt t
  unfold ib1 iblk
  show V0 m c main_arg1 (((cfgA.win (1 : Fin 4)).blk t).view.emb (ix3 _ _ _)) = _
  rw [V0_arg m c main_arg1 (by decide)]
  unfold at3
  congr 1
  funext a
  apply Fin.ext
  blk_simp [index1 t]
  fin_cases a
  · show bN t * 1 + 0 % 1 = bN t % 4; omega
  · show kN t * 1024 + r % 1024 = (1024 * kN t + r) % 8192; omega
  · show 0 * 2048 + d % 2048 = d % 2048; omega
theorem ib2_at (c : Dev nD) (t : Fin cfgA.N) (r d : ℕ) (hr : r < 1024) (hd : d < 128) :
    at3 (ib2 m c t) 0 r d = at3 (argR m c) (bN t) (1024 * kN t + r) d := by
  have hq := (place t).1
  have hk := (place t).2.1
  have hb := bN_lt t
  unfold ib2 iblk
  show V0 m c main_arg2 (((cfgA.win (2 : Fin 4)).blk t).view.emb (ix3 _ _ _)) = _
  rw [V0_arg m c main_arg2 (by decide)]
  unfold at3
  congr 1
  funext a
  apply Fin.ext
  blk_simp [index2 t]
  fin_cases a
  · show bN t * 1 + 0 % 1 = bN t % 4; omega
  · show kN t * 1024 + r % 1024 = (1024 * kN t + r) % 8192; omega
  · show 0 * 128 + d % 128 = d % 128; omega

end Cert.KernelIdeal.Att

end
-- ==== Proof.KI.Fold.lean ====
module

public import proofs.«01_k».proof.Proof.KI.Place

@[expose] public section

set_option maxRecDepth 16384
set_option Elab.async false

/-! What the scratch holds after each point: over the keys seen so far, the weighted values and the sum of the weights, below a real reference point. -/

noncomputable section

namespace Cert.KernelIdeal.Att

open Cert.KernelIdeal Cert.KernelIdeal.Gen Idealize.ShloMosaic Idealize.SL.Sem Idealize.ShloMosaic.TcCoe

/-- The score of a key for a row, in one head. -/
def score (Q V : S4x8192x2048.Idx → EReal) (R : S4x8192x128.Idx → EReal) (b h r k : ℕ) : EReal :=
  (∑ d : Fin 128, at3 Q b r (256 * h + d.val) * at3 V b k (128 * h + d.val)) + ∑ d : Fin 128, at3 Q b r (256 * h + (128 + d.val)) * at3 R b k d.val

/-- The score with the keys of later chunks put out. -/
def msk (Q V : S4x8192x2048.Idx → EReal) (R : S4x8192x128.Idx → EReal) (b h r k : ℕ) : EReal :=
  if k / 64 ≤ r / 64 then score Q V R b h r k else ⊥

/-- A key's value in one head, and in the column after the values a one. -/
def vcol (V : S4x8192x2048.Idx → EReal) (b h : ℕ) (d k : ℕ) : EReal :=
  if d < 128 then at3 V b k (1024 + 128 * h + d) else if d = 128 then 1 else 0

variable (m : (ℓ : Loc nD τ sig) → Buf (Elt Ideal) ℓ)

theorem sU_blk (c : Dev nD) (t : Fin cfgA.N) (h : Fin 8) (r k : Fin 1024) :
    sU (ib0 m c t) (ib1 m c t) (ib2 m c t) h (ix2 r k) = score (argQ m c) (argV m c) (argR m c) (bN t) h.val (1024 * qN t + r.val) (1024 * kN t + k.val) := by
  have hh := h.isLt
  rw [sU_at]
  unfold score
  refine congrArg₂ (· + ·) (Finset.sum_congr rfl fun d _ => ?_) (Finset.sum_congr rfl fun d _ => ?_)
  · have hd := d.isLt
    rw [ib0_at m c t _ _ r.isLt (by omega), ib1_at m c t _ _ k.isLt (by omega)]
  · have hd := d.isLt
    rw [ib0_at m c t _ _ r.isLt (by omega), ib2_at m c t _ _ k.isLt hd]

theorem scoreAt_at (c : Dev nD) (t : Fin cfgA.N) (h : Fin 8) (r k : Fin 1024) :
    scoreAt m c t h (ix2 r k) = msk (argQ m c) (argV m c) (argR m c) (bN t) h.val (1024 * qN t + r.val) (1024 * kN t + k.val) := by
  have hr := r.isLt
  have hk := k.isLt
  obtain ⟨hq, hkq, hg, -⟩ := place t
  unfold scoreAt
  by_cases q : go t
  · rw [if_pos q, sU_blk]
    have := hg q
    unfold msk
    rw [if_pos (by omega)]
  · rw [if_neg q, sM_at, sU_blk, wq_eq, wk_eq, allow_iff _ _ hq (Nat.lt_of_le_of_lt hkq hq)]
    unfold msk
    split <;> rfl

theorem vS_blk (c : Dev nD) (t : Fin cfgA.N) (h : Fin 8) (x : Fin 1024) (d : Fin 256) :
    (if hd : d.val < 128 then vS (ib1 m c t) h (ix3 0 x ⟨d.val, hd⟩) else if d.val = 128 then (1 : EReal) else 0)
      = vcol (argV m c) (bN t) h.val d.val (1024 * kN t + x.val) := by
  have hh := h.isLt
  unfold vcol
  by_cases hd : d.val < 128
  · rw [dif_pos hd, if_pos hd, vS_at, ib1_at m c t _ _ x.isLt (by show 1024 + 128 * h.val + d.val < 2048; omega)]
  · rw [dif_neg hd, if_neg hd]

/-- One head's row after one more block of keys. -/
theorem step_row (s : FVec Ideal S1024x1024 .bf16) (v : Vec Ideal S1x1024x128 .bf16) (mm : MV) (a : AV) (r : Fin 1024)
    (S : ℕ → EReal) (hS : ∀ k, S k ≠ ⊤) (W : ℕ → ℕ → EReal) (n : ℕ)
    (hs : ∀ x : Fin 1024, s (ix2 r x) = S (n + x.val))
    (hv : ∀ (d : Fin 256) (x : Fin 1024), (if hd : d.val < 128 then v (ix3 0 x ⟨d.val, hd⟩) else if d.val = 128 then (1 : EReal) else 0) = W d.val (n + x.val))
    (hm : (n = 0 ∧ S 0 ≠ ⊥ ∧ mm (ix2 r 0) = (⊥ : EReal) ∧ ∀ d : Fin 256, a (ix2 r d) = (0 : EReal))
      ∨ ∃ μ : ℝ, mm (ix2 r 0) = (μ : EReal) ∧ ∀ d : Fin 256, a (ix2 r d) = ∑ k ∈ Finset.range n, Ideal.exp2 (S k - (μ : EReal)) * W d.val k) :
    ∃ ν : ℝ, mS s mm (ix2 r 0) = (ν : EReal) ∧ ∀ d : Fin 256, aS s v mm a (ix2 r d) = ∑ k ∈ Finset.range (n + 1024), Ideal.exp2 (S k - (ν : EReal)) * W d.val k := by
  obtain ⟨ν, hν⟩ : ∃ ν : ℝ, top s mm r = (ν : EReal) := by
    unfold top
    refine fold_max_real _ (fun x => by rw [hs]; exact hS _) _ ?_ ?_
    · rcases hm with ⟨-, -, h, -⟩ | ⟨μ, h, -⟩
      · rw [h]; exact bot_ne_top
      · rw [h]; exact EReal.coe_ne_top _
    · rcases hm with ⟨hn, h0, -, -⟩ | ⟨μ, h, -⟩
      · exact .inr ⟨0, by rw [hs, hn]; exact h0⟩
      · exact .inl (by rw [h]; exact EReal.coe_ne_bot _)
  refine ⟨ν, (mS_at s mm r).trans hν, fun d => ?_⟩
  rw [aS_at, hν, more]
  refine congrArg₂ (· + ·) ?_ (Finset.sum_congr rfl fun x _ => by rw [hs, hv])
  rcases hm with ⟨hn, -, h, ha⟩ | ⟨μ, h, ha⟩
  · rw [ha, mul_zero, hn, Finset.range_zero, Finset.sum_empty]
  · rw [h, ha, rescale S (W d.val) hS]

/-- After each point. -/
theorem after_point (c : Dev nD) (hf : ∀ b h r k, h < 8 → score (argQ m c) (argV m c) (argR m c) b h r k ≠ ⊤ ∧ score (argQ m c) (argV m c) (argR m c) b h r k ≠ ⊥)
    (n : ℕ) : ∀ t : Fin cfgA.N, t.val = n → ∀ (h : Fin 8) (r : Fin 1024), ∃ ν : ℝ, (traj m c (t.val + 1)).1 h (ix2 r 0) = (ν : EReal)
      ∧ ∀ d : Fin 256, (traj m c (t.val + 1)).2 h (ix2 r d)
          = ∑ k ∈ Finset.range (1024 * kN t + 1024), Ideal.exp2 (msk (argQ m c) (argV m c) (argR m c) (bN t) h.val (1024 * qN t + r.val) k - (ν : EReal)) * vcol (argV m c) (bN t) h.val d.val k := by
  induction n with
  | zero =>
    intro t ht h r
    rw [traj_succ]
    have q := (facts t).1 ht
    have hz := (place t).2.2.2.2.1 q
    show ∃ ν : ℝ, ptM m c t _ h (ix2 r 0) = (ν : EReal) ∧ ∀ d : Fin 256, ptA m c t _ _ h (ix2 r d) = _
    unfold ptM ptA
    rw [if_pos q, if_pos q]
    refine step_row _ _ _ _ r _ (fun k => ?_) (fun d k => vcol (argV m c) (bN t) h.val d k) _ (fun x => scoreAt_at m c t h r x) (fun d x => vS_blk m c t h x d) (.inl ⟨by rw [hz], ?_, m00_at r, fun d => a00_at r d⟩)
    · unfold msk; split
      · exact (hf _ _ _ _ h.isLt).1
      · exact bot_ne_top
    · unfold msk; rw [if_pos (by rw [Nat.zero_div]; exact Nat.zero_le _)]; exact (hf _ _ _ _ h.isLt).2
  | succ n ih =>
    intro t ht h r
    rw [traj_succ]
    show ∃ ν : ℝ, ptM m c t _ h (ix2 r 0) = (ν : EReal) ∧ ∀ d : Fin 256, ptA m c t _ _ h (ix2 r d) = _
    unfold ptM ptA
    refine step_row _ _ _ _ r _ (fun k => ?_) (fun d k => vcol (argV m c) (bN t) h.val d k) _ (fun x => scoreAt_at m c t h r x) (fun d x => vS_blk m c t h x d) ?_
    · unfold msk; split
      · exact (hf _ _ _ _ h.isLt).1
      · exact bot_ne_top
    by_cases q : isF t
    · have hz := (place t).2.2.2.2.1 q
      rw [if_pos q, if_pos q]
      refine .inl ⟨by rw [hz], ?_, m00_at r, fun d => a00_at r d⟩
      unfold msk; rw [if_pos (by rw [Nat.zero_div]; exact Nat.zero_le _)]; exact (hf _ _ _ _ h.isLt).2
    · obtain ⟨-, hk, hq, hb⟩ := (place t).2.2.2.2.2 q
      rw [if_neg q, if_neg q]
      obtain ⟨ν, h1, h2⟩ := ih (prev t) (by show t.val - 1 = n; omega) h r
      have hp : (prev t).val + 1 = t.val := by show t.val - 1 + 1 = t.val; omega
      rw [hp] at h1 h2
      rw [show 1024 * kN (prev t) + 1024 = 1024 * kN t by omega, hq, hb] at h2
      exact .inr ⟨ν, h1, h2⟩

end Cert.KernelIdeal.Att

end
-- ==== Proof.KI.Ref.lean ====
/- The reference's result, element by element. A row's output in a column is the sum, over all keys, of the key's value
   times the key's weight, and the weight is the exponential of the masked score times ln 2, less the row's largest, over
   the row's sum of those. -/
module

public import proofs.«01_k».proof.Proof.Gen.ReferenceIdeal.Read
public import proofs.«01_k».proof.Proof.KI.Fold

@[expose] public section

noncomputable section

namespace Cert.KernelIdeal.Att

open Idealize.ShloMosaic Idealize.SL.Sem Idealize.ShloMosaic.TcCoe Cert.ReferenceIdeal.Read

/-- A position over 64, as the reference divides. -/
def hdiv (x : BitVec 32) : BitVec 32 :=
  Scalar.select
    (IntOp.andi
      (IntOp.cmpi CmpIPredicate.ne (if x = 0 then 0 else if x.msb = true then -1 else 1 : BitVec 32)
        (if (64#32 : BitVec 32) = 0 then 0 else if BitVec.msb (64#32) = true then -1 else 1 : BitVec 32))
      (IntOp.cmpi CmpIPredicate.ne (IntOp.remsi ArithUnit.host x 64#32) 0#32))
    (IntOp.subi (IntOp.divsi ArithUnit.host x 64#32) 1#32) (IntOp.divsi ArithUnit.host x 64#32)

theorem hdiv_eq : ∀ n : Fin 8192, hdiv (BitVec.ofNat 32 n.val) = BitVec.ofNat 32 (n.val / 64) := by decide +kernel

theorem chunk_at (n : Fin 8192) : val_main_v12 (F := Ideal) (ix1 n) = BitVec.ofNat 32 (n.val / 64) := by
  rw [← hdiv_eq]
  pointwise [val_main_v12, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0, val_main_c, val_main_v11]
  have e : id (constantI Cert.ReferenceIdeal.S_ 32 64#32) Idealize.ShloMosaic.ix0 = 64#32 := rfl
  simp only [e]
  rfl

variable (Q V : S4x8192x2048.Idx → EReal) (R : S4x8192x128.Idx → EReal)

theorem score_at (b : Fin 4) (h : Fin 8) (r k : Fin 8192) : val_main_v13 (F := Ideal) Q V R (ix4 b h r k) = score Q V R b.val h.val r.val k.val := by
  have hh := h.isLt
  rw [val_main_v13_apply]
  pointwise [val_main_v1, val_main_v0, val_main_v10, val_main_v4, val_main_v3, val_main_v2, val_main_v9, val_main_v8, val_main_v7]
  unfold score
  congr 1
  · refine Finset.sum_congr rfl fun d _ => ?_
    have hd := d.isLt
    rw [show 256 * h.val + d.val = (⟨h.val * 256 + d.val, by omega⟩ : Fin 2048).val by show _ = h.val * 256 + d.val; omega,
      show 128 * h.val + d.val = (⟨h.val * 128 + d.val, by omega⟩ : Fin 2048).val by show _ = h.val * 128 + d.val; omega, at3_eq, at3_eq]
    rfl
  · refine Finset.sum_congr rfl fun d _ => ?_
    have hd := d.isLt
    rw [show 256 * h.val + (128 + d.val) = (⟨h.val * 256 + (128 + d.val), by omega⟩ : Fin 2048).val by show _ = h.val * 256 + (128 + d.val); omega, at3_eq, at3_eq]
    rfl

theorem two_bits : Ideal.ofBits FTy.f32 1073741824#32 = ((2 : ℝ) : EReal) := by
  simp [Ideal.ofBits, Ideal.ieee]
  rw [← EReal.coe_mul]; norm_num

theorem log_two : Ideal.log (Ideal.ofBits FTy.f32 1073741824#32) = ((Real.log 2 : ℝ) : EReal) := by
  rw [two_bits, Ideal.log_coe, if_neg (by norm_num)]

theorem logit_at (b : Fin 4) (h : Fin 8) (r k : Fin 8192) :
    val_main_v25 (F := Ideal) Q V R (ix4 b h r k) = msk Q V R b.val h.val r.val k.val * ((Real.log 2 : ℝ) : EReal) := by
  pointwise [val_main_v25, val_main_call1_v0, val_main_call1_v1, val_main_call1_v2, val_main_cst_0, val_main_v24, val_main_v23, val_main_v22, val_main_v21, val_main_v20, val_main_v19, val_main_v18, val_main_v17, val_main_v16, val_main_v15, val_main_v14, val_main_cst]
  rw [chunk_at, chunk_at, sle_small _ _ (by omega) (by omega), score_at, log_two]
  unfold msk
  by_cases hc : k.val / 64 ≤ r.val / 64
  · rw [if_pos hc, if_pos hc]; rfl
  · rw [if_neg hc, if_neg hc, EReal.bot_mul_coe_of_pos (Real.log_pos (by norm_num))]
    exact ninf32

theorem top_at (b : Fin 4) (h : Fin 8) (r : Fin 8192) :
    val_main_v28 (F := Ideal) Q V R (ix3 b h r) = max ⊥ (Finset.fold max ⊥ (fun k : Fin 8192 => msk Q V R b.val h.val r.val k.val * ((Real.log 2 : ℝ) : EReal)) Finset.univ) := by
  have e1 : val_main_v27 (F := Ideal) (ix3 b h r) = (⊥ : EReal) := by
    pointwise [val_main_v27, val_main_cst_2]; exact ninf32
  have e2 : val_main_v26 (F := Ideal) Q V R (ix3 b h r) = Finset.fold max ⊥ (fun k : Fin 8192 => msk Q V R b.val h.val r.val k.val * ((Real.log 2 : ℝ) : EReal)) Finset.univ := by
    have e0 : (fun k => val_main_v25 (F := Ideal) Q V R (ix4 b h r k)) = (fun k : Fin 8192 => msk Q V R b.val h.val r.val k.val * ((Real.log 2 : ℝ) : EReal)) :=
      funext fun k => logit_at Q V R b h r k
    rw [← e0]
    unfold val_main_v26
    generalize val_main_v25 (F := Ideal) Q V R = y
    refine (Host.reduce_eq_fold_single (α := EReal) (s := Cert.ReferenceIdeal.S4x8x8192x8192) (t := Cert.ReferenceIdeal.S4x8x8192) (a := 3) max y
      (val_main_cst_1 (F := Ideal)) Cert.ReferenceIdeal.Gen.reducesTo_S4x8x8192x8192_S4x8x8192_d3 (by decide) Cert.ReferenceIdeal.Gen.h_S_ (ix3 b h r)).trans ?_
    have e3 : val_main_cst_1 (F := Ideal) (Shape.Idx.first Cert.ReferenceIdeal.Gen.h_S_) = (⊥ : EReal) := ninf32
    rw [e3]
    refine congrArg (fun g => Finset.fold max ⊥ g Finset.univ) (funext fun k => ?_)
    exact congrArg y (funext fun a => Fin.ext (by match a with | ⟨0, _⟩ => rfl | ⟨1, _⟩ => rfl | ⟨2, _⟩ => rfl | ⟨3, _⟩ => rfl))
  rw [val_main_v28_apply, e1, e2]
  rfl

theorem weight_at (b : Fin 4) (h : Fin 8) (r k : Fin 8192) :
    val_main_v38 (F := Ideal) Q V R (ix4 b h r k)
      = Ideal.div (Ideal.exp (val_main_v25 (F := Ideal) Q V R (ix4 b h r k) - val_main_v28 (F := Ideal) Q V R (ix3 b h r)))
          (∑ j : Fin 8192, Ideal.exp (val_main_v25 (F := Ideal) Q V R (ix4 b h r j) - val_main_v28 (F := Ideal) Q V R (ix3 b h r))) := by
  pointwise [val_main_v38, val_main_v37, val_main_v36, val_main_v35, val_main_v34, val_main_v33, val_main_v32, val_main_v31, val_main_v30, val_main_v29, val_main_cst_3]

theorem out_at (b : Fin 4) (r : Fin 8192) (c : Fin 1024) :
    val_main_v42 (F := Ideal) Q V R (ix3 b r c) = ∑ k : Fin 8192, at3 V b.val k.val (1024 + c.val) * val_main_v38 (F := Ideal) Q V R (ix4 b ⟨c.val / 128, by omega⟩ r k) := by
  have hc := c.isLt
  pointwise [val_main_v42, val_main_v41, val_main_v40, val_main_v39, val_main_v6, val_main_v5, val_main_v2]
  refine Finset.sum_congr rfl fun k _ => ?_
  generalize val_main_v38 (F := Ideal) Q V R (ix4 b ⟨c.val / 128, by omega⟩ r k) = w
  have e : at3 V b.val k.val (1024 + c.val) = V (ix3 b k ⟨1024 + c.val, by omega⟩) := at3_eq V b k ⟨1024 + c.val, by omega⟩
  rw [e]

/-- The reference's result, over the masked scores. -/
theorem ref_at (hf : ∀ b h r k, h < 8 → score Q V R b h r k ≠ ⊤ ∧ score Q V R b h r k ≠ ⊥) (b : Fin 4) (r : Fin 8192) (c : Fin 1024) :
    ∃ M : ℝ, val_main_v42 (F := Ideal) Q V R (ix3 b r c)
      = ∑ k ∈ Finset.range 8192, at3 V b.val k (1024 + c.val)
          * Ideal.div (Ideal.exp (msk Q V R b.val (c.val / 128) r.val k * ((Real.log 2 : ℝ) : EReal) - (M : EReal)))
              (∑ j ∈ Finset.range 8192, Ideal.exp (msk Q V R b.val (c.val / 128) r.val j * ((Real.log 2 : ℝ) : EReal) - (M : EReal))) := by
  have hc := c.isLt
  have hl : (0 : ℝ) < Real.log 2 := Real.log_pos (by norm_num)
  have h8 : c.val / 128 < 8 := by omega
  have fin : ∀ x : EReal, x ≠ ⊤ → x ≠ ⊥ → x * ((Real.log 2 : ℝ) : EReal) ≠ ⊤ ∧ x * ((Real.log 2 : ℝ) : EReal) ≠ ⊥ := by
    intro x h1 h2
    lift x to ℝ using ⟨h1, h2⟩
    rw [← EReal.coe_mul]; exact ⟨EReal.coe_ne_top _, EReal.coe_ne_bot _⟩
  obtain ⟨M, hM⟩ := fold_max_real (fun k : Fin 8192 => msk Q V R b.val (c.val / 128) r.val k.val * ((Real.log 2 : ℝ) : EReal))
    (fun k => by
      show msk Q V R b.val (c.val / 128) r.val k.val * _ ≠ ⊤
      unfold msk
      split
      · exact (fin _ (hf _ _ _ _ h8).1 (hf _ _ _ _ h8).2).1
      · rw [EReal.bot_mul_coe_of_pos hl]; exact bot_ne_top)
    ⊥ bot_ne_top
    (.inr ⟨0, by
      show msk Q V R b.val (c.val / 128) r.val 0 * _ ≠ ⊥
      unfold msk
      rw [if_pos (by omega)]
      exact (fin _ (hf _ _ _ _ h8).1 (hf _ _ _ _ h8).2).2⟩)
  refine ⟨M, ?_⟩
  rw [out_at, Finset.sum_range, Finset.sum_range]
  refine Finset.sum_congr rfl fun k _ => ?_
  rw [weight_at, top_at, hM]
  simp only [logit_at]

end Cert.KernelIdeal.Att

end

end
-- ==== Proof.KI.Out.lean ====
/- The output array. Each block is written back at its row's last key block, where the rows hold the sums over every key
   the rows may see; so the array is the reference's result of the arguments. -/
module

public import proofs.«01_k».proof.Proof.KI.Ref
public import Idealize.ShloMosaic.Lib.Pipeline.ValueKit

@[expose] public section

noncomputable section

namespace Cert.KernelIdeal.Att

open Idealize.ShloMosaic Idealize.SL.Sem Idealize.ShloMosaic.TcCoe

variable (m : (ℓ : Loc nD τ sig) → Buf (Elt Ideal) ℓ)

/-- The scores are real numbers. -/
abbrev Real3 (Q V : S4x8192x2048.Idx → EReal) (R : S4x8192x128.Idx → EReal) : Prop :=
  ∀ b h r k, h < 8 → score Q V R b h r k ≠ ⊤ ∧ score Q V R b h r k ≠ ⊥

/-- The quotient of a row's sums over the keys up to its own key block is the reference's element. -/
theorem quot_at (Q V : S4x8192x2048.Idx → EReal) (R : S4x8192x128.Idx → EReal) (hf : Real3 Q V R) (A : AV) (q : ℕ) (hq : q < 8) (r d : Fin 1024)
    (b : Fin 4) (g : Fin 8192) (hg : g.val = 1024 * q + r.val) (ν : ℝ)
    (hA : ∀ e : Fin 256, A (ix2 r e) = ∑ k ∈ Finset.range (1024 * q + 1024),
      Ideal.exp2 (msk Q V R b.val (d.val / 128) g.val k - (ν : EReal)) * vcol V b.val (d.val / 128) e.val k) :
    Ideal.div (A (ix2 r ⟨d.val % 128, by omega⟩)) (A (ix2 r 128)) = Cert.ReferenceIdeal.Read.val_main_v42 (F := Ideal) Q V R (ix3 b g d) := by
  have hd := d.isLt
  have hr := r.isLt
  have h8 : d.val / 128 < 8 := by omega
  obtain ⟨M, hM⟩ := ref_at Q V R hf b g d
  have s1 : A (ix2 r ⟨d.val % 128, by omega⟩) = ∑ k ∈ Finset.range (1024 * q + 1024),
      Ideal.exp2 (msk Q V R b.val (d.val / 128) g.val k - (ν : EReal)) * at3 V b.val k (1024 + d.val) := by
    rw [hA]
    refine Finset.sum_congr rfl fun k _ => congrArg _ ?_
    show vcol V b.val (d.val / 128) (d.val % 128) k = _
    unfold vcol
    rw [if_pos (by omega), show 1024 + 128 * (d.val / 128) + d.val % 128 = 1024 + d.val by omega]
  have s2 : A (ix2 r 128) = ∑ k ∈ Finset.range (1024 * q + 1024),
      Ideal.exp2 (msk Q V R b.val (d.val / 128) g.val k - (ν : EReal)) * 1 := by
    rw [hA]
    refine Finset.sum_congr rfl fun k _ => congrArg _ ?_
    show vcol V b.val (d.val / 128) 128 k = _
    unfold vcol
    rw [if_neg (by omega), if_pos rfl]
  rw [s1, s2, hM]
  refine softmax_two (fun k => msk Q V R b.val (d.val / 128) g.val k)
    (fun k => at3 V b.val k (1024 + d.val)) ?_ (1024 * q + 1024) 8192 (by omega) ?_ 0 (by omega) ?_ ν M
  · intro k
    show msk _ _ _ _ _ _ k ≠ ⊤
    unfold msk
    split
    · exact (hf _ _ _ _ h8).1
    · exact bot_ne_top
  · intro k h1 _
    show msk _ _ _ _ _ _ k = ⊥
    unfold msk
    rw [if_neg (by omega)]
  · show msk _ _ _ _ _ _ 0 ≠ ⊥
    unfold msk
    rw [if_pos (by omega)]
    exact (hf _ _ _ _ h8).2

theorem outV_at (A : Fin 8 → AV) (r d : Fin 1024) :
    outV A (ix3 0 r d) = Ideal.div (A ⟨d.val / 128, by omega⟩ (ix2 r ⟨d.val % 128, by omega⟩)) (A ⟨d.val / 128, by omega⟩ (ix2 r 128)) := by
  rw [← oH_at (A ⟨d.val / 128, by omega⟩) r ⟨d.val % 128, by omega⟩]
  unfold outV
  refine congrArg (oH (A ⟨d.val / 128, by omega⟩)) (funext fun a => ?_)
  match a with
  | ⟨0, _⟩ => rfl
  | ⟨1, _⟩ => rfl
  | ⟨2, _⟩ => rfl

/-- A written element is the reference's. -/
theorem flush_at (c : Dev nD) (hf : Real3 (argQ m c) (argV m c) (argR m c)) (t : Fin cfgA.N) (hg : ¬ go t) (r d : Fin 1024)
    (b : Fin 4) (g : Fin 8192) (hb : b.val = bN t) (hgv : g.val = 1024 * qN t + r.val) :
    outV (traj m c (t.val + 1)).2 (ix3 0 r d) = Cert.ReferenceIdeal.Read.val_main_v42 (F := Ideal) (argQ m c) (argV m c) (argR m c) (ix3 b g d) := by
  have hd := d.isLt
  obtain ⟨ν, -, hA⟩ := after_point m c hf t.val t rfl ⟨d.val / 128, by omega⟩ r
  rw [(place t).2.2.2.1 hg] at hA
  rw [← hb, ← hgv] at hA
  rw [outV_at]
  exact quot_at _ _ _ hf _ (qN t) (place t).1 r d b g hgv ν hA

theorem emb3 (t : Fin cfgA.N) (r d : Fin 1024) :
    ((cfgA.win (3 : Fin 4)).blk t).view.emb (ix3 0 r d : (⟨3, ![1, 1024, 1024]⟩ : Shape).Idx)
      = ix3 ⟨bN t, bN_lt t⟩ ⟨1024 * qN t + r.val, by have := (place t).1; omega⟩ d := by
  have hq := (place t).1
  funext a
  apply Fin.ext
  blk_simp [index3 t]
  fin_cases a
  · show bN t * 1 + 0 = bN t; omega
  · show qN t * 1024 + r.val = 1024 * qN t + r.val; omega
  · show 0 * 1024 + d.val = d.val; omega

theorem out_array (c : Dev nD) (hf : Real3 (argQ m c) (argV m c) (argR m c)) :
    (dats m 0 c).arrAt (3 : Fin 4) cfgA.N = Cert.ReferenceIdeal.Read.val_main_v42 (F := Ideal) (argQ m c) (argV m c) (argR m c) := by
  refine (dats m 0 c).arrAt_eq_of_covers (3 : Fin 4) _ covers3 fun t ht y => ?_
  blk_simp
  rw [after3]
  obtain ⟨a, r, d, rfl⟩ : ∃ (a : Fin 1) (r d : Fin 1024), y = (ix3 a r d : (⟨3, ![1, 1024, 1024]⟩ : Shape).Idx) :=
    ⟨y 0, y 1, y 2, funext fun a => by match a with | ⟨0, _⟩ => rfl | ⟨1, _⟩ => rfl | ⟨2, _⟩ => rfl⟩
  have ha : a = 0 := Subsingleton.elim _ _
  subst ha
  rw [emb3]
  refine flush_at m c hf t ?_ r d _ _ rfl rfl
  intro hg
  rcases (facts t).2 with h | h
  · exact absurd (h.2.2.2.symm.trans ht) (by decide)
  · exact h.1 hg

end Cert.KernelIdeal.Att

end

end
-- ==== Proof.KI.Pre.lean ====
/- What the precondition gives: the queries and the keys are real numbers, so the scores are. -/
module

public import proofs.«01_k».proof.Defs
public import proofs.«01_k».proof.Proof.Gen.Pre_finite_scores
public import proofs.«01_k».proof.Proof.KI.Out
public import Idealize.ShloMosaic.Lib.ReduceAll

@[expose] public section

noncomputable section

namespace Cert.KernelIdeal.Att

open Idealize.ShloMosaic Idealize.SL.Sem Idealize.ShloMosaic.TcCoe

/-- A number below infinity in magnitude is real. -/
theorem real_of_abs (x : EReal) (h : FloatOps.cmpf (F := Ideal) (φ := .f32) .olt (max x (-x) : EReal) (Ideal.ofBits .f32 0x7F800000#32) = 1#1) :
    ∃ r : ℝ, x = (r : EReal) := by
  have hi : Ideal.ofBits .f32 0x7F800000#32 = (⊤ : EReal) := by simp [Ideal.ofBits, Ideal.ieee]
  rw [hi] at h
  induction x using EReal.rec with
  | coe r => exact ⟨r, rfl⟩
  | bot => exact absurd h (by simp [Ideal.cmpf_def, Ideal.cmp])
  | top => exact absurd h (by simp [Ideal.cmpf_def, Ideal.cmp])

theorem sum_real {n : ℕ} (f : Fin n → EReal) (h : ∀ k, ∃ r : ℝ, f k = (r : EReal)) : ∃ r : ℝ, ∑ k, f k = (r : EReal) := by
  induction n with
  | zero => exact ⟨0, by simp⟩
  | succ n ih =>
    obtain ⟨a, ha⟩ := ih (fun k => f k.castSucc) fun k => h _
    obtain ⟨b, hb⟩ := h (Fin.last n)
    exact ⟨a + b, by rw [Fin.sum_univ_castSucc, ha, hb, EReal.coe_add]⟩

theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem parts (Q V : S4x8192x2048.Idx → EReal) (R : S4x8192x128.Idx → EReal)
    (h : Cert.Pre_finite_scores.fn (F := Ideal) Q V R = fun _ => 1#1) :
    (∀ i, ∃ r : ℝ, Q i = (r : EReal)) ∧ (∀ (b : Fin 4) (k : Fin 8192) (c : Fin 1024), ∃ r : ℝ, V (ix3 b k ⟨c.val, by omega⟩) = (r : EReal))
      ∧ ∀ i, ∃ r : ℝ, R i = (r : EReal) := by
  have e := congrFun h Idealize.ShloMosaic.ix0
  dsimp only [Cert.Pre_finite_scores.fn] at e
  obtain ⟨e1, eR⟩ := IntOp.andi_eq_one.1 e
  obtain ⟨eQ, eV⟩ := IntOp.andi_eq_one.1 e1
  refine ⟨fun i => ?_, fun b k c => ?_, fun i => ?_⟩
  · have q := Host.reduce_andi_all _ _ _ _ _ eQ i
    refine real_of_abs _ ?_
    exact q
  · have q := Host.reduce_andi_all _ _ _ _ _ eV (ix3 b k c)
    refine real_of_abs _ ?_
    pointwise [] at q
    exact q
  · have q := Host.reduce_andi_all _ _ _ _ _ eR i
    refine real_of_abs _ ?_
    exact q

theorem scores_real (Q V : S4x8192x2048.Idx → EReal) (R : S4x8192x128.Idx → EReal)
    (h : Cert.Pre_finite_scores.fn (F := Ideal) Q V R = fun _ => 1#1) : Real3 Q V R := by
  intro b g r k hg
  obtain ⟨hQ, hV, hR⟩ := parts Q V R h
  have hs : ∃ x : ℝ, score Q V R b g r k = (x : EReal) := by
    unfold score
    obtain ⟨a, ha⟩ := sum_real (fun d : Fin 128 => at3 Q b r (256 * g + d.val) * at3 V b k (128 * g + d.val)) fun d => by
      refine mul_real (hQ _) ?_
      have hd := d.isLt
      obtain ⟨x, hx⟩ := hV (Fin.ofNat 4 b) (Fin.ofNat 8192 k) ⟨128 * g + d.val, by omega⟩
      refine ⟨x, hx ▸ ?_⟩
      unfold at3
      refine congrArg V (congrArg (ix3 _ _) (Fin.ext ?_))
      show (128 * g + d.val) % 2048 = 128 * g + d.val
      omega
    obtain ⟨a', ha'⟩ := sum_real (fun d : Fin 128 => at3 Q b r (256 * g + (128 + d.val)) * at3 R b k d.val) fun d => mul_real (hQ _) (hR _)
    exact ⟨a + a', by rw [ha, ha', EReal.coe_add]⟩
  obtain ⟨x, hx⟩ := hs
  rw [hx]
  exact ⟨EReal.coe_ne_top _, EReal.coe_ne_bot _⟩

end Cert.KernelIdeal.Att

end

end
-- ==== Proof.IP.Spec.lean ====
/- One row of the projection, spelt with scalars: what the reference's eight results are, of the row's 3664 projected
   values `p` and of its place `l` in the sequence. -/
module

public import proofs.«01_k».proof.Proof.Gen.InProjRefIdeal.Read
public import Idealize.ShloMosaic.Lib.Pointwise

@[expose] public section

set_option Elab.async false

noncomputable section

namespace Cert.InProjIdeal.Rows

open Cert.InProjRefIdeal Cert.InProjRefIdeal.Gen Cert.InProjRefIdeal.Read Idealize.ShloMosaic

/-- The angle of lane `j` at place `l`. -/
def ang (l j : ℕ) : EReal :=
  FloatOps.sitofp (F := Ideal) FTy.f32 (BitVec.ofNat 32 l) * Ideal.pow (Ideal.ofBits FTy.f32 1176256512#32)
    (Ideal.div (-FloatOps.sitofp (F := Ideal) FTy.f32 (BitVec.ofNat 32 j)) (Ideal.ofBits FTy.f32 1107296256#32))

/-- Sixty-four lanes turned by their angles, the two halves paired. -/
def rot (u : ℕ → EReal) (l d : ℕ) : EReal :=
  if d < 32 then u d * Ideal.cos (ang l d) - u (32 + d) * Ideal.sin (ang l d)
  else u (d - 32) * Ideal.sin (ang l (d - 32)) + u (32 + (d - 32)) * Ideal.cos (ang l (d - 32))

/-- The factor of 512 lanes normalised by their mean square. -/
def rmsf (u : ℕ → EReal) : EReal :=
  Ideal.rsqrt (Ideal.div (∑ x : Fin 512, u x * u x) (Ideal.ofBits FTy.f32 1140850688#32) + Ideal.ofBits FTy.f32 897988541#32)

/-- The softplus of a value. -/
def sp (u : EReal) : EReal := max u 0 + Ideal.log1p (Ideal.exp (-FloatOps.absf (F := Ideal) (φ := .f32) u))

/-- The query latent, normalised. -/
def qn (p : ℕ → EReal) (g : S1x512.Idx → EReal) (x : Fin 512) : EReal := p x * rmsf p * g (ix2 0 x)

/-- The latent of keys and values, normalised. -/
def lat (p : ℕ → EReal) (g : S1x512.Idx → EReal) (x : Fin 512) : EReal := p (512 + x) * rmsf (fun x => p (512 + x)) * g (ix2 0 x)

/-- A weight of the queries. -/
def wq (w : S1x512x1536.Idx → EReal) (x : Fin 512) (j : ℕ) : EReal := if h : j < 1536 then w (ix3 0 x ⟨j, h⟩) else 0

/-- Element `j` of head `h` of the queries, scaled. -/
def qd (p : ℕ → EReal) (g : S1x512.Idx → EReal) (w : S1x512x1536.Idx → EReal) (h j : ℕ) : EReal :=
  (∑ x : Fin 512, qn p g x * wq w x (h * 192 + j)) * Ideal.ofBits FTy.f32 1037384597#32

/-- Column `k` of the queries. -/
def qS (p : ℕ → EReal) (g : S1x512.Idx → EReal) (w : S1x512x1536.Idx → EReal) (l k : ℕ) : EReal :=
  if k % 256 < 128 then qd p g w (k / 256) (k % 256)
  else if k % 256 - 128 < 64 then rot (fun d => qd p g w (k / 256) (128 + d)) l (k % 256 - 128) else 0

/-- Column `k` of the keys and values. -/
def kvS (p : ℕ → EReal) (g : S1x512.Idx → EReal) (wk wv : S1x512x8x128.Idx → EReal) (k : Fin 2048) : EReal :=
  if h : k.val < 1024 then ∑ x : Fin 512, lat p g x * wk (ix4 0 x ⟨k.val / 128, by omega⟩ ⟨k.val % 128, by omega⟩)
  else ∑ x : Fin 512, lat p g x * wv (ix4 0 x ⟨(k.val - 1024) / 128, by omega⟩ ⟨(k.val - 1024) % 128, by omega⟩)

/-- Lane `d` of the rotated key. -/
def krS (p : ℕ → EReal) (l d : ℕ) : EReal := rot (fun d => p (1024 + d)) l d

/-- Lane `k` of the step sizes. -/
def dtS (p : ℕ → EReal) (g : S1x16.Idx → EReal) (k : Fin 128) : EReal :=
  if h : k.val < 16 then sp (p (3648 + k) + g (ix2 0 ⟨k, h⟩)) else 0

/-- Element `c` of a row of the projection. -/
def pr (x0 : S4x8192x2048.Idx → EReal) (x1 x2 : S2048.Idx → EReal) (x3 : S1x2048x3664.Idx → EReal) (b : Fin 4) (l : Fin 8192) (c : ℕ) : EReal :=
  if h : c < 3664 then val_main_v23 (F := Ideal) x0 x1 x2 x3 (ix3 b l ⟨c, h⟩) else 0

end Cert.InProjIdeal.Rows
-- ==== Proof.IP.Host.lean ====
/- What the windows of the projection read: the arrays prepared before the launch, an element at a time. -/
module

public import proofs.«01_k».proof.Proof.Gen.InProjIdeal.Frame
public import proofs.«01_k».proof.Proof.IP.Spec
public import Idealize.ShloMosaic.Lib.StableHlo.ReadAt

@[expose] public section

set_option Elab.async false
set_option maxRecDepth 16384

noncomputable section

namespace Cert.InProjIdeal.Rows

open Cert.InProjIdeal Cert.InProjIdeal.Gen Idealize.ShloMosaic Idealize.ShloMosaic.TcCoe

variable (m : (ℓ : Loc nD τ sig) → Buf (Elt Ideal) ℓ)

/-- The arguments. -/
abbrev g0 (c : Dev nD) : S4x8192x2048.Idx → EReal := m (c, Proc.tc.devRef main_arg0)
abbrev g1 (c : Dev nD) : S2048.Idx → EReal := m (c, Proc.tc.devRef main_arg1)
abbrev g2 (c : Dev nD) : S2048.Idx → EReal := m (c, Proc.tc.devRef main_arg2)
abbrev g3 (c : Dev nD) : S1x2048x3664.Idx → EReal := m (c, Proc.tc.devRef main_arg3)
abbrev g4 (c : Dev nD) : S1x512.Idx → EReal := m (c, Proc.tc.devRef main_arg4)
abbrev g5 (c : Dev nD) : S1x512x1536.Idx → EReal := m (c, Proc.tc.devRef main_arg5)
abbrev g6 (c : Dev nD) : S1x512.Idx → EReal := m (c, Proc.tc.devRef main_arg6)
abbrev g7 (c : Dev nD) : S1x512x8x128.Idx → EReal := m (c, Proc.tc.devRef main_arg7)
abbrev g8 (c : Dev nD) : S1x512x8x128.Idx → EReal := m (c, Proc.tc.devRef main_arg8)
abbrev g9 (c : Dev nD) : S1x16.Idx → EReal := m (c, Proc.tc.devRef main_arg9)

/-- A weight of the projection. -/
def w3 (w : S1x2048x3664.Idx → EReal) (j : Fin 2048) (c : ℕ) : EReal := if h : c < 3664 then w (ix3 0 j ⟨c, h⟩) else 0

theorem w3_of (w : S1x2048x3664.Idx → EReal) (j : Fin 2048) (c : Fin 3664) : w (ix3 0 j c) = w3 w j c.val := by
  unfold w3
  rw [dif_pos c.isLt]

theorem wq_at (w : S1x512x1536.Idx → EReal) (x : Fin 512) (j : Fin 1536) : w (ix3 0 x j) = wq w x j.val := by
  unfold wq
  rw [dif_pos j.isLt]

/-- Column `k` of the prepared projection, of the columns of the one given. -/
def col (p : ℕ → EReal) (k : ℕ) : EReal :=
  if k < 512 then p k
  else if k - 512 < 512 then p (512 + (k - 512))
  else if k - 512 - 512 < 1024 then p (1088 + (k - 512 - 512))
  else if k - 512 - 512 - 1024 < 1536 then p (2112 + (k - 512 - 512 - 1024))
  else if k - 512 - 512 - 1024 - 1536 < 64 then p (1024 + (k - 512 - 512 - 1024 - 1536))
  else if k - 512 - 512 - 1024 - 1536 - 64 < 64 then 0
  else if k - 512 - 512 - 1024 - 1536 - 64 - 64 < 16 then p (3648 + (k - 512 - 512 - 1024 - 1536 - 64 - 64))
  else 0

/-- Lane `k` of the table of cosines, and of the signed sines. -/
def cosS (l k : ℕ) : EReal := if k < 32 then Ideal.cos (ang l k) else if k - 32 < 32 then Ideal.cos (ang l (k - 32)) else 0
def sinS (l k : ℕ) : EReal := if k < 32 then -Ideal.sin (ang l k) else if k - 32 < 32 then Ideal.sin (ang l (k - 32)) else 0

theorem sitofp0 : FloatOps.sitofp (F := Ideal) FTy.f32 (0#32) = (0 : EReal) := by
  show ((((0#32 : BitVec 32).toInt : ℤ) : ℝ) : EReal) = 0
  simp

theorem v34_at (c : Dev nD) (i : Fin 32768) (k : Fin 2048) :
    (V m c main_v34 : S32768x2048.Idx → EReal) (ix2 i k) = g0 m c (ix3 ⟨i.val / 8192, by omega⟩ ⟨i.val % 8192, by omega⟩ k) := by
  unfold V
  simp only [hostOps0, hostOps0_1, hostOps0_2, List.flatten_cons, List.flatten_nil, List.cons_append, List.nil_append, List.append_nil]
  after_reads_simp
  pointwise []

theorem v21_at (c : Dev nD) (i : Fin 1) (k : Fin 2048) :
    (V m c main_v21 : S1x2048.Idx → EReal) (ix2 i k) = g1 m c (ix1 k) := by
  unfold V
  simp only [hostOps0, hostOps0_1, hostOps0_2, List.flatten_cons, List.flatten_nil, List.cons_append, List.nil_append, List.append_nil]
  after_reads_simp
  pointwise []

theorem v22_at (c : Dev nD) (i : Fin 1) (k : Fin 2048) :
    (V m c main_v22 : S1x2048.Idx → EReal) (ix2 i k) = g2 m c (ix1 k) := by
  unfold V
  simp only [hostOps0, hostOps0_1, hostOps0_2, List.flatten_cons, List.flatten_nil, List.cons_append, List.nil_append, List.append_nil]
  after_reads_simp
  pointwise []

theorem v23_at (c : Dev nD) (i : Fin 2048) (k : Fin 3840) :
    (V m c main_v23 : S2048x3840.Idx → EReal) (ix2 i k) = col (w3 (g3 m c) i) k.val := by
  unfold V
  simp only [hostOps0, hostOps0_1, hostOps0_2, List.flatten_cons, List.flatten_nil, List.cons_append, List.nil_append, List.append_nil]
  after_reads_simp
  pointwise []
  after_reads_simp
  pointwise []
  simp only [show ∀ j a, (m (c, Proc.tc.devRef main_arg3) : S1x2048x3664.Idx → EReal) (ix3 0 j a) = w3 (g3 m c) j a.val from fun j a => w3_of _ j a, dite_eq_ite]
  rfl

theorem v24_at (c : Dev nD) (i : Fin 1) (k : Fin 512) :
    (V m c main_v24 : S1x512.Idx → EReal) (ix2 i k) = g4 m c (ix2 0 k) := by
  unfold V
  simp only [hostOps0, hostOps0_1, hostOps0_2, List.flatten_cons, List.flatten_nil, List.cons_append, List.nil_append, List.append_nil]
  after_reads_simp
  pointwise []

theorem v25_at (c : Dev nD) (i : Fin 1) (k : Fin 512) :
    (V m c main_v25 : S1x512.Idx → EReal) (ix2 i k) = g6 m c (ix2 0 k) := by
  unfold V
  simp only [hostOps0, hostOps0_1, hostOps0_2, List.flatten_cons, List.flatten_nil, List.cons_append, List.nil_append, List.append_nil]
  after_reads_simp
  pointwise []

theorem v27_at (c : Dev nD) (i : Fin 512) (k : Fin 2048) :
    (V m c main_v27 : S512x2048.Idx → EReal) (ix2 i k) = if k.val % 256 < 192 then wq (g5 m c) i (k.val / 256 * 192 + k.val % 256) * Ideal.ofBits FTy.f32 1037384597#32 else 0 := by
  unfold V
  simp only [hostOps0, hostOps0_1, hostOps0_2, List.flatten_cons, List.flatten_nil, List.cons_append, List.nil_append, List.append_nil]
  after_reads_simp
  pointwise []
  after_reads_simp
  pointwise []
  simp only [show ∀ j a, (m (c, Proc.tc.devRef main_arg5) : S1x512x1536.Idx → EReal) (ix3 0 j a) = wq (g5 m c) j a.val from fun j a => wq_at _ j a, dite_eq_ite]

theorem v31_at (c : Dev nD) (i : Fin 512) (k : Fin 2048) :
    (V m c main_v31 : S512x2048.Idx → EReal) (ix2 i k) = if h : k.val < 1024 then g7 m c (ix4 0 i ⟨k.val / 128, by omega⟩ ⟨k.val % 128, by omega⟩)
      else g8 m c (ix4 0 i ⟨(k.val - 1024) / 128, by omega⟩ ⟨(k.val - 1024) % 128, by omega⟩) := by
  unfold V
  simp only [hostOps0, hostOps0_1, hostOps0_2, List.flatten_cons, List.flatten_nil, List.cons_append, List.nil_append, List.append_nil]
  after_reads_simp
  pointwise []
  after_reads_simp
  pointwise []

theorem v33_at (c : Dev nD) (i : Fin 1) (k : Fin 128) :
    (V m c main_v33 : S1x128.Idx → EReal) (ix2 i k) = if h : k.val < 16 then g9 m c (ix2 0 ⟨k.val, h⟩) else 0 := by
  unfold V
  simp only [hostOps0, hostOps0_1, hostOps0_2, List.flatten_cons, List.flatten_nil, List.cons_append, List.nil_append, List.append_nil]
  after_reads_simp
  simp -implicitDefEqProofs only [StableHlo.TRef.toBuf, StableHlo.TRef.ofBuf, cast_cast, cast_eq]
  pointwise []
  simp only [sitofp0]

theorem v51_at (c : Dev nD) (i : Fin 8192) (k : Fin 128) :
    (V m c main_v51 : S8192x128.Idx → EReal) (ix2 i k) = cosS i.val k.val := by
  unfold V
  simp only [hostOps0, hostOps0_1, hostOps0_2, List.flatten_cons, List.flatten_nil, List.cons_append, List.nil_append, List.append_nil]
  after_reads_simp
  pointwise []
  after_reads_simp
  pointwise []
  simp only [dite_eq_ite]
  rfl

theorem v53_at (c : Dev nD) (i : Fin 8192) (k : Fin 128) :
    (V m c main_v53 : S8192x128.Idx → EReal) (ix2 i k) = sinS i.val k.val := by
  unfold V
  simp only [hostOps0, hostOps0_1, hostOps0_2, List.flatten_cons, List.flatten_nil, List.cons_append, List.nil_append, List.append_nil]
  after_reads_simp
  pointwise []
  after_reads_simp
  pointwise []
  simp only [dite_eq_ite]
  rfl

end Cert.InProjIdeal.Rows
-- ==== Proof.IP.Body.lean ====
/- One block of the projection: what the body leaves in its eight buffers, of what the eleven windows hold. -/
module

public import proofs.«01_k».proof.Proof.IP.Host
public import Idealize.ShloMosaic.Lib.Pipeline.ValueKit

@[expose] public section

set_option Elab.async false
set_option maxRecDepth 16384

noncomputable section

namespace Cert.InProjIdeal.Rows

open Cert.InProjIdeal Cert.InProjIdeal.Gen Idealize.ShloMosaic

/-! ## Scalars -/

theorem col_q (p : ℕ → EReal) (x : ℕ) (h : x < 512) : col p x = p x := by
  unfold col; rw [if_pos h]

theorem col_kv (p : ℕ → EReal) (x : ℕ) (h : x < 512) : col p (512 + x) = p (512 + x) := by
  unfold col; rw [if_neg (by omega), if_pos (by omega)]; congr 1; omega

theorem col_z (p : ℕ → EReal) (x : ℕ) (h : x < 1024) : col p (1024 + x) = p (1088 + x) := by
  unfold col; rw [if_neg (by omega), if_neg (by omega), if_pos (by omega)]; congr 1; omega

theorem col_xbc (p : ℕ → EReal) (x : ℕ) (h : x < 1536) : col p (2048 + x) = p (2112 + x) := by
  unfold col; rw [if_neg (by omega), if_neg (by omega), if_neg (by omega), if_pos (by omega)]; congr 1; omega

theorem col_kr (p : ℕ → EReal) (x : ℕ) (h : x < 64) : col p (3584 + x) = p (1024 + x) := by
  unfold col; rw [if_neg (by omega), if_neg (by omega), if_neg (by omega), if_neg (by omega), if_pos (by omega)]; congr 1; omega

theorem col_dt (p : ℕ → EReal) (x : ℕ) (h : x < 16) : col p (3712 + x) = p (3648 + x) := by
  unfold col
  rw [if_neg (by omega), if_neg (by omega), if_neg (by omega), if_neg (by omega), if_neg (by omega), if_neg (by omega), if_pos (by omega)]
  congr 1; omega

/-- The turn of a lane reads sixty-four lanes. -/
theorem rot_congr (u v : ℕ → EReal) (h : ∀ d, d < 64 → u d = v d) (l d : ℕ) (hd : d < 64) : rot u l d = rot v l d := by
  unfold rot
  split
  · rw [h d hd, h (32 + d) (by omega)]
  · rw [h (d - 32) (by omega), h (32 + (d - 32)) (by omega)]

/-- A lane beside its partner, each times its table, is the lane turned; the lanes after the sixty-fourth are zero. -/
theorem rope_lane (u : ℕ → EReal) (l k : ℕ) (hk : k < 128) :
    u k * cosS l k + (if k < 32 then u ((k + 128 - 96) % 128) else u ((k + 128 - 32) % 128)) * sinS l k = if k < 64 then rot u l k else 0 := by
  unfold cosS sinS rot
  by_cases h1 : k < 32
  · rw [if_pos h1, if_pos h1, if_pos h1, if_pos (by omega), if_pos h1, show (k + 128 - 96) % 128 = 32 + k by omega, mul_neg, sub_eq_add_neg]
  · rw [if_neg h1, if_neg h1, if_neg h1]
    by_cases h2 : k < 64
    · rw [if_pos (by omega), if_pos (by omega), if_pos h2, if_neg h1, show (k + 128 - 32) % 128 = k - 32 by omega, show 32 + (k - 32) = k by omega,
        add_comm]
    · rw [if_neg (by omega), if_neg (by omega), if_neg h2, mul_zero, mul_zero, add_zero]

theorem sel32 (k : ℕ) (hk : k < 128) (a b : EReal) :
    Scalar.select (IntOp.cmpi CmpIPredicate.slt (BitVec.ofNat 32 k) 32#32) a b = if k < 32 then a else b := by
  have e : ∀ k : Fin 128, IntOp.cmpi CmpIPredicate.slt (BitVec.ofNat 32 k.val) 32#32 = if k.val < 32 then 1#1 else 0#1 := by decide
  rw [e ⟨k, hk⟩]
  by_cases h : k < 32
  · rw [if_pos h, if_pos h]; rfl
  · rw [if_neg h, if_neg h]; rfl

theorem sel16 (k : ℕ) (hk : k < 128) (a b : EReal) :
    Scalar.select (IntOp.cmpi CmpIPredicate.slt (BitVec.ofNat 32 k) 16#32) a b = if k < 16 then a else b := by
  have e : ∀ k : Fin 128, IntOp.cmpi CmpIPredicate.slt (BitVec.ofNat 32 k.val) 16#32 = if k.val < 16 then 1#1 else 0#1 := by decide
  rw [e ⟨k, hk⟩]
  by_cases h : k < 16
  · rw [if_pos h, if_pos h]; rfl
  · rw [if_neg h, if_neg h]; rfl

theorem sum_mul_coe {n : ℕ} (c : ℝ) (hc : 0 ≤ c) (f : Fin n → EReal) : ∑ x, f x * (c : EReal) = (∑ x, f x) * (c : EReal) := by
  classical
  rw [mul_comm]
  refine Finset.induction_on (motive := fun S => ∑ x ∈ S, f x * (c : EReal) = (c : EReal) * ∑ x ∈ S, f x) Finset.univ (by simp) fun a S ha ih => ?_
  rw [Finset.sum_insert ha, Finset.sum_insert ha, EReal.left_distrib_of_nonneg_of_ne_top (EReal.coe_nonneg.mpr hc) (EReal.coe_ne_top _), ih, mul_comm (f a)]

/-- The scale is a positive real number. -/
theorem scale_coe : Ideal.ofBits FTy.f32 1037384597#32 = ((13974421 / 134217728 : ℝ) : EReal) := by
  simp [Ideal.ofBits, Ideal.ieee]
  rw [← EReal.coe_mul]
  norm_num

theorem scale_out (a w : Fin 512 → EReal) :
    ∑ x, a x * (w x * Ideal.ofBits FTy.f32 1037384597#32) = (∑ x, a x * w x) * Ideal.ofBits FTy.f32 1037384597#32 := by
  rw [scale_coe, ← sum_mul_coe _ (by norm_num)]
  exact Finset.sum_congr rfl fun x _ => (mul_assoc _ _ _).symm

/-! ## The windows of one block -/

variable (X0 : Vec Ideal S512x2048 .f32) (X1 X2 : Vec Ideal S1x2048 .f32) (X3 : Vec Ideal S2048x3840 .bf16) (X4 X5 : Vec Ideal S1x512 .f32)
  (X6 X7 : Vec Ideal S512x2048 .bf16) (X8 X9 : Vec Ideal S512x128 .f32) (X10 : Vec Ideal S1x128 .f32)
  (p : Fin 512 → ℕ → EReal) (l : Fin 512 → ℕ) (G4 G6 : S1x512.Idx → EReal) (G5 : S1x512x1536.Idx → EReal)
  (G7 G8 : S1x512x8x128.Idx → EReal) (G9 : S1x16.Idx → EReal)

/-- What the windows hold at a block whose rows are `p`, at the places `l`. -/
structure Held : Prop where
  hP : ∀ (r : Fin 512) (c : Fin 3840), ∑ j : Fin 2048, (k0_pay2 (F := Ideal) X0 X1 X2 (ix2 r j) : EReal) * X3 (ix2 j c) = col (p r) c.val
  h4 : ∀ k : Fin 512, (X4 (ix2 0 k) : EReal) = G4 (ix2 0 k)
  h5 : ∀ k : Fin 512, (X5 (ix2 0 k) : EReal) = G6 (ix2 0 k)
  h6 : ∀ (x : Fin 512) (k : Fin 2048), (X6 (ix2 x k) : EReal)
    = if k.val % 256 < 192 then wq G5 x (k.val / 256 * 192 + k.val % 256) * Ideal.ofBits FTy.f32 1037384597#32 else 0
  h7 : ∀ (x : Fin 512) (k : Fin 2048), (X7 (ix2 x k) : EReal)
    = if h : k.val < 1024 then G7 (ix4 0 x ⟨k.val / 128, by omega⟩ ⟨k.val % 128, by omega⟩)
      else G8 (ix4 0 x ⟨(k.val - 1024) / 128, by omega⟩ ⟨(k.val - 1024) % 128, by omega⟩)
  h8 : ∀ (r : Fin 512) (k : Fin 128), (X8 (ix2 r k) : EReal) = cosS (l r) k.val
  h9 : ∀ (r : Fin 512) (k : Fin 128), (X9 (ix2 r k) : EReal) = sinS (l r) k.val
  h10 : ∀ k : Fin 128, (X10 (ix2 0 k) : EReal) = if h : k.val < 16 then G9 (ix2 0 ⟨k.val, h⟩) else 0

theorem z2 : (![0, 0] : Fin 2 → ℕ) = fun _ => 0 := by
  funext a
  match a with
  | ⟨0, _⟩ => rfl
  | ⟨1, _⟩ => rfl

theorem ld0 : View.ld X0 r0_0 = X0 := View.ld_unit_zero z2 _ _
theorem ld1 : View.ld X1 r0_1 = X1 := View.ld_unit_zero z2 _ _
theorem ld5 : View.ld X5 r0_4 = X5 := View.ld_unit_zero z2 _ _
theorem ld7 : View.ld X7 r0_0 = X7 := View.ld_unit_zero z2 _ _
theorem ld8 : View.ld X8 r0_2 = X8 := View.ld_unit_zero z2 _ _
theorem ld10 : View.ld X10 r0_38 = X10 := View.ld_unit_zero z2 _ _

theorem idx2 {a b : ℕ} (y : (⟨2, ![a, b]⟩ : Shape).Idx) : ∃ (r : Fin a) (k : Fin b), y = ix2 r k :=
  ⟨y 0, y 1, funext fun i => by match i with | ⟨0, _⟩ => rfl | ⟨1, _⟩ => rfl⟩

theorem pay3_eq : k0_pay3 (F := Ideal) X8 = X8 := by
  funext y
  obtain ⟨r, k, rfl⟩ := idx2 y
  have e : (k0_pay3 (F := Ideal) X8 (ix2 r k) : EReal) = X8 (ix2 r k) := by pointwise [k0_pay3]
  exact e

theorem pay4_eq : k0_pay4 (F := Ideal) X8 = X8 := by
  funext y
  obtain ⟨r, k, rfl⟩ := idx2 y
  have e : (k0_pay4 (F := Ideal) X8 (ix2 r k) : EReal) = X8 (ix2 r k) := by pointwise [k0_pay4]
  exact e

theorem pay6_eq : k0_pay6 (F := Ideal) X5 = X5 := by
  funext y
  obtain ⟨r, k, rfl⟩ := idx2 y
  have e : (k0_pay6 (F := Ideal) X5 (ix2 r k) : EReal) = X5 (ix2 r k) := by pointwise [k0_pay6]
  exact e

variable {X0 X1 X2 X3 X4 X5 X6 X7 X8 X9 X10 p l G4 G6 G5 G7 G8 G9}
variable (H : Held X0 X1 X2 X3 X4 X5 X6 X7 X8 X9 X10 p l G4 G6 G5 G7 G8 G9)

include H

theorem lat_at (r x : Fin 512) : (k0_pay41 (F := Ideal) (k0_pay2 X0 X1 X2) (View.ld X3 r0_29) X5 (ix2 r x) : EReal) = lat (p r) G6 x := by
  have e : ∀ k : Fin 512, ∑ j : Fin 2048, (k0_pay2 (F := Ideal) X0 X1 X2 (ix2 r j) : EReal) * X3 (ix2 j ⟨512 + k.val, by omega⟩) = p r (512 + k.val) :=
    fun k => (H.hP r ⟨512 + k.val, by omega⟩).trans (col_kv _ _ k.isLt)
  simp only [View.ld_unit]
  pointwise [k0_pay41]
  simp only [e, H.h5]
  rfl

theorem out13_at (r x : Fin 512) : (out0_13 (F := Ideal) X0 X1 X2 X3 X4 X5 X6 X7 X8 X9 X10 (ix2 r x) : EReal) = lat (p r) G6 x := by
  unfold out0_13 k0_pay52
  rw [View.canon_unit_zero z2, ld0, ld1, ld1, ld5]
  exact lat_at H r x

theorem out12_at (r : Fin 512) (k : Fin 2048) :
    (out0_12 (F := Ideal) X0 X1 X2 X3 X4 X5 X6 X7 X8 X9 X10 (ix2 r k) : EReal) = kvS (p r) G6 G7 G8 k := by
  unfold out0_12 k0_pay52
  rw [View.canon_unit_zero z2, ld0, ld1, ld1, ld5, ld7]
  have e : (k0_pay42 (F := Ideal) (k0_pay2 X0 X1 X2) (View.ld X3 r0_29) X5 X7 (ix2 r k) : EReal)
      = ∑ x : Fin 512, (k0_pay41 (F := Ideal) (k0_pay2 X0 X1 X2) (View.ld X3 r0_29) X5 (ix2 r x) : EReal) * X7 (ix2 x k) := by
    generalize View.ld X3 r0_29 = W
    pointwise [k0_pay42]
  refine e.trans ?_
  simp only [lat_at H, H.h7]
  unfold kvS
  split <;> rfl

theorem out16_at (r : Fin 512) (k : Fin 1024) :
    (out0_16 (F := Ideal) X0 X1 X2 X3 X4 X5 X6 X7 X8 X9 X10 (ix2 r k) : EReal) = p r (1088 + k.val) := by
  unfold out0_16 k0_pay52
  rw [View.canon_unit_zero z2, ld0, ld1, ld1]
  have e : (k0_pay47 (F := Ideal) (k0_pay2 X0 X1 X2) (View.ld X3 r0_33) (ix2 r k) : EReal)
      = ∑ j : Fin 2048, (k0_pay2 (F := Ideal) X0 X1 X2 (ix2 r j) : EReal) * X3 (ix2 j ⟨1024 + k.val, by omega⟩) := by
    simp only [View.ld_unit]
    pointwise [k0_pay47]
  exact e.trans ((H.hP r _).trans (col_z _ _ k.isLt))

theorem out17_at (r : Fin 512) (k : Fin 1536) :
    (out0_17 (F := Ideal) X0 X1 X2 X3 X4 X5 X6 X7 X8 X9 X10 (ix2 r k) : EReal) = p r (2112 + k.val) := by
  unfold out0_17 k0_pay52
  rw [View.canon_unit_zero z2, ld0, ld1, ld1]
  have e : (k0_pay48 (F := Ideal) (k0_pay2 X0 X1 X2) (View.ld X3 r0_35) (ix2 r k) : EReal)
      = ∑ j : Fin 2048, (k0_pay2 (F := Ideal) X0 X1 X2 (ix2 r j) : EReal) * X3 (ix2 j ⟨2048 + k.val, by omega⟩) := by
    simp only [View.ld_unit]
    pointwise [k0_pay48]
  exact e.trans ((H.hP r _).trans (col_xbc _ _ k.isLt))

theorem out18_at (r : Fin 512) (k : Fin 128) :
    (out0_18 (F := Ideal) X0 X1 X2 X3 X4 X5 X6 X7 X8 X9 X10 (ix2 r k) : EReal) = dtS (p r) G9 k := by
  unfold out0_18 k0_pay52
  rw [View.canon_unit_zero z2, ld0, ld1, ld1, ld10]
  have e : ∀ k : Fin 128, (k0_pay49 (F := Ideal) (k0_pay2 X0 X1 X2) (View.ld X3 r0_37) X10 (ix2 r k) : EReal)
      = col (p r) (3712 + k.val) + X10 (ix2 0 k) := fun k => by
    have e' : (k0_pay49 (F := Ideal) (k0_pay2 X0 X1 X2) (View.ld X3 r0_37) X10 (ix2 r k) : EReal)
        = (∑ j : Fin 2048, (k0_pay2 (F := Ideal) X0 X1 X2 (ix2 r j) : EReal) * X3 (ix2 j ⟨3712 + k.val, by omega⟩)) + X10 (ix2 0 k) := by
      simp only [View.ld_unit]
      pointwise [k0_pay49]
    rw [e', H.hP]
  generalize View.ld X3 r0_37 = W at e
  pointwise [k0_pay1, k0_pay50, k0_pay51]
  simp only [e, sel16 k.val k.isLt, H.h10]
  unfold dtS sp
  by_cases h : k.val < 16
  · rw [if_pos h, dif_pos h, dif_pos h, col_dt _ _ h]
    simp
  · rw [if_neg h, dif_neg h]

/-- The rotated key's lanes, of all the 128. -/
theorem kr_lane (r : Fin 512) (k : Fin 128) :
    (k0_pay44 (F := Ideal) X8 X9 (k0_pay43 (k0_pay2 X0 X1 X2) (View.ld X3 r0_31)) (ix2 r k) : EReal) = if k.val < 64 then krS (p r) (l r) k.val else 0 := by
  have e : ∀ k : Fin 128, (k0_pay43 (F := Ideal) (k0_pay2 X0 X1 X2) (View.ld X3 r0_31) (ix2 r k) : EReal) = col (p r) (3584 + k.val) := fun k => by
    have e' : (k0_pay43 (F := Ideal) (k0_pay2 X0 X1 X2) (View.ld X3 r0_31) (ix2 r k) : EReal)
        = ∑ j : Fin 2048, (k0_pay2 (F := Ideal) X0 X1 X2 (ix2 r j) : EReal) * X3 (ix2 j ⟨3584 + k.val, by omega⟩) := by
      simp only [View.ld_unit]
      pointwise [k0_pay43]
    rw [e', H.hP]
  generalize k0_pay43 (F := Ideal) (k0_pay2 X0 X1 X2) (View.ld X3 r0_31) = M at e
  pointwise [k0_pay44]
  simp only [e, sel32 k.val k.isLt, H.h8, H.h9]
  refine (rope_lane (fun d => col (p r) (3584 + d)) (l r) k.val k.isLt).trans ?_
  split
  · exact rot_congr _ _ (fun d hd => col_kr _ _ hd) _ _ ‹_›
  · rfl

theorem out15_at (r : Fin 512) (k : Fin 128) :
    (out0_15 (F := Ideal) X0 X1 X2 X3 X4 X5 X6 X7 X8 X9 X10 (ix2 r k) : EReal) = if k.val < 64 then krS (p r) (l r) k.val else 0 := by
  unfold out0_15 k0_pay59 k0_pay54 k0_pay53 k0_pay52
  rw [View.canon_unit_zero z2, ld0, ld1, ld1, ld8, ld8, pay3_eq, pay4_eq]
  have e : (k0_pay46 (F := Ideal) X8 X9 (k0_pay43 (k0_pay2 X0 X1 X2) (View.ld X3 r0_31)) (ix2 r k) : EReal)
      = k0_pay44 (F := Ideal) X8 X9 (k0_pay43 (k0_pay2 X0 X1 X2) (View.ld X3 r0_31)) (ix2 r k) := by
    generalize k0_pay43 (F := Ideal) (k0_pay2 X0 X1 X2) (View.ld X3 r0_31) = M
    pointwise [k0_pay46]
  exact e.trans (kr_lane H r k)

theorem out14_at (r : Fin 512) (k : Fin 64) :
    (out0_14 (F := Ideal) X0 X1 X2 X3 X4 X5 X6 X7 X8 X9 X10 (ix2 r k) : EReal) = krS (p r) (l r) k.val := by
  unfold out0_14 k0_pay59 k0_pay54 k0_pay53 k0_pay52
  rw [View.canon_unit_zero z2, ld0, ld1, ld1, ld8, ld8, pay3_eq, pay4_eq]
  have e : (k0_pay45 (F := Ideal) X8 X9 (k0_pay43 (k0_pay2 X0 X1 X2) (View.ld X3 r0_31)) (ix2 r k) : EReal)
      = k0_pay44 (F := Ideal) X8 X9 (k0_pay43 (k0_pay2 X0 X1 X2) (View.ld X3 r0_31)) (ix2 r ⟨k.val, by omega⟩) := by
    generalize k0_pay43 (F := Ideal) (k0_pay2 X0 X1 X2) (View.ld X3 r0_31) = M
    pointwise [k0_pay45]
  exact e.trans ((kr_lane H r _).trans (if_pos k.isLt))

end Cert.InProjIdeal.Rows
-- ==== Proof.IP.Heads.lean ====
/- The queries of one block: sixteen stores of 128 columns, two of a head. -/
module

public import proofs.«01_k».proof.Proof.IP.Body

@[expose] public section

set_option Elab.async false
set_option maxRecDepth 16384

noncomputable section

namespace Cert.InProjIdeal.Rows

open Cert.InProjIdeal Cert.InProjIdeal.Gen Idealize.ShloMosaic

/-! ## The stores of the later heads spell the first head's terms -/

section
variable (x y : FVec Ideal S512x128 .f32) (v : FVec Ideal S512x512 .f32) (n : FVec Ideal S1x512 .f32) (s : FVec Ideal S512 .f32)
  (f : Vec Ideal S512x256 .bf16)

theorem pay13_eq : k0_pay13 v n s f = k0_pay10 v n s f := rfl
theorem pay18_eq : k0_pay18 (k0_pay8 v n s) f = k0_pay10 v n s f := rfl
theorem pay21_eq : k0_pay21 (k0_pay8 v n s) f = k0_pay10 v n s f := rfl
theorem pay26_eq : k0_pay26 (k0_pay8 v n s) f = k0_pay10 v n s f := rfl
theorem pay29_eq : k0_pay29 (k0_pay8 v n s) f = k0_pay10 v n s f := rfl
theorem pay34_eq : k0_pay34 (k0_pay8 v n s) f = k0_pay10 v n s f := rfl
theorem pay37_eq : k0_pay37 (k0_pay8 v n s) f = k0_pay10 v n s f := rfl
theorem pay16_eq : k0_pay16 x y (k0_pay14 v n s f) k0_pay15 = k0_pay11 x y v n s f := rfl
theorem pay19_eq : k0_pay19 x y (k0_pay8 v n s) f = k0_pay11 x y v n s f := rfl
theorem pay27_eq : k0_pay27 x y (k0_pay8 v n s) f = k0_pay11 x y v n s f := rfl
theorem pay35_eq : k0_pay35 x y (k0_pay8 v n s) f = k0_pay11 x y v n s f := rfl
theorem pay24_eq : k0_pay24 x y (k0_pay22 (k0_pay8 v n s) f) k0_pay23 = k0_pay11 x y v n s f := rfl
theorem pay32_eq : k0_pay32 x y (k0_pay30 (k0_pay8 v n s) f) k0_pay31 = k0_pay11 x y v n s f := rfl
theorem pay40_eq : k0_pay40 x y (k0_pay38 (k0_pay8 v n s) f) k0_pay39 = k0_pay11 x y v n s f := rfl
end

/-! ## One head -/

variable {X0 : Vec Ideal S512x2048 .f32} {X1 X2 : Vec Ideal S1x2048 .f32} {X3 : Vec Ideal S2048x3840 .bf16} {X4 X5 : Vec Ideal S1x512 .f32}
  {X6 X7 : Vec Ideal S512x2048 .bf16} {X8 X9 : Vec Ideal S512x128 .f32} {X10 : Vec Ideal S1x128 .f32}
  {p : Fin 512 → ℕ → EReal} {l : Fin 512 → ℕ} {G4 G6 : S1x512.Idx → EReal} {G5 : S1x512x1536.Idx → EReal}
  {G7 G8 : S1x512x8x128.Idx → EReal} {G9 : S1x16.Idx → EReal}
variable (H : Held X0 X1 X2 X3 X4 X5 X6 X7 X8 X9 X10 p l G4 G6 G5 G7 G8 G9)

include H

theorem pay5_at (r x : Fin 512) : (k0_pay5 (F := Ideal) X0 X1 X2 (View.ld X3 r0_3) (ix2 r x) : EReal) = p r x.val := by
  have e : (k0_pay5 (F := Ideal) X0 X1 X2 (View.ld X3 r0_3) (ix2 r x) : EReal)
      = ∑ j : Fin 2048, (k0_pay2 (F := Ideal) X0 X1 X2 (ix2 r j) : EReal) * X3 (ix2 j ⟨x.val, by omega⟩) := by
    simp only [View.ld_unit]
    pointwise [k0_pay5]
  exact e.trans ((H.hP r _).trans (col_q _ _ x.isLt))

/-- The normalised query latent of a row. -/
theorem pay8_at (r x : Fin 512) :
    (k0_pay8 (F := Ideal) (k0_pay5 X0 X1 X2 (View.ld X3 r0_3)) X4 (k0_pay7 X0 X1 X2 (View.ld X3 r0_3)) (ix2 r x) : EReal) = qn (p r) G4 x := by
  have e := fun x => pay5_at H r x
  have e7 : (k0_pay7 (F := Ideal) X0 X1 X2 (View.ld X3 r0_3) (ix1 r) : EReal) = ∑ x : Fin 512, p r x.val * p r x.val := by
    generalize View.ld X3 r0_3 = W at e
    pointwise [k0_pay7]
    simp only [e]
  generalize View.ld X3 r0_3 = W at e e7
  generalize k0_pay7 (F := Ideal) X0 X1 X2 W = s at e7
  generalize k0_pay5 (F := Ideal) X0 X1 X2 W = v at e
  pointwise [k0_pay8]
  simp only [e, e7, H.h4]
  rfl

theorem ld6_at (h : ℕ) (hh : h < 8) (inb) (x : Fin 512) (k : Fin 256) :
    (View.ld X6 (Rect.unit (s := S512x2048) ![0, 256 * h] S512x256.size inb) (ix2 x k) : EReal)
      = if k.val < 192 then wq G5 x (h * 192 + k.val) * Ideal.ofBits FTy.f32 1037384597#32 else 0 := by
  have e : (View.ld X6 (Rect.unit (s := S512x2048) ![0, 256 * h] S512x256.size inb) (ix2 x k) : EReal) = X6 (ix2 x ⟨256 * h + k.val, by omega⟩) := by
    simp only [View.ld_unit]
    pointwise []
  rw [e, H.h6]
  show (if (256 * h + k.val) % 256 < 192 then wq G5 x ((256 * h + k.val) / 256 * 192 + (256 * h + k.val) % 256) * Ideal.ofBits FTy.f32 1037384597#32 else 0) = _
  rw [show (256 * h + k.val) % 256 = k.val by omega, show (256 * h + k.val) / 256 = h by omega]

/-- A head's product of the latent with its 256 columns. -/
theorem pay9_at (h : ℕ) (hh : h < 8) (inb) (r : Fin 512) (k : Fin 256) :
    (k0_pay9 (F := Ideal) (k0_pay5 X0 X1 X2 (View.ld X3 r0_3)) X4 (k0_pay7 X0 X1 X2 (View.ld X3 r0_3))
      (View.ld X6 (Rect.unit (s := S512x2048) ![0, 256 * h] S512x256.size inb)) (ix2 r k) : EReal)
      = if k.val < 192 then qd (p r) G4 G5 h k.val else 0 := by
  have e8 := pay8_at H r
  have e6 := fun x => ld6_at H h hh inb x k
  generalize View.ld X6 (Rect.unit (s := S512x2048) ![0, 256 * h] S512x256.size inb) = f at e6
  generalize k0_pay7 (F := Ideal) X0 X1 X2 (View.ld X3 r0_3) = s at e8
  generalize k0_pay5 (F := Ideal) X0 X1 X2 (View.ld X3 r0_3) = v at e8
  pointwise [k0_pay9]
  simp only [e8, e6]
  split
  · rw [scale_out]; rfl
  · simp

/-- The element of the block that a store writes. -/
def qAt (p : Fin 512 → ℕ → EReal) (l : Fin 512 → ℕ) (G4 : S1x512.Idx → EReal) (G5 : S1x512x1536.Idx → EReal) (y : S512x2048.Idx) : EReal :=
  qS (p (y 0)) G4 G5 (l (y 0)) (y 1).val

theorem even_at (h : ℕ) (hh : h < 8) (inb) (inb') (y : (⟨2, ![512, 128]⟩ : Shape).Idx) :
    (k0_pay10 (F := Ideal) (k0_pay5 X0 X1 X2 (View.ld X3 r0_3)) X4 (k0_pay7 X0 X1 X2 (View.ld X3 r0_3))
      (View.ld X6 (Rect.unit (s := S512x2048) ![0, 256 * h] S512x256.size inb)) y : EReal)
      = qAt p l G4 G5 ((Rect.unit (s := S512x2048) ![0, 256 * h] S512x128.size inb').emb y) := by
  obtain ⟨r, k, rfl⟩ := idx2 y
  have e : (Rect.unit (s := S512x2048) ![0, 256 * h] S512x128.size inb').emb (ix2 r k) = (ix2 r ⟨256 * h + k.val, by omega⟩ : S512x2048.Idx) := by
    funext a
    apply Fin.ext
    match a with
    | ⟨0, _⟩ => show 0 + 1 * r.val = r.val; omega
    | ⟨1, _⟩ => show 256 * h + 1 * k.val = 256 * h + k.val; omega
  rw [e]
  have e9 := fun k => pay9_at H h hh inb r k
  have e10 : ∀ (v : FVec Ideal S512x512 .f32) (s : FVec Ideal S512 .f32) (f : Vec Ideal S512x256 .bf16),
      (k0_pay10 (F := Ideal) v X4 s f (ix2 r k) : EReal) = k0_pay9 (F := Ideal) v X4 s f (ix2 r ⟨k.val, by omega⟩) := fun v s f => by
    pointwise [k0_pay10]
  refine (e10 _ _ _).trans ((e9 _).trans ?_)
  show _ = qS (p r) G4 G5 (l r) (256 * h + k.val)
  unfold qS
  rw [show (256 * h + k.val) % 256 = k.val by omega, show (256 * h + k.val) / 256 = h by omega, if_pos (by show k.val < 192; omega), if_pos k.isLt]

theorem odd_at (h : ℕ) (hh : h < 8) (inb) (inb') (y : (⟨2, ![512, 128]⟩ : Shape).Idx) :
    (k0_pay11 (F := Ideal) X8 X9 (k0_pay5 X0 X1 X2 (View.ld X3 r0_3)) X4 (k0_pay7 X0 X1 X2 (View.ld X3 r0_3))
      (View.ld X6 (Rect.unit (s := S512x2048) ![0, 256 * h] S512x256.size inb)) y : EReal)
      = qAt p l G4 G5 ((Rect.unit (s := S512x2048) ![0, 256 * h + 128] S512x128.size inb').emb y) := by
  obtain ⟨r, k, rfl⟩ := idx2 y
  have e : (Rect.unit (s := S512x2048) ![0, 256 * h + 128] S512x128.size inb').emb (ix2 r k) = (ix2 r ⟨256 * h + 128 + k.val, by omega⟩ : S512x2048.Idx) := by
    funext a
    apply Fin.ext
    match a with
    | ⟨0, _⟩ => show 0 + 1 * r.val = r.val; omega
    | ⟨1, _⟩ => show 256 * h + 128 + 1 * k.val = 256 * h + 128 + k.val; omega
  rw [e]
  have e9 := fun k => pay9_at H h hh inb r k
  have e11 : ∀ (v : FVec Ideal S512x512 .f32) (s : FVec Ideal S512 .f32) (f : Vec Ideal S512x256 .bf16),
      (∀ k : Fin 256, (k0_pay9 (F := Ideal) v X4 s f (ix2 r k) : EReal) = if k.val < 192 then qd (p r) G4 G5 h k.val else 0) →
      (k0_pay11 (F := Ideal) X8 X9 v X4 s f (ix2 r k) : EReal)
        = (fun d => if 128 + d < 192 then qd (p r) G4 G5 h (128 + d) else 0) k.val * cosS (l r) k.val
          + (if k.val < 32 then (fun d => if 128 + d < 192 then qd (p r) G4 G5 h (128 + d) else 0) ((k.val + 128 - 96) % 128)
              else (fun d => if 128 + d < 192 then qd (p r) G4 G5 h (128 + d) else 0) ((k.val + 128 - 32) % 128)) * sinS (l r) k.val := fun v s f hv => by
    pointwise [k0_pay11]
    simp only [hv, sel32 k.val k.isLt, H.h8, H.h9]
  refine (e11 _ _ _ e9).trans ((rope_lane (fun d => if 128 + d < 192 then qd (p r) G4 G5 h (128 + d) else 0) (l r) k.val k.isLt).trans ?_)
  show _ = qS (p r) G4 G5 (l r) (256 * h + 128 + k.val)
  unfold qS
  rw [show (256 * h + 128 + k.val) % 256 = 128 + k.val by omega, show (256 * h + 128 + k.val) / 256 = h by omega,
    if_neg (show ¬ 128 + k.val < 128 by omega), show 128 + k.val - 128 = k.val by omega]
  split
  · exact rot_congr _ _ (fun d hd => if_pos (by omega)) _ _ ‹_›
  · rfl

theorem out11_at (r : Fin 512) (k : Fin 2048) :
    (out0_11 (F := Ideal) X0 X1 X2 X3 X4 X5 X6 X7 X8 X9 X10 (ix2 r k) : EReal) = qS (p r) G4 G5 (l r) k.val := by
  have H' : ∀ y : S512x2048.Idx, out0_11 (F := Ideal) X0 X1 X2 X3 X4 X5 X6 X7 X8 X9 X10 y = qAt p l G4 G5 y := by
    intro y
    unfold out0_11
    refine View.canon_apply_of_pieces (Val := Elt Ideal) (e := .bf16) (qAt p l G4 G5) _ ?_ y (cover0_11 _ _ _ _ _ _ _ _ _ _ _ _ _ _ _ _ y)
    unfold k0_pay58 k0_pay57 k0_pay56 k0_pay55 k0_pay54 k0_pay53
    simp only [ld0, ld1, ld5, ld8, pay3_eq, pay4_eq, pay6_eq, pay13_eq, pay16_eq, pay18_eq, pay19_eq, pay21_eq, pay24_eq, pay26_eq, pay27_eq, pay29_eq,
      pay32_eq, pay34_eq, pay35_eq, pay37_eq, pay40_eq]
    simp only [List.forall_mem_cons]
    exact ⟨odd_at H 7 (by omega) _ _, even_at H 7 (by omega) _ _, odd_at H 6 (by omega) _ _, even_at H 6 (by omega) _ _,
      odd_at H 5 (by omega) _ _, even_at H 5 (by omega) _ _, odd_at H 4 (by omega) _ _, even_at H 4 (by omega) _ _,
      odd_at H 3 (by omega) _ _, even_at H 3 (by omega) _ _, odd_at H 2 (by omega) _ _, even_at H 2 (by omega) _ _,
      odd_at H 1 (by omega) _ _, even_at H 1 (by omega) _ _, odd_at H 0 (by omega) _ _, even_at H 0 (by omega) _ _,
      fun q hq => absurd hq List.not_mem_nil⟩
  exact H' (ix2 r k)

end Cert.InProjIdeal.Rows
-- ==== Proof.IP.Ref.lean ====
/- The reference's eight results, an element at a time. -/
module

public import proofs.«01_k».proof.Proof.IP.Spec

@[expose] public section

set_option Elab.async false

noncomputable section

namespace Cert.InProjIdeal.Rows

open Cert.InProjRefIdeal Cert.InProjRefIdeal.Gen Cert.InProjRefIdeal.Read Idealize.ShloMosaic

variable (x0 : (⟨S4x8192x2048, .f32⟩ : BufTy).Contents (Elt Ideal)) (x1 x2 : (⟨S2048, .f32⟩ : BufTy).Contents (Elt Ideal))
  (x3 : (⟨S1x2048x3664, .f32⟩ : BufTy).Contents (Elt Ideal)) (x4 x6 : (⟨S1x512, .f32⟩ : BufTy).Contents (Elt Ideal))
  (x5 : (⟨S1x512x1536, .f32⟩ : BufTy).Contents (Elt Ideal)) (x7 x8 : (⟨S1x512x8x128, .f32⟩ : BufTy).Contents (Elt Ideal))
  (x9 : (⟨S1x16, .f32⟩ : BufTy).Contents (Elt Ideal))

/-- The batch and the place of a row. -/
abbrev bo (i : Fin 32768) : Fin 4 := ⟨i.val / 8192, by omega⟩
abbrev lo (i : Fin 32768) : Fin 8192 := ⟨i.val % 8192, by omega⟩

theorem pr_of (b : Fin 4) (l : Fin 8192) (c : Fin 3664) :
    val_main_v23 (F := Ideal) x0 x1 x2 x3 (ix3 b l c) = pr x0 x1 x2 x3 b l c.val := by
  unfold pr
  rw [dif_pos c.isLt]

theorem wq_of (x : Fin 512) (j : Fin 1536) : (x5 (ix3 0 x j) : EReal) = wq x5 x j.val := by
  unfold wq
  rw [dif_pos j.isLt]

theorem lat_of (b : Fin 4) (l : Fin 8192) (x : Fin 512) :
    val_main_v96 (F := Ideal) x0 x1 x2 x3 x6 (ix3 b l x) = lat (pr x0 x1 x2 x3 b l) x6 x := by
  pointwise [val_main_v96, val_main_v95, val_main_v94, val_main_v93, val_main_v92, val_main_v91, val_main_v90, val_main_v89, val_main_v88, val_main_v87, val_main_v86, val_main_v85, val_main_v84, val_main_v83, val_main_v25, val_main_cst_11, val_main_cst_12, val_main_cst_13]
  simp only [pr_of]
  rfl

theorem qn_of (b : Fin 4) (l : Fin 8192) (x : Fin 512) :
    val_main_v43 (F := Ideal) x0 x1 x2 x3 x4 (ix3 b l x) = qn (pr x0 x1 x2 x3 b l) x4 x := by
  pointwise [val_main_v43, val_main_v42, val_main_v41, val_main_v40, val_main_v39, val_main_v38, val_main_v37, val_main_v36, val_main_v35, val_main_v34, val_main_v33, val_main_v32, val_main_v31, val_main_v30, val_main_v24, val_main_cst_4, val_main_cst_5, val_main_cst_6]
  simp only [pr_of, Nat.zero_add]
  rfl

theorem ang_q (l : Fin 8192) (j : Fin 32) : val_main_v63 (F := Ideal) (ix2 l j) = ang l j := by
  pointwise [val_main_v63, val_main_v62, val_main_v61, val_main_v60, val_main_v59, val_main_v58, val_main_v57, val_main_v56, val_main_v55, val_main_v54, val_main_v53, val_main_v52, val_main_v51, val_main_cst_8, val_main_cst_9]
  rfl

theorem ang_k (l : Fin 8192) (j : Fin 32) : val_main_v110 (F := Ideal) (ix2 l j) = ang l j := by
  pointwise [val_main_v110, val_main_v109, val_main_v108, val_main_v107, val_main_v106, val_main_v105, val_main_v104, val_main_v103, val_main_v102, val_main_v101, val_main_v100, val_main_v99, val_main_v98, val_main_cst_14, val_main_cst_15]
  rfl

theorem ref_q (i : Fin 32768) (k : Fin 2048) :
    val_main_v142 (F := Ideal) x0 x1 x2 x3 x4 x5 (ix2 i k) = qS (pr x0 x1 x2 x3 (bo i) (lo i)) x4 x5 (lo i).val k := by
  pointwise [val_main_v142, val_main_v141, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v50, val_main_v49, val_main_v48, val_main_v47, val_main_v46, val_main_v45, val_main_v44, val_main_cst_7, val_main_cst_10]
  simp only [qn_of, wq_of, ang_q, dite_eq_ite]
  rfl

theorem ref_kv (i : Fin 32768) (k : Fin 2048) :
    val_main_v144 (F := Ideal) x0 x1 x2 x3 x6 x7 x8 (ix2 i k) = kvS (pr x0 x1 x2 x3 (bo i) (lo i)) x6 x7 x8 k := by
  pointwise [val_main_v144, val_main_v143, val_main_v135, val_main_v134, val_main_v133, val_main_v132, val_main_v131, val_main_v130, val_main_v129]
  simp only [lat_of]
  rfl

theorem ref_lat (i : Fin 32768) (k : Fin 512) :
    val_main_v145 (F := Ideal) x0 x1 x2 x3 x6 (ix2 i k) = lat (pr x0 x1 x2 x3 (bo i) (lo i)) x6 k := by
  pointwise [val_main_v145]
  rw [lat_of]

theorem ref_kr (i : Fin 32768) (d : Fin 64) :
    val_main_v146 (F := Ideal) x0 x1 x2 x3 (ix2 i d) = krS (pr x0 x1 x2 x3 (bo i) (lo i)) (lo i).val d := by
  pointwise [val_main_v146, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v97, val_main_v26]
  simp only [pr_of, ang_k, dite_eq_ite]
  rfl

theorem sitofp_zero : FloatOps.sitofp (F := Ideal) FTy.f32 (0#32) = (0 : EReal) := by
  show ((((0#32 : BitVec 32).toInt : ℤ) : ℝ) : EReal) = 0
  simp

theorem ref_krp (i : Fin 32768) (k : Fin 128) :
    val_main_v149 (F := Ideal) x0 x1 x2 x3 (ix2 i k) = if k.val < 64 then krS (pr x0 x1 x2 x3 (bo i) (lo i)) (lo i).val k else (0 : EReal) := by
  pointwise [val_main_v149, val_main_v148, val_main_v147, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v97, val_main_v26, val_main_call1_v0, val_main_c]
  simp only [pr_of, ang_k, dite_eq_ite, sitofp_zero]
  rfl

theorem ref_z (i : Fin 32768) (k : Fin 1024) :
    val_main_v151 (F := Ideal) x0 x1 x2 x3 (ix2 i k) = pr x0 x1 x2 x3 (bo i) (lo i) (1088 + k) := by
  pointwise [val_main_v151, val_main_v150, val_main_v27]
  rw [pr_of]

theorem ref_xbc (i : Fin 32768) (k : Fin 1536) :
    val_main_v152 (F := Ideal) x0 x1 x2 x3 (ix2 i k) = pr x0 x1 x2 x3 (bo i) (lo i) (2112 + k) := by
  pointwise [val_main_v152, val_main_v28]
  rw [pr_of]

theorem ref_dt (i : Fin 32768) (k : Fin 128) :
    val_main_v154 (F := Ideal) x0 x1 x2 x3 x9 (ix2 i k) = dtS (pr x0 x1 x2 x3 (bo i) (lo i)) x9 k := by
  pointwise [val_main_v154, val_main_v153, val_main_v140, val_main_call2_v0, val_main_c_16, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v139, val_main_v138, val_main_v137, val_main_v136, val_main_v29]
  simp only [pr_of, sitofp_zero, ne_eq, not_true_eq_false, if_false]
  rfl

end Cert.InProjIdeal.Rows
-- ==== Proof.IP.Out.lean ====
/- The eight output arrays: each block of 512 rows is written at its own point of the grid, so every array is the
   reference's result of the arguments. -/
module

public import proofs.«01_k».proof.Proof.IP.Heads
public import proofs.«01_k».proof.Proof.IP.Ref
public import Idealize.ShloMosaic.Lib.Pipeline.ValueKit

@[expose] public section

set_option Elab.async false
set_option maxRecDepth 16384

noncomputable section

namespace Cert.InProjIdeal.Rows

open Cert.InProjIdeal Cert.InProjIdeal.Gen Idealize.ShloMosaic Idealize.SL.Sem Idealize.ShloMosaic.TcCoe

variable (m : (ℓ : Loc nD τ sig) → Buf (Elt Ideal) ℓ)

/-- The layer norm of a row, as the reference spells it. -/
abbrev ln (c : Dev nD) (b : Fin 4) (l : Fin 8192) (j : Fin 2048) : EReal :=
  Cert.InProjRefIdeal.Read.val_main_v21 (F := Ideal) (g0 m c) (g1 m c) (g2 m c) (ix3 b l j)

theorem ln_at (x0 : S4x8192x2048.Idx → EReal) (x1 x2 : S2048.Idx → EReal) (X0 : Vec Ideal S512x2048 .f32) (X1 X2 : Vec Ideal S1x2048 .f32)
    (r : Fin 512) (b : Fin 4) (l : Fin 8192) (h0 : ∀ j : Fin 2048, (X0 (ix2 r j) : EReal) = x0 (ix3 b l j))
    (h1 : ∀ j : Fin 2048, (X1 (ix2 0 j) : EReal) = x1 (ix1 j)) (h2 : ∀ j : Fin 2048, (X2 (ix2 0 j) : EReal) = x2 (ix1 j)) (j : Fin 2048) :
    (k0_pay2 (F := Ideal) X0 X1 X2 (ix2 r j) : EReal) = Cert.InProjRefIdeal.Read.val_main_v21 (F := Ideal) x0 x1 x2 (ix3 b l j) := by
  open Cert.InProjRefIdeal.Read in
  pointwise [k0_pay2, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  simp only [h0, h1, h2]

theorem pr_sum (x0 : S4x8192x2048.Idx → EReal) (x1 x2 : S2048.Idx → EReal) (x3 : S1x2048x3664.Idx → EReal) (b : Fin 4) (l : Fin 8192) (k : ℕ) :
    ∑ j : Fin 2048, Cert.InProjRefIdeal.Read.val_main_v21 (F := Ideal) x0 x1 x2 (ix3 b l j) * w3 x3 j k = pr x0 x1 x2 x3 b l k := by
  unfold pr w3
  by_cases h : k < 3664
  · simp only [dif_pos h]
    open Cert.InProjRefIdeal.Read in
    pointwise [val_main_v23, val_main_v22]
  · simp only [dif_neg h, mul_zero, Finset.sum_const_zero]

theorem col_sum (a : Fin 2048 → EReal) (w : Fin 2048 → ℕ → EReal) (k : ℕ) : ∑ j : Fin 2048, a j * col (w j) k = col (fun k => ∑ j : Fin 2048, a j * w j k) k := by
  unfold col
  split_ifs <;> first | rfl | simp

/-! ## The blocks -/

theorem index0 : ∀ t : Fin cfg0.N, (cfg0.win (0 : Fin 19)).index t = ![t.val, 0] := by decide +kernel
theorem index1 : ∀ t : Fin cfg0.N, (cfg0.win (1 : Fin 19)).index t = ![0, 0] := by decide +kernel
theorem index2 : ∀ t : Fin cfg0.N, (cfg0.win (2 : Fin 19)).index t = ![0, 0] := by decide +kernel
theorem index3 : ∀ t : Fin cfg0.N, (cfg0.win (3 : Fin 19)).index t = ![0, 0] := by decide +kernel
theorem index4 : ∀ t : Fin cfg0.N, (cfg0.win (4 : Fin 19)).index t = ![0, 0] := by decide +kernel
theorem index5 : ∀ t : Fin cfg0.N, (cfg0.win (5 : Fin 19)).index t = ![0, 0] := by decide +kernel
theorem index6 : ∀ t : Fin cfg0.N, (cfg0.win (6 : Fin 19)).index t = ![0, 0] := by decide +kernel
theorem index7 : ∀ t : Fin cfg0.N, (cfg0.win (7 : Fin 19)).index t = ![0, 0] := by decide +kernel
theorem index8 : ∀ t : Fin cfg0.N, (cfg0.win (8 : Fin 19)).index t = ![t.val % 16, 0] := by decide +kernel
theorem index9 : ∀ t : Fin cfg0.N, (cfg0.win (9 : Fin 19)).index t = ![t.val % 16, 0] := by decide +kernel
theorem index10 : ∀ t : Fin cfg0.N, (cfg0.win (10 : Fin 19)).index t = ![0, 0] := by decide +kernel
theorem index11 : ∀ t : Fin cfg0.N, (cfg0.win (11 : Fin 19)).index t = ![t.val, 0] := by decide +kernel
theorem index12 : ∀ t : Fin cfg0.N, (cfg0.win (12 : Fin 19)).index t = ![t.val, 0] := by decide +kernel
theorem index13 : ∀ t : Fin cfg0.N, (cfg0.win (13 : Fin 19)).index t = ![t.val, 0] := by decide +kernel
theorem index14 : ∀ t : Fin cfg0.N, (cfg0.win (14 : Fin 19)).index t = ![t.val, 0] := by decide +kernel
theorem index15 : ∀ t : Fin cfg0.N, (cfg0.win (15 : Fin 19)).index t = ![t.val, 0] := by decide +kernel
theorem index16 : ∀ t : Fin cfg0.N, (cfg0.win (16 : Fin 19)).index t = ![t.val, 0] := by decide +kernel
theorem index17 : ∀ t : Fin cfg0.N, (cfg0.win (17 : Fin 19)).index t = ![t.val, 0] := by decide +kernel
theorem index18 : ∀ t : Fin cfg0.N, (cfg0.win (18 : Fin 19)).index t = ![t.val, 0] := by decide +kernel
theorem covers11 : (cfg0.win (11 : Fin 19)).Covers := by decide +kernel
theorem covers12 : (cfg0.win (12 : Fin 19)).Covers := by decide +kernel
theorem covers13 : (cfg0.win (13 : Fin 19)).Covers := by decide +kernel
theorem covers14 : (cfg0.win (14 : Fin 19)).Covers := by decide +kernel
theorem covers15 : (cfg0.win (15 : Fin 19)).Covers := by decide +kernel
theorem covers16 : (cfg0.win (16 : Fin 19)).Covers := by decide +kernel
theorem covers17 : (cfg0.win (17 : Fin 19)).Covers := by decide +kernel
theorem covers18 : (cfg0.win (18 : Fin 19)).Covers := by decide +kernel

/-- A block's row of the arrays. -/
abbrev row (t : Fin cfg0.N) (r : Fin 512) : Fin 32768 := ⟨512 * t.val + r.val, by have h : t.val < 64 := t.isLt; omega⟩

theorem ib0 (c : Dev nD) (t : Fin cfg0.N) (r : Fin 512) (k : Fin 2048) : (iblk m c (0 : Fin 19) t (ix2 r k) : EReal) = V m c main_v34 (ix2 (row t r) k) := by
  unfold iblk
  show V m c main_v34 (((cfg0.win (0 : Fin 19)).blk t).view.emb (ix2 r k)) = _
  congr 1
  funext a
  apply Fin.ext
  blk_simp [index0 t]
  fin_cases a
  · show t.val * 512 + r.val = 512 * t.val + r.val; omega
  · show 0 * 2048 + k.val = k.val; omega

theorem ib1 (c : Dev nD) (t : Fin cfg0.N) (r : Fin 1) (k : Fin 2048) : (iblk m c (1 : Fin 19) t (ix2 r k) : EReal) = V m c main_v21 (ix2 r k) := by
  unfold iblk
  show V m c main_v21 (((cfg0.win (1 : Fin 19)).blk t).view.emb (ix2 r k)) = _
  congr 1
  funext a
  apply Fin.ext
  blk_simp [index1 t]
  fin_cases a
  · show 0 * 1 + r.val = r.val; omega
  · show 0 * 2048 + k.val = k.val; omega

theorem ib2 (c : Dev nD) (t : Fin cfg0.N) (r : Fin 1) (k : Fin 2048) : (iblk m c (2 : Fin 19) t (ix2 r k) : EReal) = V m c main_v22 (ix2 r k) := by
  unfold iblk
  show V m c main_v22 (((cfg0.win (2 : Fin 19)).blk t).view.emb (ix2 r k)) = _
  congr 1
  funext a
  apply Fin.ext
  blk_simp [index2 t]
  fin_cases a
  · show 0 * 1 + r.val = r.val; omega
  · show 0 * 2048 + k.val = k.val; omega

theorem ib3 (c : Dev nD) (t : Fin cfg0.N) (r : Fin 2048) (k : Fin 3840) : (iblk m c (3 : Fin 19) t (ix2 r k) : EReal) = V m c main_v23 (ix2 r k) := by
  unfold iblk
  show V m c main_v23 (((cfg0.win (3 : Fin 19)).blk t).view.emb (ix2 r k)) = _
  congr 1
  funext a
  apply Fin.ext
  blk_simp [index3 t]
  fin_cases a
  · show 0 * 2048 + r.val = r.val; omega
  · show 0 * 3840 + k.val = k.val; omega

theorem ib4 (c : Dev nD) (t : Fin cfg0.N) (r : Fin 1) (k : Fin 512) : (iblk m c (4 : Fin 19) t (ix2 r k) : EReal) = V m c main_v24 (ix2 r k) := by
  unfold iblk
  show V m c main_v24 (((cfg0.win (4 : Fin 19)).blk t).view.emb (ix2 r k)) = _
  congr 1
  funext a
  apply Fin.ext
  blk_simp [index4 t]
  fin_cases a
  · show 0 * 1 + r.val = r.val; omega
  · show 0 * 512 + k.val = k.val; omega

theorem ib5 (c : Dev nD) (t : Fin cfg0.N) (r : Fin 1) (k : Fin 512) : (iblk m c (5 : Fin 19) t (ix2 r k) : EReal) = V m c main_v25 (ix2 r k) := by
  unfold iblk
  show V m c main_v25 (((cfg0.win (5 : Fin 19)).blk t).view.emb (ix2 r k)) = _
  congr 1
  funext a
  apply Fin.ext
  blk_simp [index5 t]
  fin_cases a
  · show 0 * 1 + r.val = r.val; omega
  · show 0 * 512 + k.val = k.val; omega

theorem ib6 (c : Dev nD) (t : Fin cfg0.N) (r : Fin 512) (k : Fin 2048) : (iblk m c (6 : Fin 19) t (ix2 r k) : EReal) = V m c main_v27 (ix2 r k) := by
  unfold iblk
  show V m c main_v27 (((cfg0.win (6 : Fin 19)).blk t).view.emb (ix2 r k)) = _
  congr 1
  funext a
  apply Fin.ext
  blk_simp [index6 t]
  fin_cases a
  · show 0 * 512 + r.val = r.val; omega
  · show 0 * 2048 + k.val = k.val; omega

theorem ib7 (c : Dev nD) (t : Fin cfg0.N) (r : Fin 512) (k : Fin 2048) : (iblk m c (7 : Fin 19) t (ix2 r k) : EReal) = V m c main_v31 (ix2 r k) := by
  unfold iblk
  show V m c main_v31 (((cfg0.win (7 : Fin 19)).blk t).view.emb (ix2 r k)) = _
  congr 1
  funext a
  apply Fin.ext
  blk_simp [index7 t]
  fin_cases a
  · show 0 * 512 + r.val = r.val; omega
  · show 0 * 2048 + k.val = k.val; omega

theorem ib8 (c : Dev nD) (t : Fin cfg0.N) (r : Fin 512) (k : Fin 128) : (iblk m c (8 : Fin 19) t (ix2 r k) : EReal) = V m c main_v51 (ix2 (lo (row t r)) k) := by
  unfold iblk
  show V m c main_v51 (((cfg0.win (8 : Fin 19)).blk t).view.emb (ix2 r k)) = _
  congr 1
  funext a
  apply Fin.ext
  blk_simp [index8 t]
  fin_cases a
  · show t.val % 16 * 512 + r.val = (512 * t.val + r.val) % 8192; omega
  · show 0 * 128 + k.val = k.val; omega

theorem ib9 (c : Dev nD) (t : Fin cfg0.N) (r : Fin 512) (k : Fin 128) : (iblk m c (9 : Fin 19) t (ix2 r k) : EReal) = V m c main_v53 (ix2 (lo (row t r)) k) := by
  unfold iblk
  show V m c main_v53 (((cfg0.win (9 : Fin 19)).blk t).view.emb (ix2 r k)) = _
  congr 1
  funext a
  apply Fin.ext
  blk_simp [index9 t]
  fin_cases a
  · show t.val % 16 * 512 + r.val = (512 * t.val + r.val) % 8192; omega
  · show 0 * 128 + k.val = k.val; omega

theorem ib10 (c : Dev nD) (t : Fin cfg0.N) (r : Fin 1) (k : Fin 128) : (iblk m c (10 : Fin 19) t (ix2 r k) : EReal) = V m c main_v33 (ix2 r k) := by
  unfold iblk
  show V m c main_v33 (((cfg0.win (10 : Fin 19)).blk t).view.emb (ix2 r k)) = _
  congr 1
  funext a
  apply Fin.ext
  blk_simp [index10 t]
  fin_cases a
  · show 0 * 1 + r.val = r.val; omega
  · show 0 * 128 + k.val = k.val; omega

theorem held (c : Dev nD) (t : Fin cfg0.N) :
    Held (iblk m c 0 t) (iblk m c 1 t) (iblk m c 2 t) (iblk m c 3 t) (iblk m c 4 t) (iblk m c 5 t) (iblk m c 6 t) (iblk m c 7 t) (iblk m c 8 t)
      (iblk m c 9 t) (iblk m c 10 t) (fun r => pr (g0 m c) (g1 m c) (g2 m c) (g3 m c) (bo (row t r)) (lo (row t r))) (fun r => (lo (row t r)).val)
      (g4 m c) (g6 m c) (g5 m c) (g7 m c) (g8 m c) (g9 m c) where
  hP r k := by
    have e : ∀ j : Fin 2048, (k0_pay2 (F := Ideal) (iblk m c 0 t) (iblk m c 1 t) (iblk m c 2 t) (ix2 r j) : EReal) = ln m c (bo (row t r)) (lo (row t r)) j :=
      ln_at (g0 m c) (g1 m c) (g2 m c) _ _ _ r _ _ (fun j => (ib0 m c t r j).trans (v34_at m c _ j)) (fun j => (ib1 m c t 0 j).trans (v21_at m c _ j))
        (fun j => (ib2 m c t 0 j).trans (v22_at m c _ j))
    have e3 : ∀ j : Fin 2048, (iblk m c 3 t (ix2 j k) : EReal) = col (w3 (g3 m c) j) k.val := fun j => (ib3 m c t j k).trans (v23_at m c j k)
    refine (Finset.sum_congr rfl fun j _ => congrArg₂ (fun a b : EReal => a * b) (e j) (e3 j)).trans ?_
    rw [col_sum]
    exact congrArg (fun p => col p k.val) (funext fun k => pr_sum _ _ _ _ _ _ k)
  h4 k := (ib4 m c t 0 k).trans (v24_at m c 0 k)
  h5 k := (ib5 m c t 0 k).trans (v25_at m c 0 k)
  h6 x k := (ib6 m c t x k).trans (v27_at m c x k)
  h7 x k := (ib7 m c t x k).trans (v31_at m c x k)
  h8 r k := (ib8 m c t r k).trans (v51_at m c _ k)
  h9 r k := (ib9 m c t r k).trans (v53_at m c _ k)
  h10 k := (ib10 m c t 0 k).trans (v33_at m c 0 k)

/-! ## The arrays -/

theorem emb11 (t : Fin cfg0.N) (r : Fin 512) (k : Fin 2048) :
    ((cfg0.win (11 : Fin 19)).blk t).view.emb (ix2 r k : (⟨2, ![512, 2048]⟩ : Shape).Idx) = ix2 (row t r) k := by
  funext a
  apply Fin.ext
  blk_simp [index11 t]
  fin_cases a
  · show t.val * 512 + r.val = 512 * t.val + r.val; omega
  · show 0 * 2048 + k.val = k.val; omega

theorem arr11 (c : Dev nD) :
    (dats m 0 c).arrAt (11 : Fin 19) cfg0.N = Cert.InProjRefIdeal.Read.val_main_v142 (F := Ideal) (g0 m c) (g1 m c) (g2 m c) (g3 m c) (g4 m c) (g5 m c) := by
  refine (dats m 0 c).arrAt_eq_of_covers (11 : Fin 19) _ covers11 fun t ht y => ?_
  blk_simp
  rw [after0_11]
  obtain ⟨r, k, rfl⟩ := idx2 (a := 512) (b := 2048) y
  rw [emb11]
  exact (out11_at (held m c t) r k).trans (ref_q (g0 m c) (g1 m c) (g2 m c) (g3 m c) (g4 m c) (g5 m c) (row t r) k).symm

theorem emb12 (t : Fin cfg0.N) (r : Fin 512) (k : Fin 2048) :
    ((cfg0.win (12 : Fin 19)).blk t).view.emb (ix2 r k : (⟨2, ![512, 2048]⟩ : Shape).Idx) = ix2 (row t r) k := by
  funext a
  apply Fin.ext
  blk_simp [index12 t]
  fin_cases a
  · show t.val * 512 + r.val = 512 * t.val + r.val; omega
  · show 0 * 2048 + k.val = k.val; omega

theorem arr12 (c : Dev nD) :
    (dats m 0 c).arrAt (12 : Fin 19) cfg0.N = Cert.InProjRefIdeal.Read.val_main_v144 (F := Ideal) (g0 m c) (g1 m c) (g2 m c) (g3 m c) (g6 m c) (g7 m c) (g8 m c) := by
  refine (dats m 0 c).arrAt_eq_of_covers (12 : Fin 19) _ covers12 fun t ht y => ?_
  blk_simp
  rw [after0_12]
  obtain ⟨r, k, rfl⟩ := idx2 (a := 512) (b := 2048) y
  rw [emb12]
  exact (out12_at (held m c t) r k).trans (ref_kv (g0 m c) (g1 m c) (g2 m c) (g3 m c) (g6 m c) (g7 m c) (g8 m c) (row t r) k).symm

theorem emb13 (t : Fin cfg0.N) (r : Fin 512) (k : Fin 512) :
    ((cfg0.win (13 : Fin 19)).blk t).view.emb (ix2 r k : (⟨2, ![512, 512]⟩ : Shape).Idx) = ix2 (row t r) k := by
  funext a
  apply Fin.ext
  blk_simp [index13 t]
  fin_cases a
  · show t.val * 512 + r.val = 512 * t.val + r.val; omega
  · show 0 * 512 + k.val = k.val; omega

theorem arr13 (c : Dev nD) :
    (dats m 0 c).arrAt (13 : Fin 19) cfg0.N = Cert.InProjRefIdeal.Read.val_main_v145 (F := Ideal) (g0 m c) (g1 m c) (g2 m c) (g3 m c) (g6 m c) := by
  refine (dats m 0 c).arrAt_eq_of_covers (13 : Fin 19) _ covers13 fun t ht y => ?_
  blk_simp
  rw [after0_13]
  obtain ⟨r, k, rfl⟩ := idx2 (a := 512) (b := 512) y
  rw [emb13]
  exact (out13_at (held m c t) r k).trans (ref_lat (g0 m c) (g1 m c) (g2 m c) (g3 m c) (g6 m c) (row t r) k).symm

theorem emb14 (t : Fin cfg0.N) (r : Fin 512) (k : Fin 64) :
    ((cfg0.win (14 : Fin 19)).blk t).view.emb (ix2 r k : (⟨2, ![512, 64]⟩ : Shape).Idx) = ix2 (row t r) k := by
  funext a
  apply Fin.ext
  blk_simp [index14 t]
  fin_cases a
  · show t.val * 512 + r.val = 512 * t.val + r.val; omega
  · show 0 * 64 + k.val = k.val; omega

theorem arr14 (c : Dev nD) :
    (dats m 0 c).arrAt (14 : Fin 19) cfg0.N = Cert.InProjRefIdeal.Read.val_main_v146 (F := Ideal) (g0 m c) (g1 m c) (g2 m c) (g3 m c) := by
  refine (dats m 0 c).arrAt_eq_of_covers (14 : Fin 19) _ covers14 fun t ht y => ?_
  blk_simp
  rw [after0_14]
  obtain ⟨r, k, rfl⟩ := idx2 (a := 512) (b := 64) y
  rw [emb14]
  exact (out14_at (held m c t) r k).trans (ref_kr (g0 m c) (g1 m c) (g2 m c) (g3 m c) (row t r) k).symm

theorem emb15 (t : Fin cfg0.N) (r : Fin 512) (k : Fin 128) :
    ((cfg0.win (15 : Fin 19)).blk t).view.emb (ix2 r k : (⟨2, ![512, 128]⟩ : Shape).Idx) = ix2 (row t r) k := by
  funext a
  apply Fin.ext
  blk_simp [index15 t]
  fin_cases a
  · show t.val * 512 + r.val = 512 * t.val + r.val; omega
  · show 0 * 128 + k.val = k.val; omega

theorem arr15 (c : Dev nD) :
    (dats m 0 c).arrAt (15 : Fin 19) cfg0.N = Cert.InProjRefIdeal.Read.val_main_v149 (F := Ideal) (g0 m c) (g1 m c) (g2 m c) (g3 m c) := by
  refine (dats m 0 c).arrAt_eq_of_covers (15 : Fin 19) _ covers15 fun t ht y => ?_
  blk_simp
  rw [after0_15]
  obtain ⟨r, k, rfl⟩ := idx2 (a := 512) (b := 128) y
  rw [emb15]
  exact (out15_at (held m c t) r k).trans (ref_krp (g0 m c) (g1 m c) (g2 m c) (g3 m c) (row t r) k).symm

theorem emb16 (t : Fin cfg0.N) (r : Fin 512) (k : Fin 1024) :
    ((cfg0.win (16 : Fin 19)).blk t).view.emb (ix2 r k : (⟨2, ![512, 1024]⟩ : Shape).Idx) = ix2 (row t r) k := by
  funext a
  apply Fin.ext
  blk_simp [index16 t]
  fin_cases a
  · show t.val * 512 + r.val = 512 * t.val + r.val; omega
  · show 0 * 1024 + k.val = k.val; omega

theorem arr16 (c : Dev nD) :
    (dats m 0 c).arrAt (16 : Fin 19) cfg0.N = Cert.InProjRefIdeal.Read.val_main_v151 (F := Ideal) (g0 m c) (g1 m c) (g2 m c) (g3 m c) := by
  refine (dats m 0 c).arrAt_eq_of_covers (16 : Fin 19) _ covers16 fun t ht y => ?_
  blk_simp
  rw [after0_16]
  obtain ⟨r, k, rfl⟩ := idx2 (a := 512) (b := 1024) y
  rw [emb16]
  exact (out16_at (held m c t) r k).trans (ref_z (g0 m c) (g1 m c) (g2 m c) (g3 m c) (row t r) k).symm

theorem emb17 (t : Fin cfg0.N) (r : Fin 512) (k : Fin 1536) :
    ((cfg0.win (17 : Fin 19)).blk t).view.emb (ix2 r k : (⟨2, ![512, 1536]⟩ : Shape).Idx) = ix2 (row t r) k := by
  funext a
  apply Fin.ext
  blk_simp [index17 t]
  fin_cases a
  · show t.val * 512 + r.val = 512 * t.val + r.val; omega
  · show 0 * 1536 + k.val = k.val; omega

theorem arr17 (c : Dev nD) :
    (dats m 0 c).arrAt (17 : Fin 19) cfg0.N = Cert.InProjRefIdeal.Read.val_main_v152 (F := Ideal) (g0 m c) (g1 m c) (g2 m c) (g3 m c) := by
  refine (dats m 0 c).arrAt_eq_of_covers (17 : Fin 19) _ covers17 fun t ht y => ?_
  blk_simp
  rw [after0_17]
  obtain ⟨r, k, rfl⟩ := idx2 (a := 512) (b := 1536) y
  rw [emb17]
  exact (out17_at (held m c t) r k).trans (ref_xbc (g0 m c) (g1 m c) (g2 m c) (g3 m c) (row t r) k).symm

theorem emb18 (t : Fin cfg0.N) (r : Fin 512) (k : Fin 128) :
    ((cfg0.win (18 : Fin 19)).blk t).view.emb (ix2 r k : (⟨2, ![512, 128]⟩ : Shape).Idx) = ix2 (row t r) k := by
  funext a
  apply Fin.ext
  blk_simp [index18 t]
  fin_cases a
  · show t.val * 512 + r.val = 512 * t.val + r.val; omega
  · show 0 * 128 + k.val = k.val; omega

theorem arr18 (c : Dev nD) :
    (dats m 0 c).arrAt (18 : Fin 19) cfg0.N = Cert.InProjRefIdeal.Read.val_main_v154 (F := Ideal) (g0 m c) (g1 m c) (g2 m c) (g3 m c) (g9 m c) := by
  refine (dats m 0 c).arrAt_eq_of_covers (18 : Fin 19) _ covers18 fun t ht y => ?_
  blk_simp
  rw [after0_18]
  obtain ⟨r, k, rfl⟩ := idx2 (a := 512) (b := 128) y
  rw [emb18]
  exact (out18_at (held m c t) r k).trans (ref_dt (g0 m c) (g1 m c) (g2 m c) (g3 m c) (g9 m c) (row t r) k).symm

end Cert.InProjIdeal.Rows
-- ==== Proof.IS.Spec.lean ====
/- One row of the projection, spelt with scalars: what the reference's seven results are, of the row's 3664 projected
   values `p` and of its place `l` after the 4096 cached positions. -/
module

public import proofs.«01_k».proof.Proof.Gen.InSampleRefIdeal.Read
public import Idealize.ShloMosaic.Lib.Pointwise

@[expose] public section

set_option Elab.async false

noncomputable section

namespace Cert.InSampleIdeal.Rows

open Cert.InSampleRefIdeal Cert.InSampleRefIdeal.Gen Cert.InSampleRefIdeal.Read Idealize.ShloMosaic

/-- The angle of lane `j` at place `l`, which comes after the cached positions. -/
def ang (l j : ℕ) : EReal :=
  FloatOps.sitofp (F := Ideal) FTy.f32 (IntOp.addi (4096#32) (BitVec.ofNat 32 l)) * Ideal.pow (Ideal.ofBits FTy.f32 1176256512#32)
    (Ideal.div (-FloatOps.sitofp (F := Ideal) FTy.f32 (BitVec.ofNat 32 j)) (Ideal.ofBits FTy.f32 1107296256#32))

/-- Sixty-four lanes turned by their angles, the two halves paired. -/
def rot (u : ℕ → EReal) (l d : ℕ) : EReal :=
  if d < 32 then u d * Ideal.cos (ang l d) - u (32 + d) * Ideal.sin (ang l d)
  else u (d - 32) * Ideal.sin (ang l (d - 32)) + u (32 + (d - 32)) * Ideal.cos (ang l (d - 32))

/-- The factor of 512 lanes normalised by their mean square. -/
def rmsf (u : ℕ → EReal) : EReal :=
  Ideal.rsqrt (Ideal.div (∑ x : Fin 512, u x * u x) (Ideal.ofBits FTy.f32 1140850688#32) + Ideal.ofBits FTy.f32 897988541#32)

/-- The softplus of a value. -/
def sp (u : EReal) : EReal := max u 0 + Ideal.log1p (Ideal.exp (-FloatOps.absf (F := Ideal) (φ := .f32) u))

/-- The query latent, normalised. -/
def qn (p : ℕ → EReal) (g : S1x512.Idx → EReal) (x : Fin 512) : EReal := p x * rmsf p * g (ix2 0 x)

/-- The latent of keys and values, normalised. -/
def lat (p : ℕ → EReal) (g : S1x512.Idx → EReal) (x : Fin 512) : EReal := p (512 + x) * rmsf (fun x => p (512 + x)) * g (ix2 0 x)

/-- A weight of the queries. -/
def wq (w : S1x512x1536.Idx → EReal) (x : Fin 512) (j : ℕ) : EReal := if h : j < 1536 then w (ix3 0 x ⟨j, h⟩) else 0

/-- Element `j` of head `h` of the queries, scaled. -/
def qd (p : ℕ → EReal) (g : S1x512.Idx → EReal) (w : S1x512x1536.Idx → EReal) (h j : ℕ) : EReal :=
  (∑ x : Fin 512, qn p g x * wq w x (h * 192 + j)) * Ideal.ofBits FTy.f32 1037384597#32

/-- Column `k` of the queries. -/
def qS (p : ℕ → EReal) (g : S1x512.Idx → EReal) (w : S1x512x1536.Idx → EReal) (l k : ℕ) : EReal :=
  if k % 256 < 128 then qd p g w (k / 256) (k % 256)
  else if k % 256 - 128 < 64 then rot (fun d => qd p g w (k / 256) (128 + d)) l (k % 256 - 128) else 0

/-- Lane `d` of the rotated key. -/
def krS (p : ℕ → EReal) (l d : ℕ) : EReal := rot (fun d => p (1024 + d)) l d

/-- Lane `k` of the step sizes. -/
def dtS (p : ℕ → EReal) (g : S1x16.Idx → EReal) (k : Fin 128) : EReal :=
  if h : k.val < 16 then sp (p (3648 + k) + g (ix2 0 ⟨k, h⟩)) else 0

/-- Element `c` of a row of the projection. -/
def pr (x0 : S16x16x2048.Idx → EReal) (x1 x2 : S2048.Idx → EReal) (x3 : S1x2048x3664.Idx → EReal) (b : Fin 16) (l : Fin 16) (c : ℕ) : EReal :=
  if h : c < 3664 then val_main_v23 (F := Ideal) x0 x1 x2 x3 (ix3 b l ⟨c, h⟩) else 0

end Cert.InSampleIdeal.Rows
-- ==== Proof.IS.Host.lean ====
/- What the windows of the projection read: the arrays prepared before the launch, an element at a time. -/
module

public import proofs.«01_k».proof.Proof.Gen.InSampleIdeal.Frame
public import proofs.«01_k».proof.Proof.IS.Spec
public import Idealize.ShloMosaic.Lib.StableHlo.ReadAt

@[expose] public section

set_option Elab.async false
set_option maxRecDepth 16384

noncomputable section

namespace Cert.InSampleIdeal.Rows

open Cert.InSampleIdeal Cert.InSampleIdeal.Gen Idealize.ShloMosaic Idealize.ShloMosaic.TcCoe

variable (m : (ℓ : Loc nD τ sig) → Buf (Elt Ideal) ℓ)

/-- The arguments. -/
abbrev g0 (c : Dev nD) : S16x16x2048.Idx → EReal := m (c, Proc.tc.devRef main_arg0)
abbrev g1 (c : Dev nD) : S2048.Idx → EReal := m (c, Proc.tc.devRef main_arg1)
abbrev g2 (c : Dev nD) : S2048.Idx → EReal := m (c, Proc.tc.devRef main_arg2)
abbrev g3 (c : Dev nD) : S1x2048x3664.Idx → EReal := m (c, Proc.tc.devRef main_arg3)
abbrev g4 (c : Dev nD) : S1x512.Idx → EReal := m (c, Proc.tc.devRef main_arg4)
abbrev g5 (c : Dev nD) : S1x512x1536.Idx → EReal := m (c, Proc.tc.devRef main_arg5)
abbrev g6 (c : Dev nD) : S1x512.Idx → EReal := m (c, Proc.tc.devRef main_arg6)
abbrev g7 (c : Dev nD) : S1x512x8x128.Idx → EReal := m (c, Proc.tc.devRef main_arg7)
abbrev g8 (c : Dev nD) : S1x512x8x128.Idx → EReal := m (c, Proc.tc.devRef main_arg8)
abbrev g9 (c : Dev nD) : S1x16.Idx → EReal := m (c, Proc.tc.devRef main_arg9)

/-- A weight of the projection. -/
def w3 (w : S1x2048x3664.Idx → EReal) (j : Fin 2048) (c : ℕ) : EReal := if h : c < 3664 then w (ix3 0 j ⟨c, h⟩) else 0

theorem w3_of (w : S1x2048x3664.Idx → EReal) (j : Fin 2048) (c : Fin 3664) : w (ix3 0 j c) = w3 w j c.val := by
  unfold w3
  rw [dif_pos c.isLt]

theorem wq_at (w : S1x512x1536.Idx → EReal) (x : Fin 512) (j : Fin 1536) : w (ix3 0 x j) = wq w x j.val := by
  unfold wq
  rw [dif_pos j.isLt]

/-- Column `k` of the prepared projection, of the columns of the one given. -/
def col (p : ℕ → EReal) (k : ℕ) : EReal :=
  if k < 512 then p k
  else if k - 512 < 512 then p (512 + (k - 512))
  else if k - 512 - 512 < 1024 then p (1088 + (k - 512 - 512))
  else if k - 512 - 512 - 1024 < 1536 then p (2112 + (k - 512 - 512 - 1024))
  else if k - 512 - 512 - 1024 - 1536 < 64 then p (1024 + (k - 512 - 512 - 1024 - 1536))
  else if k - 512 - 512 - 1024 - 1536 - 64 < 64 then 0
  else if k - 512 - 512 - 1024 - 1536 - 64 - 64 < 16 then p (3648 + (k - 512 - 512 - 1024 - 1536 - 64 - 64))
  else 0

/-- Lane `k` of the table of cosines, and of the signed sines. -/
def cosS (l k : ℕ) : EReal := if k < 32 then Ideal.cos (ang l k) else if k - 32 < 32 then Ideal.cos (ang l (k - 32)) else 0
def sinS (l k : ℕ) : EReal := if k < 32 then -Ideal.sin (ang l k) else if k - 32 < 32 then Ideal.sin (ang l (k - 32)) else 0

theorem sitofp0 : FloatOps.sitofp (F := Ideal) FTy.f32 (0#32) = (0 : EReal) := by
  show ((((0#32 : BitVec 32).toInt : ℤ) : ℝ) : EReal) = 0
  simp

theorem v34_at (c : Dev nD) (i : Fin 256) (k : Fin 2048) :
    (V m c main_v34 : S256x2048.Idx → EReal) (ix2 i k) = g0 m c (ix3 ⟨i.val / 16, by omega⟩ ⟨i.val % 16, by omega⟩ k) := by
  unfold V
  simp only [hostOps0, hostOps0_1, hostOps0_2, List.flatten_cons, List.flatten_nil, List.cons_append, List.nil_append, List.append_nil]
  after_reads_simp
  pointwise []

theorem v21_at (c : Dev nD) (i : Fin 1) (k : Fin 2048) :
    (V m c main_v21 : S1x2048.Idx → EReal) (ix2 i k) = g1 m c (ix1 k) := by
  unfold V
  simp only [hostOps0, hostOps0_1, hostOps0_2, List.flatten_cons, List.flatten_nil, List.cons_append, List.nil_append, List.append_nil]
  after_reads_simp
  pointwise []

theorem v22_at (c : Dev nD) (i : Fin 1) (k : Fin 2048) :
    (V m c main_v22 : S1x2048.Idx → EReal) (ix2 i k) = g2 m c (ix1 k) := by
  unfold V
  simp only [hostOps0, hostOps0_1, hostOps0_2, List.flatten_cons, List.flatten_nil, List.cons_append, List.nil_append, List.append_nil]
  after_reads_simp
  pointwise []

theorem v23_at (c : Dev nD) (i : Fin 2048) (k : Fin 3840) :
    (V m c main_v23 : S2048x3840.Idx → EReal) (ix2 i k) = col (w3 (g3 m c) i) k.val := by
  unfold V
  simp only [hostOps0, hostOps0_1, hostOps0_2, List.flatten_cons, List.flatten_nil, List.cons_append, List.nil_append, List.append_nil]
  after_reads_simp
  pointwise []
  after_reads_simp
  pointwise []
  simp only [show ∀ j a, (m (c, Proc.tc.devRef main_arg3) : S1x2048x3664.Idx → EReal) (ix3 0 j a) = w3 (g3 m c) j a.val from fun j a => w3_of _ j a, dite_eq_ite]
  rfl

theorem v24_at (c : Dev nD) (i : Fin 1) (k : Fin 512) :
    (V m c main_v24 : S1x512.Idx → EReal) (ix2 i k) = g4 m c (ix2 0 k) := by
  unfold V
  simp only [hostOps0, hostOps0_1, hostOps0_2, List.flatten_cons, List.flatten_nil, List.cons_append, List.nil_append, List.append_nil]
  after_reads_simp
  pointwise []

theorem v25_at (c : Dev nD) (i : Fin 1) (k : Fin 512) :
    (V m c main_v25 : S1x512.Idx → EReal) (ix2 i k) = g6 m c (ix2 0 k) := by
  unfold V
  simp only [hostOps0, hostOps0_1, hostOps0_2, List.flatten_cons, List.flatten_nil, List.cons_append, List.nil_append, List.append_nil]
  after_reads_simp
  pointwise []

theorem v27_at (c : Dev nD) (i : Fin 512) (k : Fin 2048) :
    (V m c main_v27 : S512x2048.Idx → EReal) (ix2 i k) = if k.val % 256 < 192 then wq (g5 m c) i (k.val / 256 * 192 + k.val % 256) * Ideal.ofBits FTy.f32 1037384597#32 else 0 := by
  unfold V
  simp only [hostOps0, hostOps0_1, hostOps0_2, List.flatten_cons, List.flatten_nil, List.cons_append, List.nil_append, List.append_nil]
  after_reads_simp
  pointwise []
  after_reads_simp
  pointwise []
  simp only [show ∀ j a, (m (c, Proc.tc.devRef main_arg5) : S1x512x1536.Idx → EReal) (ix3 0 j a) = wq (g5 m c) j a.val from fun j a => wq_at _ j a, dite_eq_ite]

theorem v31_at (c : Dev nD) (i : Fin 512) (k : Fin 2048) :
    (V m c main_v31 : S512x2048.Idx → EReal) (ix2 i k) = if h : k.val < 1024 then g7 m c (ix4 0 i ⟨k.val / 128, by omega⟩ ⟨k.val % 128, by omega⟩)
      else g8 m c (ix4 0 i ⟨(k.val - 1024) / 128, by omega⟩ ⟨(k.val - 1024) % 128, by omega⟩) := by
  unfold V
  simp only [hostOps0, hostOps0_1, hostOps0_2, List.flatten_cons, List.flatten_nil, List.cons_append, List.nil_append, List.append_nil]
  after_reads_simp
  pointwise []
  after_reads_simp
  pointwise []

theorem v33_at (c : Dev nD) (i : Fin 1) (k : Fin 128) :
    (V m c main_v33 : S1x128.Idx → EReal) (ix2 i k) = if h : k.val < 16 then g9 m c (ix2 0 ⟨k.val, h⟩) else 0 := by
  unfold V
  simp only [hostOps0, hostOps0_1, hostOps0_2, List.flatten_cons, List.flatten_nil, List.cons_append, List.nil_append, List.append_nil]
  after_reads_simp
  simp -implicitDefEqProofs only [StableHlo.TRef.toBuf, StableHlo.TRef.ofBuf, cast_cast, cast_eq]
  pointwise []
  simp only [sitofp0]

theorem v58_at (c : Dev nD) (i : Fin 256) (k : Fin 128) :
    (V m c main_v58 : S256x128.Idx → EReal) (ix2 i k) = cosS (i.val % 16) k.val := by
  unfold V
  simp only [hostOps0, hostOps0_1, hostOps0_2, List.flatten_cons, List.flatten_nil, List.cons_append, List.nil_append, List.append_nil]
  after_reads_simp
  pointwise []
  after_reads_simp
  pointwise []
  simp only [dite_eq_ite]
  rfl

theorem v61_at (c : Dev nD) (i : Fin 256) (k : Fin 128) :
    (V m c main_v61 : S256x128.Idx → EReal) (ix2 i k) = sinS (i.val % 16) k.val := by
  unfold V
  simp only [hostOps0, hostOps0_1, hostOps0_2, List.flatten_cons, List.flatten_nil, List.cons_append, List.nil_append, List.append_nil]
  after_reads_simp
  pointwise []
  after_reads_simp
  pointwise []
  simp only [dite_eq_ite]
  rfl

end Cert.InSampleIdeal.Rows
-- ==== Proof.IS.Body.lean ====
/- One block of the projection: what the body leaves in its buffers, but for the queries, of what the eleven windows hold. -/
module

public import proofs.«01_k».proof.Proof.IS.Host
public import Idealize.ShloMosaic.Lib.Pipeline.ValueKit

@[expose] public section

set_option Elab.async false
set_option maxRecDepth 16384

noncomputable section

namespace Cert.InSampleIdeal.Rows

open Cert.InSampleIdeal Cert.InSampleIdeal.Gen Idealize.ShloMosaic

/-! ## Scalars -/

theorem col_q (p : ℕ → EReal) (x : ℕ) (h : x < 512) : col p x = p x := by
  unfold col; rw [if_pos h]

theorem col_kv (p : ℕ → EReal) (x : ℕ) (h : x < 512) : col p (512 + x) = p (512 + x) := by
  unfold col; rw [if_neg (by omega), if_pos (by omega)]; congr 1; omega

theorem col_z (p : ℕ → EReal) (x : ℕ) (h : x < 1024) : col p (1024 + x) = p (1088 + x) := by
  unfold col; rw [if_neg (by omega), if_neg (by omega), if_pos (by omega)]; congr 1; omega

theorem col_xbc (p : ℕ → EReal) (x : ℕ) (h : x < 1536) : col p (2048 + x) = p (2112 + x) := by
  unfold col; rw [if_neg (by omega), if_neg (by omega), if_neg (by omega), if_pos (by omega)]; congr 1; omega

theorem col_kr (p : ℕ → EReal) (x : ℕ) (h : x < 64) : col p (3584 + x) = p (1024 + x) := by
  unfold col; rw [if_neg (by omega), if_neg (by omega), if_neg (by omega), if_neg (by omega), if_pos (by omega)]; congr 1; omega

theorem col_dt (p : ℕ → EReal) (x : ℕ) (h : x < 16) : col p (3712 + x) = p (3648 + x) := by
  unfold col
  rw [if_neg (by omega), if_neg (by omega), if_neg (by omega), if_neg (by omega), if_neg (by omega), if_neg (by omega), if_pos (by omega)]
  congr 1; omega

/-- The turn of a lane reads sixty-four lanes. -/
theorem rot_congr (u v : ℕ → EReal) (h : ∀ d, d < 64 → u d = v d) (l d : ℕ) (hd : d < 64) : rot u l d = rot v l d := by
  unfold rot
  split
  · rw [h d hd, h (32 + d) (by omega)]
  · rw [h (d - 32) (by omega), h (32 + (d - 32)) (by omega)]

/-- A lane beside its partner, each times its table, is the lane turned; the lanes after the sixty-fourth are zero. -/
theorem rope_lane (u : ℕ → EReal) (l k : ℕ) (hk : k < 128) :
    u k * cosS l k + (if k < 32 then u ((k + 128 - 96) % 128) else u ((k + 128 - 32) % 128)) * sinS l k = if k < 64 then rot u l k else 0 := by
  unfold cosS sinS rot
  by_cases h1 : k < 32
  · rw [if_pos h1, if_pos h1, if_pos h1, if_pos (by omega), if_pos h1, show (k + 128 - 96) % 128 = 32 + k by omega, mul_neg, sub_eq_add_neg]
  · rw [if_neg h1, if_neg h1, if_neg h1]
    by_cases h2 : k < 64
    · rw [if_pos (by omega), if_pos (by omega), if_pos h2, if_neg h1, show (k + 128 - 32) % 128 = k - 32 by omega, show 32 + (k - 32) = k by omega,
        add_comm]
    · rw [if_neg (by omega), if_neg (by omega), if_neg h2, mul_zero, mul_zero, add_zero]

theorem sel32 (k : ℕ) (hk : k < 128) (a b : EReal) :
    Scalar.select (IntOp.cmpi CmpIPredicate.slt (BitVec.ofNat 32 k) 32#32) a b = if k < 32 then a else b := by
  have e : ∀ k : Fin 128, IntOp.cmpi CmpIPredicate.slt (BitVec.ofNat 32 k.val) 32#32 = if k.val < 32 then 1#1 else 0#1 := by decide
  rw [e ⟨k, hk⟩]
  by_cases h : k < 32
  · rw [if_pos h, if_pos h]; rfl
  · rw [if_neg h, if_neg h]; rfl

theorem sel16 (k : ℕ) (hk : k < 128) (a b : EReal) :
    Scalar.select (IntOp.cmpi CmpIPredicate.slt (BitVec.ofNat 32 k) 16#32) a b = if k < 16 then a else b := by
  have e : ∀ k : Fin 128, IntOp.cmpi CmpIPredicate.slt (BitVec.ofNat 32 k.val) 16#32 = if k.val < 16 then 1#1 else 0#1 := by decide
  rw [e ⟨k, hk⟩]
  by_cases h : k < 16
  · rw [if_pos h, if_pos h]; rfl
  · rw [if_neg h, if_neg h]; rfl

theorem sum_mul_coe {n : ℕ} (c : ℝ) (hc : 0 ≤ c) (f : Fin n → EReal) : ∑ x, f x * (c : EReal) = (∑ x, f x) * (c : EReal) := by
  classical
  rw [mul_comm]
  refine Finset.induction_on (motive := fun S => ∑ x ∈ S, f x * (c : EReal) = (c : EReal) * ∑ x ∈ S, f x) Finset.univ (by simp) fun a S ha ih => ?_
  rw [Finset.sum_insert ha, Finset.sum_insert ha, EReal.left_distrib_of_nonneg_of_ne_top (EReal.coe_nonneg.mpr hc) (EReal.coe_ne_top _), ih, mul_comm (f a)]

/-- The scale is a positive real number. -/
theorem scale_coe : Ideal.ofBits FTy.f32 1037384597#32 = ((13974421 / 134217728 : ℝ) : EReal) := by
  simp [Ideal.ofBits, Ideal.ieee]
  rw [← EReal.coe_mul]
  norm_num

theorem scale_out (a w : Fin 512 → EReal) :
    ∑ x, a x * (w x * Ideal.ofBits FTy.f32 1037384597#32) = (∑ x, a x * w x) * Ideal.ofBits FTy.f32 1037384597#32 := by
  rw [scale_coe, ← sum_mul_coe _ (by norm_num)]
  exact Finset.sum_congr rfl fun x _ => (mul_assoc _ _ _).symm

/-! ## The windows of one block -/

variable (X0 : Vec Ideal S256x2048 .f32) (X1 X2 : Vec Ideal S1x2048 .f32) (X3 : Vec Ideal S2048x3840 .bf16) (X4 X5 : Vec Ideal S1x512 .f32)
  (X6 X7 : Vec Ideal S512x2048 .bf16) (X8 X9 : Vec Ideal S256x128 .f32) (X10 : Vec Ideal S1x128 .f32)
  (p : Fin 256 → ℕ → EReal) (l : Fin 256 → ℕ) (G4 G6 : S1x512.Idx → EReal) (G5 : S1x512x1536.Idx → EReal)
  (G7 G8 : S1x512x8x128.Idx → EReal) (G9 : S1x16.Idx → EReal)

/-- What the windows hold at a block whose rows are `p`, at the places `l`. -/
structure Held : Prop where
  hP : ∀ (r : Fin 256) (c : Fin 3840), ∑ j : Fin 2048, (k0_pay2 (F := Ideal) X0 X1 X2 (ix2 r j) : EReal) * X3 (ix2 j c) = col (p r) c.val
  h4 : ∀ k : Fin 512, (X4 (ix2 0 k) : EReal) = G4 (ix2 0 k)
  h5 : ∀ k : Fin 512, (X5 (ix2 0 k) : EReal) = G6 (ix2 0 k)
  h6 : ∀ (x : Fin 512) (k : Fin 2048), (X6 (ix2 x k) : EReal)
    = if k.val % 256 < 192 then wq G5 x (k.val / 256 * 192 + k.val % 256) * Ideal.ofBits FTy.f32 1037384597#32 else 0
  h7 : ∀ (x : Fin 512) (k : Fin 2048), (X7 (ix2 x k) : EReal)
    = if h : k.val < 1024 then G7 (ix4 0 x ⟨k.val / 128, by omega⟩ ⟨k.val % 128, by omega⟩)
      else G8 (ix4 0 x ⟨(k.val - 1024) / 128, by omega⟩ ⟨(k.val - 1024) % 128, by omega⟩)
  h8 : ∀ (r : Fin 256) (k : Fin 128), (X8 (ix2 r k) : EReal) = cosS (l r) k.val
  h9 : ∀ (r : Fin 256) (k : Fin 128), (X9 (ix2 r k) : EReal) = sinS (l r) k.val
  h10 : ∀ k : Fin 128, (X10 (ix2 0 k) : EReal) = if h : k.val < 16 then G9 (ix2 0 ⟨k.val, h⟩) else 0

theorem z2 : (![0, 0] : Fin 2 → ℕ) = fun _ => 0 := by
  funext a
  match a with
  | ⟨0, _⟩ => rfl
  | ⟨1, _⟩ => rfl

theorem ld0 : View.ld X0 r0_0 = X0 := View.ld_unit_zero z2 _ _
theorem ld1 : View.ld X1 r0_1 = X1 := View.ld_unit_zero z2 _ _
theorem ld5 : View.ld X5 r0_4 = X5 := View.ld_unit_zero z2 _ _
theorem ld8 : View.ld X8 r0_2 = X8 := View.ld_unit_zero z2 _ _
theorem ld10 : View.ld X10 r0_38 = X10 := View.ld_unit_zero z2 _ _

theorem idx2 {a b : ℕ} (y : (⟨2, ![a, b]⟩ : Shape).Idx) : ∃ (r : Fin a) (k : Fin b), y = ix2 r k :=
  ⟨y 0, y 1, funext fun i => by match i with | ⟨0, _⟩ => rfl | ⟨1, _⟩ => rfl⟩

theorem pay3_eq : k0_pay3 (F := Ideal) X8 = X8 := by
  funext y
  obtain ⟨r, k, rfl⟩ := idx2 y
  have e : (k0_pay3 (F := Ideal) X8 (ix2 r k) : EReal) = X8 (ix2 r k) := by pointwise [k0_pay3]
  exact e

theorem pay4_eq : k0_pay4 (F := Ideal) X8 = X8 := by
  funext y
  obtain ⟨r, k, rfl⟩ := idx2 y
  have e : (k0_pay4 (F := Ideal) X8 (ix2 r k) : EReal) = X8 (ix2 r k) := by pointwise [k0_pay4]
  exact e

theorem pay6_eq : k0_pay6 (F := Ideal) X5 = X5 := by
  funext y
  obtain ⟨r, k, rfl⟩ := idx2 y
  have e : (k0_pay6 (F := Ideal) X5 (ix2 r k) : EReal) = X5 (ix2 r k) := by pointwise [k0_pay6]
  exact e

variable {X0 X1 X2 X3 X4 X5 X6 X7 X8 X9 X10 p l G4 G6 G5 G7 G8 G9}
variable (H : Held X0 X1 X2 X3 X4 X5 X6 X7 X8 X9 X10 p l G4 G6 G5 G7 G8 G9)

include H

theorem lat_at (r : Fin 256) (x : Fin 512) : (k0_pay41 (F := Ideal) (k0_pay2 X0 X1 X2) (View.ld X3 r0_29) X5 (ix2 r x) : EReal) = lat (p r) G6 x := by
  have e : ∀ k : Fin 512, ∑ j : Fin 2048, (k0_pay2 (F := Ideal) X0 X1 X2 (ix2 r j) : EReal) * X3 (ix2 j ⟨512 + k.val, by omega⟩) = p r (512 + k.val) :=
    fun k => (H.hP r ⟨512 + k.val, by omega⟩).trans (col_kv _ _ k.isLt)
  simp only [View.ld_unit]
  pointwise [k0_pay41]
  simp only [e, H.h5]
  rfl

theorem out13_at (r : Fin 256) (x : Fin 512) : (out0_13 (F := Ideal) X0 X1 X2 X3 X4 X5 X6 X7 X8 X9 X10 (ix2 r x) : EReal) = lat (p r) G6 x := by
  unfold out0_13 k0_pay52
  rw [View.canon_unit_zero z2, ld0, ld1, ld1, ld5]
  exact lat_at H r x

theorem out16_at (r : Fin 256) (k : Fin 1024) :
    (out0_16 (F := Ideal) X0 X1 X2 X3 X4 X5 X6 X7 X8 X9 X10 (ix2 r k) : EReal) = p r (1088 + k.val) := by
  unfold out0_16 k0_pay52
  rw [View.canon_unit_zero z2, ld0, ld1, ld1]
  have e : (k0_pay49 (F := Ideal) (k0_pay2 X0 X1 X2) (View.ld X3 r0_33) (ix2 r k) : EReal)
      = ∑ j : Fin 2048, (k0_pay2 (F := Ideal) X0 X1 X2 (ix2 r j) : EReal) * X3 (ix2 j ⟨1024 + k.val, by omega⟩) := by
    simp only [View.ld_unit]
    pointwise [k0_pay49]
  exact e.trans ((H.hP r _).trans (col_z _ _ k.isLt))

theorem out17_at (r : Fin 256) (k : Fin 1536) :
    (out0_17 (F := Ideal) X0 X1 X2 X3 X4 X5 X6 X7 X8 X9 X10 (ix2 r k) : EReal) = p r (2112 + k.val) := by
  unfold out0_17 k0_pay52
  rw [View.canon_unit_zero z2, ld0, ld1, ld1]
  have e : (k0_pay50 (F := Ideal) (k0_pay2 X0 X1 X2) (View.ld X3 r0_35) (ix2 r k) : EReal)
      = ∑ j : Fin 2048, (k0_pay2 (F := Ideal) X0 X1 X2 (ix2 r j) : EReal) * X3 (ix2 j ⟨2048 + k.val, by omega⟩) := by
    simp only [View.ld_unit]
    pointwise [k0_pay50]
  exact e.trans ((H.hP r _).trans (col_xbc _ _ k.isLt))

theorem out18_at (r : Fin 256) (k : Fin 128) :
    (out0_18 (F := Ideal) X0 X1 X2 X3 X4 X5 X6 X7 X8 X9 X10 (ix2 r k) : EReal) = dtS (p r) G9 k := by
  unfold out0_18 k0_pay52
  rw [View.canon_unit_zero z2, ld0, ld1, ld1, ld10]
  have e : ∀ k : Fin 128, ∑ j : Fin 2048, (k0_pay2 (F := Ideal) X0 X1 X2 (ix2 r j) : EReal) * View.ld X3 r0_37 (ix2 j k) = col (p r) (3712 + k.val) := fun k => by
    have e' : (k0_pay43 (F := Ideal) (k0_pay2 X0 X1 X2) (View.ld X3 r0_37) (ix2 r k) : EReal)
        = ∑ j : Fin 2048, (k0_pay2 (F := Ideal) X0 X1 X2 (ix2 r j) : EReal) * X3 (ix2 j ⟨3712 + k.val, by omega⟩) := by
      simp only [View.ld_unit]
      pointwise [k0_pay43]
    refine Eq.trans ?_ (e'.trans (H.hP r _))
    generalize View.ld X3 r0_37 = W
    pointwise [k0_pay43]
  generalize View.ld X3 r0_37 = W at e
  generalize k0_pay2 (F := Ideal) X0 X1 X2 = M at e
  pointwise [k0_pay1, k0_pay51]
  simp only [e, sel16 k.val k.isLt, H.h10]
  unfold dtS sp
  by_cases h : k.val < 16
  · rw [if_pos h, dif_pos h, dif_pos h, col_dt _ _ h]
    simp
  · rw [if_neg h, dif_neg h]

/-- The rotated key's lanes, of all the 128. -/
theorem kr_lane (r : Fin 256) (k : Fin 128) :
    (k0_pay46 (F := Ideal) X8 X9 (k0_pay43 (k0_pay2 X0 X1 X2) (View.ld X3 r0_31)) k0_pay44 (k0_pay45 (k0_pay2 X0 X1 X2) (View.ld X3 r0_31)) (ix2 r k) : EReal)
      = if k.val < 64 then krS (p r) (l r) k.val else 0 := by
  have e : ∀ k : Fin 128, (k0_pay43 (F := Ideal) (k0_pay2 X0 X1 X2) (View.ld X3 r0_31) (ix2 r k) : EReal) = col (p r) (3584 + k.val) := fun k => by
    have e' : (k0_pay43 (F := Ideal) (k0_pay2 X0 X1 X2) (View.ld X3 r0_31) (ix2 r k) : EReal)
        = ∑ j : Fin 2048, (k0_pay2 (F := Ideal) X0 X1 X2 (ix2 r j) : EReal) * X3 (ix2 j ⟨3584 + k.val, by omega⟩) := by
      simp only [View.ld_unit]
      pointwise [k0_pay43]
    rw [e', H.hP]
  unfold k0_pay45
  generalize k0_pay43 (F := Ideal) (k0_pay2 X0 X1 X2) (View.ld X3 r0_31) = M at e
  pointwise [k0_pay46, k0_pay44]
  simp only [e, sel32 k.val k.isLt, H.h8, H.h9]
  refine (rope_lane (fun d => col (p r) (3584 + d)) (l r) k.val k.isLt).trans ?_
  split
  · exact rot_congr _ _ (fun d hd => col_kr _ _ hd) _ _ ‹_›
  · rfl

theorem out15_at (r : Fin 256) (k : Fin 128) :
    (out0_15 (F := Ideal) X0 X1 X2 X3 X4 X5 X6 X7 X8 X9 X10 (ix2 r k) : EReal) = if k.val < 64 then krS (p r) (l r) k.val else 0 := by
  unfold out0_15 k0_pay61 k0_pay60 k0_pay59 k0_pay54 k0_pay53 k0_pay52
  rw [View.canon_unit_zero z2, ld0, ld1, ld1, ld8, ld8, pay3_eq, pay4_eq]
  refine Eq.trans ?_ (kr_lane H r k)
  generalize k0_pay45 (F := Ideal) (k0_pay2 X0 X1 X2) (View.ld X3 r0_31) = N
  generalize k0_pay43 (F := Ideal) (k0_pay2 X0 X1 X2) (View.ld X3 r0_31) = M
  pointwise [k0_pay48]

theorem out14_at (r : Fin 256) (k : Fin 64) :
    (out0_14 (F := Ideal) X0 X1 X2 X3 X4 X5 X6 X7 X8 X9 X10 (ix2 r k) : EReal) = krS (p r) (l r) k.val := by
  unfold out0_14 k0_pay61 k0_pay60 k0_pay59 k0_pay54 k0_pay53 k0_pay52
  rw [View.canon_unit_zero z2, ld0, ld1, ld1, ld8, ld8, pay3_eq, pay4_eq]
  refine Eq.trans ?_ ((kr_lane H r ⟨k.val, by omega⟩).trans (if_pos k.isLt))
  generalize k0_pay45 (F := Ideal) (k0_pay2 X0 X1 X2) (View.ld X3 r0_31) = N
  generalize k0_pay43 (F := Ideal) (k0_pay2 X0 X1 X2) (View.ld X3 r0_31) = M
  pointwise [k0_pay47]

end Cert.InSampleIdeal.Rows
-- ==== Proof.IS.Heads.lean ====
/- The queries of one block: sixteen stores of 128 columns, two of a head. -/
module

public import proofs.«01_k».proof.Proof.IS.Body

@[expose] public section

set_option Elab.async false
set_option maxRecDepth 16384

noncomputable section

namespace Cert.InSampleIdeal.Rows

open Cert.InSampleIdeal Cert.InSampleIdeal.Gen Idealize.ShloMosaic

/-! ## The stores of the later heads spell the first head's terms -/

section
variable (x y : FVec Ideal S256x128 .f32) (v : FVec Ideal S256x512 .f32) (n : FVec Ideal S1x512 .f32) (s : FVec Ideal S256 .f32)
  (f : Vec Ideal S512x256 .bf16)

theorem pay13_eq : k0_pay13 v n s f = k0_pay10 v n s f := rfl
theorem pay18_eq : k0_pay18 (k0_pay8 v n s) f = k0_pay10 v n s f := rfl
theorem pay21_eq : k0_pay21 (k0_pay8 v n s) f = k0_pay10 v n s f := rfl
theorem pay26_eq : k0_pay26 (k0_pay8 v n s) f = k0_pay10 v n s f := rfl
theorem pay29_eq : k0_pay29 (k0_pay8 v n s) f = k0_pay10 v n s f := rfl
theorem pay34_eq : k0_pay34 (k0_pay8 v n s) f = k0_pay10 v n s f := rfl
theorem pay37_eq : k0_pay37 (k0_pay8 v n s) f = k0_pay10 v n s f := rfl
theorem pay16_eq : k0_pay16 x y (k0_pay14 v n s f) k0_pay15 = k0_pay11 x y v n s f := rfl
theorem pay19_eq : k0_pay19 x y (k0_pay8 v n s) f = k0_pay11 x y v n s f := rfl
theorem pay27_eq : k0_pay27 x y (k0_pay8 v n s) f = k0_pay11 x y v n s f := rfl
theorem pay35_eq : k0_pay35 x y (k0_pay8 v n s) f = k0_pay11 x y v n s f := rfl
theorem pay24_eq : k0_pay24 x y (k0_pay22 (k0_pay8 v n s) f) k0_pay23 = k0_pay11 x y v n s f := rfl
theorem pay32_eq : k0_pay32 x y (k0_pay30 (k0_pay8 v n s) f) k0_pay31 = k0_pay11 x y v n s f := rfl
theorem pay40_eq : k0_pay40 x y (k0_pay38 (k0_pay8 v n s) f) k0_pay39 = k0_pay11 x y v n s f := rfl
end

/-! ## One head -/

variable {X0 : Vec Ideal S256x2048 .f32} {X1 X2 : Vec Ideal S1x2048 .f32} {X3 : Vec Ideal S2048x3840 .bf16} {X4 X5 : Vec Ideal S1x512 .f32}
  {X6 X7 : Vec Ideal S512x2048 .bf16} {X8 X9 : Vec Ideal S256x128 .f32} {X10 : Vec Ideal S1x128 .f32}
  {p : Fin 256 → ℕ → EReal} {l : Fin 256 → ℕ} {G4 G6 : S1x512.Idx → EReal} {G5 : S1x512x1536.Idx → EReal}
  {G7 G8 : S1x512x8x128.Idx → EReal} {G9 : S1x16.Idx → EReal}
variable (H : Held X0 X1 X2 X3 X4 X5 X6 X7 X8 X9 X10 p l G4 G6 G5 G7 G8 G9)

include H

theorem pay5_at (r : Fin 256) (x : Fin 512) : (k0_pay5 (F := Ideal) X0 X1 X2 (View.ld X3 r0_3) (ix2 r x) : EReal) = p r x.val := by
  have e : (k0_pay5 (F := Ideal) X0 X1 X2 (View.ld X3 r0_3) (ix2 r x) : EReal)
      = ∑ j : Fin 2048, (k0_pay2 (F := Ideal) X0 X1 X2 (ix2 r j) : EReal) * X3 (ix2 j ⟨x.val, by omega⟩) := by
    simp only [View.ld_unit]
    pointwise [k0_pay5]
  exact e.trans ((H.hP r _).trans (col_q _ _ x.isLt))

/-- The normalised query latent of a row. -/
theorem pay8_at (r : Fin 256) (x : Fin 512) :
    (k0_pay8 (F := Ideal) (k0_pay5 X0 X1 X2 (View.ld X3 r0_3)) X4 (k0_pay7 X0 X1 X2 (View.ld X3 r0_3)) (ix2 r x) : EReal) = qn (p r) G4 x := by
  have e := fun x => pay5_at H r x
  have e7 : (k0_pay7 (F := Ideal) X0 X1 X2 (View.ld X3 r0_3) (ix1 r) : EReal) = ∑ x : Fin 512, p r x.val * p r x.val := by
    generalize View.ld X3 r0_3 = W at e
    pointwise [k0_pay7]
    simp only [e]
  generalize View.ld X3 r0_3 = W at e e7
  generalize k0_pay7 (F := Ideal) X0 X1 X2 W = s at e7
  generalize k0_pay5 (F := Ideal) X0 X1 X2 W = v at e
  pointwise [k0_pay8]
  simp only [e, e7, H.h4]
  rfl

theorem ld6_at (h : ℕ) (hh : h < 8) (inb) (x : Fin 512) (k : Fin 256) :
    (View.ld X6 (Rect.unit (s := S512x2048) ![0, 256 * h] S512x256.size inb) (ix2 x k) : EReal)
      = if k.val < 192 then wq G5 x (h * 192 + k.val) * Ideal.ofBits FTy.f32 1037384597#32 else 0 := by
  have e : (View.ld X6 (Rect.unit (s := S512x2048) ![0, 256 * h] S512x256.size inb) (ix2 x k) : EReal) = X6 (ix2 x ⟨256 * h + k.val, by omega⟩) := by
    simp only [View.ld_unit]
    pointwise []
  rw [e, H.h6]
  show (if (256 * h + k.val) % 256 < 192 then wq G5 x ((256 * h + k.val) / 256 * 192 + (256 * h + k.val) % 256) * Ideal.ofBits FTy.f32 1037384597#32 else 0) = _
  rw [show (256 * h + k.val) % 256 = k.val by omega, show (256 * h + k.val) / 256 = h by omega]

/-- A head's product of the latent with its 256 columns. -/
theorem pay9_at (h : ℕ) (hh : h < 8) (inb) (r : Fin 256) (k : Fin 256) :
    (k0_pay9 (F := Ideal) (k0_pay5 X0 X1 X2 (View.ld X3 r0_3)) X4 (k0_pay7 X0 X1 X2 (View.ld X3 r0_3))
      (View.ld X6 (Rect.unit (s := S512x2048) ![0, 256 * h] S512x256.size inb)) (ix2 r k) : EReal)
      = if k.val < 192 then qd (p r) G4 G5 h k.val else 0 := by
  have e8 := pay8_at H r
  have e6 := fun x => ld6_at H h hh inb x k
  generalize View.ld X6 (Rect.unit (s := S512x2048) ![0, 256 * h] S512x256.size inb) = f at e6
  generalize k0_pay7 (F := Ideal) X0 X1 X2 (View.ld X3 r0_3) = s at e8
  generalize k0_pay5 (F := Ideal) X0 X1 X2 (View.ld X3 r0_3) = v at e8
  pointwise [k0_pay9]
  simp only [e8, e6]
  split
  · rw [scale_out]; rfl
  · simp

/-- The element of the block that a store writes. -/
def qAt (p : Fin 256 → ℕ → EReal) (l : Fin 256 → ℕ) (G4 : S1x512.Idx → EReal) (G5 : S1x512x1536.Idx → EReal) (y : S256x2048.Idx) : EReal :=
  qS (p (y 0)) G4 G5 (l (y 0)) (y 1).val

theorem even_at (h : ℕ) (hh : h < 8) (inb) (inb') (y : (⟨2, ![256, 128]⟩ : Shape).Idx) :
    (k0_pay10 (F := Ideal) (k0_pay5 X0 X1 X2 (View.ld X3 r0_3)) X4 (k0_pay7 X0 X1 X2 (View.ld X3 r0_3))
      (View.ld X6 (Rect.unit (s := S512x2048) ![0, 256 * h] S512x256.size inb)) y : EReal)
      = qAt p l G4 G5 ((Rect.unit (s := S256x2048) ![0, 256 * h] S256x128.size inb').emb y) := by
  obtain ⟨r, k, rfl⟩ := idx2 y
  have e : (Rect.unit (s := S256x2048) ![0, 256 * h] S256x128.size inb').emb (ix2 r k) = (ix2 r ⟨256 * h + k.val, by omega⟩ : S256x2048.Idx) := by
    funext a
    apply Fin.ext
    match a with
    | ⟨0, _⟩ => show 0 + 1 * r.val = r.val; omega
    | ⟨1, _⟩ => show 256 * h + 1 * k.val = 256 * h + k.val; omega
  rw [e]
  have e9 := fun k => pay9_at H h hh inb r k
  have e10 : ∀ (v : FVec Ideal S256x512 .f32) (s : FVec Ideal S256 .f32) (f : Vec Ideal S512x256 .bf16),
      (k0_pay10 (F := Ideal) v X4 s f (ix2 r k) : EReal) = k0_pay9 (F := Ideal) v X4 s f (ix2 r ⟨k.val, by omega⟩) := fun v s f => by
    pointwise [k0_pay10]
  refine (e10 _ _ _).trans ((e9 _).trans ?_)
  show _ = qS (p r) G4 G5 (l r) (256 * h + k.val)
  unfold qS
  rw [show (256 * h + k.val) % 256 = k.val by omega, show (256 * h + k.val) / 256 = h by omega, if_pos (by show k.val < 192; omega), if_pos k.isLt]

theorem odd_at (h : ℕ) (hh : h < 8) (inb) (inb') (y : (⟨2, ![256, 128]⟩ : Shape).Idx) :
    (k0_pay11 (F := Ideal) X8 X9 (k0_pay5 X0 X1 X2 (View.ld X3 r0_3)) X4 (k0_pay7 X0 X1 X2 (View.ld X3 r0_3))
      (View.ld X6 (Rect.unit (s := S512x2048) ![0, 256 * h] S512x256.size inb)) y : EReal)
      = qAt p l G4 G5 ((Rect.unit (s := S256x2048) ![0, 256 * h + 128] S256x128.size inb').emb y) := by
  obtain ⟨r, k, rfl⟩ := idx2 y
  have e : (Rect.unit (s := S256x2048) ![0, 256 * h + 128] S256x128.size inb').emb (ix2 r k) = (ix2 r ⟨256 * h + 128 + k.val, by omega⟩ : S256x2048.Idx) := by
    funext a
    apply Fin.ext
    match a with
    | ⟨0, _⟩ => show 0 + 1 * r.val = r.val; omega
    | ⟨1, _⟩ => show 256 * h + 128 + 1 * k.val = 256 * h + 128 + k.val; omega
  rw [e]
  have e9 := fun k => pay9_at H h hh inb r k
  have e11 : ∀ (v : FVec Ideal S256x512 .f32) (s : FVec Ideal S256 .f32) (f : Vec Ideal S512x256 .bf16),
      (∀ k : Fin 256, (k0_pay9 (F := Ideal) v X4 s f (ix2 r k) : EReal) = if k.val < 192 then qd (p r) G4 G5 h k.val else 0) →
      (k0_pay11 (F := Ideal) X8 X9 v X4 s f (ix2 r k) : EReal)
        = (fun d => if 128 + d < 192 then qd (p r) G4 G5 h (128 + d) else 0) k.val * cosS (l r) k.val
          + (if k.val < 32 then (fun d => if 128 + d < 192 then qd (p r) G4 G5 h (128 + d) else 0) ((k.val + 128 - 96) % 128)
              else (fun d => if 128 + d < 192 then qd (p r) G4 G5 h (128 + d) else 0) ((k.val + 128 - 32) % 128)) * sinS (l r) k.val := fun v s f hv => by
    pointwise [k0_pay11]
    simp only [hv, sel32 k.val k.isLt, H.h8, H.h9]
  refine (e11 _ _ _ e9).trans ((rope_lane (fun d => if 128 + d < 192 then qd (p r) G4 G5 h (128 + d) else 0) (l r) k.val k.isLt).trans ?_)
  show _ = qS (p r) G4 G5 (l r) (256 * h + 128 + k.val)
  unfold qS
  rw [show (256 * h + 128 + k.val) % 256 = 128 + k.val by omega, show (256 * h + 128 + k.val) / 256 = h by omega,
    if_neg (show ¬ 128 + k.val < 128 by omega), show 128 + k.val - 128 = k.val by omega]
  split
  · exact rot_congr _ _ (fun d hd => if_pos (by omega)) _ _ ‹_›
  · rfl

theorem out11_at (r : Fin 256) (k : Fin 2048) :
    (out0_11 (F := Ideal) X0 X1 X2 X3 X4 X5 X6 X7 X8 X9 X10 (ix2 r k) : EReal) = qS (p r) G4 G5 (l r) k.val := by
  have H' : ∀ y : S256x2048.Idx, out0_11 (F := Ideal) X0 X1 X2 X3 X4 X5 X6 X7 X8 X9 X10 y = qAt p l G4 G5 y := by
    intro y
    unfold out0_11
    refine View.canon_apply_of_pieces (Val := Elt Ideal) (e := .bf16) (qAt p l G4 G5) _ ?_ y (cover0_11 _ _ _ _ _ _ _ _ _ _ _ _ _ _ _ _ y)
    unfold k0_pay58 k0_pay57 k0_pay56 k0_pay55 k0_pay54 k0_pay53
    simp only [ld0, ld1, ld5, ld8, pay3_eq, pay4_eq, pay6_eq, pay13_eq, pay16_eq, pay18_eq, pay19_eq, pay21_eq, pay24_eq, pay26_eq, pay27_eq, pay29_eq,
      pay32_eq, pay34_eq, pay35_eq, pay37_eq, pay40_eq]
    simp only [List.forall_mem_cons]
    exact ⟨odd_at H 7 (by omega) _ _, even_at H 7 (by omega) _ _, odd_at H 6 (by omega) _ _, even_at H 6 (by omega) _ _,
      odd_at H 5 (by omega) _ _, even_at H 5 (by omega) _ _, odd_at H 4 (by omega) _ _, even_at H 4 (by omega) _ _,
      odd_at H 3 (by omega) _ _, even_at H 3 (by omega) _ _, odd_at H 2 (by omega) _ _, even_at H 2 (by omega) _ _,
      odd_at H 1 (by omega) _ _, even_at H 1 (by omega) _ _, odd_at H 0 (by omega) _ _, even_at H 0 (by omega) _ _,
      fun q hq => absurd hq List.not_mem_nil⟩
  exact H' (ix2 r k)

end Cert.InSampleIdeal.Rows
-- ==== Proof.IS.Ref.lean ====
/- The reference's seven results, an element at a time. -/
module

public import proofs.«01_k».proof.Proof.IS.Spec

@[expose] public section

set_option Elab.async false

noncomputable section

namespace Cert.InSampleIdeal.Rows

open Cert.InSampleRefIdeal Cert.InSampleRefIdeal.Gen Cert.InSampleRefIdeal.Read Idealize.ShloMosaic

variable (x0 : (⟨S16x16x2048, .f32⟩ : BufTy).Contents (Elt Ideal)) (x1 x2 : (⟨S2048, .f32⟩ : BufTy).Contents (Elt Ideal))
  (x3 : (⟨S1x2048x3664, .f32⟩ : BufTy).Contents (Elt Ideal)) (x4 x6 : (⟨S1x512, .f32⟩ : BufTy).Contents (Elt Ideal))
  (x5 : (⟨S1x512x1536, .f32⟩ : BufTy).Contents (Elt Ideal))
  (x9 : (⟨S1x16, .f32⟩ : BufTy).Contents (Elt Ideal))

/-- The batch and the place of a row. -/
abbrev bo (i : Fin 256) : Fin 16 := ⟨i.val / 16, by omega⟩
abbrev lo (i : Fin 256) : Fin 16 := ⟨i.val % 16, by omega⟩

theorem pr_of (b : Fin 16) (l : Fin 16) (c : Fin 3664) :
    val_main_v23 (F := Ideal) x0 x1 x2 x3 (ix3 b l c) = pr x0 x1 x2 x3 b l c.val := by
  unfold pr
  rw [dif_pos c.isLt]

theorem wq_of (x : Fin 512) (j : Fin 1536) : (x5 (ix3 0 x j) : EReal) = wq x5 x j.val := by
  unfold wq
  rw [dif_pos j.isLt]

theorem lat_of (b : Fin 16) (l : Fin 16) (x : Fin 512) :
    val_main_v98 (F := Ideal) x0 x1 x2 x3 x6 (ix3 b l x) = lat (pr x0 x1 x2 x3 b l) x6 x := by
  pointwise [val_main_v98, val_main_v97, val_main_v96, val_main_v95, val_main_v94, val_main_v93, val_main_v92, val_main_v91, val_main_v90, val_main_v89, val_main_v88, val_main_v87, val_main_v86, val_main_v85, val_main_v25, val_main_cst_11, val_main_cst_12, val_main_cst_13]
  simp only [pr_of]
  rfl

theorem qn_of (b : Fin 16) (l : Fin 16) (x : Fin 512) :
    val_main_v43 (F := Ideal) x0 x1 x2 x3 x4 (ix3 b l x) = qn (pr x0 x1 x2 x3 b l) x4 x := by
  pointwise [val_main_v43, val_main_v42, val_main_v41, val_main_v40, val_main_v39, val_main_v38, val_main_v37, val_main_v36, val_main_v35, val_main_v34, val_main_v33, val_main_v32, val_main_v31, val_main_v30, val_main_v24, val_main_cst_4, val_main_cst_5, val_main_cst_6]
  simp only [pr_of, Nat.zero_add]
  rfl

theorem ang_q (l : Fin 16) (j : Fin 32) : val_main_v65 (F := Ideal) (ix2 l j) = ang l j := by
  pointwise [val_main_v65, val_main_v64, val_main_v63, val_main_v62, val_main_v61, val_main_v60, val_main_v59, val_main_v58, val_main_v57, val_main_v56, val_main_v55, val_main_v54, val_main_v53, val_main_v52, val_main_v51, val_main_cst_8, val_main_cst_9, val_main_c]
  rfl

theorem ang_k (l : Fin 16) (j : Fin 32) : val_main_v114 (F := Ideal) (ix2 l j) = ang l j := by
  pointwise [val_main_v114, val_main_v113, val_main_v112, val_main_v111, val_main_v110, val_main_v109, val_main_v108, val_main_v107, val_main_v106, val_main_v105, val_main_v104, val_main_v103, val_main_v102, val_main_v101, val_main_v100, val_main_cst_14, val_main_cst_15, val_main_c_16]
  rfl

theorem ref_q (i : Fin 256) (k : Fin 2048) :
    val_main_v139 (F := Ideal) x0 x1 x2 x3 x4 x5 (ix2 i k) = qS (pr x0 x1 x2 x3 (bo i) (lo i)) x4 x5 (lo i).val k := by
  pointwise [val_main_v139, val_main_v138, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v50, val_main_v49, val_main_v48, val_main_v47, val_main_v46, val_main_v45, val_main_v44, val_main_cst_7, val_main_cst_10]
  simp only [qn_of, wq_of, ang_q, dite_eq_ite]
  rfl

theorem ref_lat (i : Fin 256) (k : Fin 512) :
    val_main_v140 (F := Ideal) x0 x1 x2 x3 x6 (ix2 i k) = lat (pr x0 x1 x2 x3 (bo i) (lo i)) x6 k := by
  pointwise [val_main_v140]
  rw [lat_of]

theorem ref_kr (i : Fin 256) (d : Fin 64) :
    val_main_v141 (F := Ideal) x0 x1 x2 x3 (ix2 i d) = krS (pr x0 x1 x2 x3 (bo i) (lo i)) (lo i).val d := by
  pointwise [val_main_v141, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v99, val_main_v26]
  simp only [pr_of, ang_k, dite_eq_ite]
  rfl

theorem sitofp_zero : FloatOps.sitofp (F := Ideal) FTy.f32 (0#32) = (0 : EReal) := by
  show ((((0#32 : BitVec 32).toInt : ℤ) : ℝ) : EReal) = 0
  simp

theorem ref_krp (i : Fin 256) (k : Fin 128) :
    val_main_v144 (F := Ideal) x0 x1 x2 x3 (ix2 i k) = if k.val < 64 then krS (pr x0 x1 x2 x3 (bo i) (lo i)) (lo i).val k else (0 : EReal) := by
  pointwise [val_main_v144, val_main_v143, val_main_v142, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v99, val_main_v26, val_main_call1_v0, val_main_c_17]
  simp only [pr_of, ang_k, dite_eq_ite, sitofp_zero]
  rfl

theorem ref_z (i : Fin 256) (k : Fin 1024) :
    val_main_v146 (F := Ideal) x0 x1 x2 x3 (ix2 i k) = pr x0 x1 x2 x3 (bo i) (lo i) (1088 + k) := by
  pointwise [val_main_v146, val_main_v145, val_main_v27]
  rw [pr_of]

theorem ref_xbc (i : Fin 256) (k : Fin 1536) :
    val_main_v147 (F := Ideal) x0 x1 x2 x3 (ix2 i k) = pr x0 x1 x2 x3 (bo i) (lo i) (2112 + k) := by
  pointwise [val_main_v147, val_main_v28]
  rw [pr_of]

theorem ref_dt (i : Fin 256) (k : Fin 128) :
    val_main_v149 (F := Ideal) x0 x1 x2 x3 x9 (ix2 i k) = dtS (pr x0 x1 x2 x3 (bo i) (lo i)) x9 k := by
  pointwise [val_main_v149, val_main_v148, val_main_v137, val_main_call2_v0, val_main_c_18, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v136, val_main_v135, val_main_v134, val_main_v133, val_main_v29]
  simp only [pr_of, sitofp_zero, ne_eq, not_true_eq_false, if_false]
  rfl

end Cert.InSampleIdeal.Rows
-- ==== Proof.IS.Out.lean ====
/- The seven output arrays: the one block of 256 rows is the whole of each, so every array is the reference's result of
   the arguments. -/
module

public import proofs.«01_k».proof.Proof.IS.Heads
public import proofs.«01_k».proof.Proof.IS.Ref
public import Idealize.ShloMosaic.Lib.Pipeline.ValueKit

@[expose] public section

set_option Elab.async false
set_option maxRecDepth 16384

noncomputable section

namespace Cert.InSampleIdeal.Rows

open Cert.InSampleIdeal Cert.InSampleIdeal.Gen Idealize.ShloMosaic Idealize.SL.Sem Idealize.ShloMosaic.TcCoe

variable (m : (ℓ : Loc nD τ sig) → Buf (Elt Ideal) ℓ)

/-- The layer norm of a row, as the reference spells it. -/
abbrev ln (c : Dev nD) (b : Fin 16) (l : Fin 16) (j : Fin 2048) : EReal :=
  Cert.InSampleRefIdeal.Read.val_main_v21 (F := Ideal) (g0 m c) (g1 m c) (g2 m c) (ix3 b l j)

theorem ln_at (x0 : S16x16x2048.Idx → EReal) (x1 x2 : S2048.Idx → EReal) (X0 : Vec Ideal S256x2048 .f32) (X1 X2 : Vec Ideal S1x2048 .f32)
    (r : Fin 256) (b : Fin 16) (l : Fin 16) (h0 : ∀ j : Fin 2048, (X0 (ix2 r j) : EReal) = x0 (ix3 b l j))
    (h1 : ∀ j : Fin 2048, (X1 (ix2 0 j) : EReal) = x1 (ix1 j)) (h2 : ∀ j : Fin 2048, (X2 (ix2 0 j) : EReal) = x2 (ix1 j)) (j : Fin 2048) :
    (k0_pay2 (F := Ideal) X0 X1 X2 (ix2 r j) : EReal) = Cert.InSampleRefIdeal.Read.val_main_v21 (F := Ideal) x0 x1 x2 (ix3 b l j) := by
  open Cert.InSampleRefIdeal.Read in
  pointwise [k0_pay2, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  simp only [h0, h1, h2]

theorem pr_sum (x0 : S16x16x2048.Idx → EReal) (x1 x2 : S2048.Idx → EReal) (x3 : S1x2048x3664.Idx → EReal) (b : Fin 16) (l : Fin 16) (k : ℕ) :
    ∑ j : Fin 2048, Cert.InSampleRefIdeal.Read.val_main_v21 (F := Ideal) x0 x1 x2 (ix3 b l j) * w3 x3 j k = pr x0 x1 x2 x3 b l k := by
  unfold pr w3
  by_cases h : k < 3664
  · simp only [dif_pos h]
    open Cert.InSampleRefIdeal.Read in
    pointwise [val_main_v23, val_main_v22]
  · simp only [dif_neg h, mul_zero, Finset.sum_const_zero]

theorem col_sum (a : Fin 2048 → EReal) (w : Fin 2048 → ℕ → EReal) (k : ℕ) : ∑ j : Fin 2048, a j * col (w j) k = col (fun k => ∑ j : Fin 2048, a j * w j k) k := by
  unfold col
  split_ifs <;> first | rfl | simp

/-! ## The blocks -/

theorem index0 : ∀ t : Fin cfg0.N, (cfg0.win (0 : Fin 19)).index t = ![0, 0] := by decide +kernel
theorem index1 : ∀ t : Fin cfg0.N, (cfg0.win (1 : Fin 19)).index t = ![0, 0] := by decide +kernel
theorem index2 : ∀ t : Fin cfg0.N, (cfg0.win (2 : Fin 19)).index t = ![0, 0] := by decide +kernel
theorem index3 : ∀ t : Fin cfg0.N, (cfg0.win (3 : Fin 19)).index t = ![0, 0] := by decide +kernel
theorem index4 : ∀ t : Fin cfg0.N, (cfg0.win (4 : Fin 19)).index t = ![0, 0] := by decide +kernel
theorem index5 : ∀ t : Fin cfg0.N, (cfg0.win (5 : Fin 19)).index t = ![0, 0] := by decide +kernel
theorem index6 : ∀ t : Fin cfg0.N, (cfg0.win (6 : Fin 19)).index t = ![0, 0] := by decide +kernel
theorem index7 : ∀ t : Fin cfg0.N, (cfg0.win (7 : Fin 19)).index t = ![0, 0] := by decide +kernel
theorem index8 : ∀ t : Fin cfg0.N, (cfg0.win (8 : Fin 19)).index t = ![0, 0] := by decide +kernel
theorem index9 : ∀ t : Fin cfg0.N, (cfg0.win (9 : Fin 19)).index t = ![0, 0] := by decide +kernel
theorem index10 : ∀ t : Fin cfg0.N, (cfg0.win (10 : Fin 19)).index t = ![0, 0] := by decide +kernel
theorem index11 : ∀ t : Fin cfg0.N, (cfg0.win (11 : Fin 19)).index t = ![0, 0] := by decide +kernel
theorem index13 : ∀ t : Fin cfg0.N, (cfg0.win (13 : Fin 19)).index t = ![0, 0] := by decide +kernel
theorem index14 : ∀ t : Fin cfg0.N, (cfg0.win (14 : Fin 19)).index t = ![0, 0] := by decide +kernel
theorem index15 : ∀ t : Fin cfg0.N, (cfg0.win (15 : Fin 19)).index t = ![0, 0] := by decide +kernel
theorem index16 : ∀ t : Fin cfg0.N, (cfg0.win (16 : Fin 19)).index t = ![0, 0] := by decide +kernel
theorem index17 : ∀ t : Fin cfg0.N, (cfg0.win (17 : Fin 19)).index t = ![0, 0] := by decide +kernel
theorem index18 : ∀ t : Fin cfg0.N, (cfg0.win (18 : Fin 19)).index t = ![0, 0] := by decide +kernel
theorem covers11 : (cfg0.win (11 : Fin 19)).Covers := by decide +kernel
theorem covers13 : (cfg0.win (13 : Fin 19)).Covers := by decide +kernel
theorem covers14 : (cfg0.win (14 : Fin 19)).Covers := by decide +kernel
theorem covers15 : (cfg0.win (15 : Fin 19)).Covers := by decide +kernel
theorem covers16 : (cfg0.win (16 : Fin 19)).Covers := by decide +kernel
theorem covers17 : (cfg0.win (17 : Fin 19)).Covers := by decide +kernel
theorem covers18 : (cfg0.win (18 : Fin 19)).Covers := by decide +kernel

/-- A block's row of the arrays. -/
abbrev row (t : Fin cfg0.N) (r : Fin 256) : Fin 256 := ⟨256 * t.val + r.val, by have h : t.val < 1 := t.isLt; omega⟩

theorem row_mod (t : Fin cfg0.N) (r : Fin 256) : r.val % 16 = (lo (row t r)).val := by
  have h : t.val < 1 := t.isLt
  show r.val % 16 = (256 * t.val + r.val) % 16
  omega

theorem ib0 (c : Dev nD) (t : Fin cfg0.N) (r : Fin 256) (k : Fin 2048) : (iblk m c (0 : Fin 19) t (ix2 r k) : EReal) = V m c main_v34 (ix2 (row t r) k) := by
  unfold iblk
  show V m c main_v34 (((cfg0.win (0 : Fin 19)).blk t).view.emb (ix2 r k)) = _
  congr 1
  funext a
  apply Fin.ext
  blk_simp [index0 t]
  fin_cases a
  · have h : t.val < 1 := t.isLt
    show 0 * 256 + r.val = 256 * t.val + r.val; omega
  · show 0 * 2048 + k.val = k.val; omega

theorem ib1 (c : Dev nD) (t : Fin cfg0.N) (r : Fin 1) (k : Fin 2048) : (iblk m c (1 : Fin 19) t (ix2 r k) : EReal) = V m c main_v21 (ix2 r k) := by
  unfold iblk
  show V m c main_v21 (((cfg0.win (1 : Fin 19)).blk t).view.emb (ix2 r k)) = _
  congr 1
  funext a
  apply Fin.ext
  blk_simp [index1 t]
  fin_cases a
  · show 0 * 1 + r.val = r.val; omega
  · show 0 * 2048 + k.val = k.val; omega

theorem ib2 (c : Dev nD) (t : Fin cfg0.N) (r : Fin 1) (k : Fin 2048) : (iblk m c (2 : Fin 19) t (ix2 r k) : EReal) = V m c main_v22 (ix2 r k) := by
  unfold iblk
  show V m c main_v22 (((cfg0.win (2 : Fin 19)).blk t).view.emb (ix2 r k)) = _
  congr 1
  funext a
  apply Fin.ext
  blk_simp [index2 t]
  fin_cases a
  · show 0 * 1 + r.val = r.val; omega
  · show 0 * 2048 + k.val = k.val; omega

theorem ib3 (c : Dev nD) (t : Fin cfg0.N) (r : Fin 2048) (k : Fin 3840) : (iblk m c (3 : Fin 19) t (ix2 r k) : EReal) = V m c main_v23 (ix2 r k) := by
  unfold iblk
  show V m c main_v23 (((cfg0.win (3 : Fin 19)).blk t).view.emb (ix2 r k)) = _
  congr 1
  funext a
  apply Fin.ext
  blk_simp [index3 t]
  fin_cases a
  · show 0 * 2048 + r.val = r.val; omega
  · show 0 * 3840 + k.val = k.val; omega

theorem ib4 (c : Dev nD) (t : Fin cfg0.N) (r : Fin 1) (k : Fin 512) : (iblk m c (4 : Fin 19) t (ix2 r k) : EReal) = V m c main_v24 (ix2 r k) := by
  unfold iblk
  show V m c main_v24 (((cfg0.win (4 : Fin 19)).blk t).view.emb (ix2 r k)) = _
  congr 1
  funext a
  apply Fin.ext
  blk_simp [index4 t]
  fin_cases a
  · show 0 * 1 + r.val = r.val; omega
  · show 0 * 512 + k.val = k.val; omega

theorem ib5 (c : Dev nD) (t : Fin cfg0.N) (r : Fin 1) (k : Fin 512) : (iblk m c (5 : Fin 19) t (ix2 r k) : EReal) = V m c main_v25 (ix2 r k) := by
  unfold iblk
  show V m c main_v25 (((cfg0.win (5 : Fin 19)).blk t).view.emb (ix2 r k)) = _
  congr 1
  funext a
  apply Fin.ext
  blk_simp [index5 t]
  fin_cases a
  · show 0 * 1 + r.val = r.val; omega
  · show 0 * 512 + k.val = k.val; omega

theorem ib6 (c : Dev nD) (t : Fin cfg0.N) (r : Fin 512) (k : Fin 2048) : (iblk m c (6 : Fin 19) t (ix2 r k) : EReal) = V m c main_v27 (ix2 r k) := by
  unfold iblk
  show V m c main_v27 (((cfg0.win (6 : Fin 19)).blk t).view.emb (ix2 r k)) = _
  congr 1
  funext a
  apply Fin.ext
  blk_simp [index6 t]
  fin_cases a
  · show 0 * 512 + r.val = r.val; omega
  · show 0 * 2048 + k.val = k.val; omega

theorem ib7 (c : Dev nD) (t : Fin cfg0.N) (r : Fin 512) (k : Fin 2048) : (iblk m c (7 : Fin 19) t (ix2 r k) : EReal) = V m c main_v31 (ix2 r k) := by
  unfold iblk
  show V m c main_v31 (((cfg0.win (7 : Fin 19)).blk t).view.emb (ix2 r k)) = _
  congr 1
  funext a
  apply Fin.ext
  blk_simp [index7 t]
  fin_cases a
  · show 0 * 512 + r.val = r.val; omega
  · show 0 * 2048 + k.val = k.val; omega

theorem ib8 (c : Dev nD) (t : Fin cfg0.N) (r : Fin 256) (k : Fin 128) : (iblk m c (8 : Fin 19) t (ix2 r k) : EReal) = V m c main_v58 (ix2 r k) := by
  unfold iblk
  show V m c main_v58 (((cfg0.win (8 : Fin 19)).blk t).view.emb (ix2 r k)) = _
  congr 1
  funext a
  apply Fin.ext
  blk_simp [index8 t]
  fin_cases a
  · show 0 * 256 + r.val = r.val; omega
  · show 0 * 128 + k.val = k.val; omega

theorem ib9 (c : Dev nD) (t : Fin cfg0.N) (r : Fin 256) (k : Fin 128) : (iblk m c (9 : Fin 19) t (ix2 r k) : EReal) = V m c main_v61 (ix2 r k) := by
  unfold iblk
  show V m c main_v61 (((cfg0.win (9 : Fin 19)).blk t).view.emb (ix2 r k)) = _
  congr 1
  funext a
  apply Fin.ext
  blk_simp [index9 t]
  fin_cases a
  · show 0 * 256 + r.val = r.val; omega
  · show 0 * 128 + k.val = k.val; omega

theorem ib10 (c : Dev nD) (t : Fin cfg0.N) (r : Fin 1) (k : Fin 128) : (iblk m c (10 : Fin 19) t (ix2 r k) : EReal) = V m c main_v33 (ix2 r k) := by
  unfold iblk
  show V m c main_v33 (((cfg0.win (10 : Fin 19)).blk t).view.emb (ix2 r k)) = _
  congr 1
  funext a
  apply Fin.ext
  blk_simp [index10 t]
  fin_cases a
  · show 0 * 1 + r.val = r.val; omega
  · show 0 * 128 + k.val = k.val; omega

theorem held (c : Dev nD) (t : Fin cfg0.N) :
    Held (iblk m c 0 t) (iblk m c 1 t) (iblk m c 2 t) (iblk m c 3 t) (iblk m c 4 t) (iblk m c 5 t) (iblk m c 6 t) (iblk m c 7 t) (iblk m c 8 t)
      (iblk m c 9 t) (iblk m c 10 t) (fun r => pr (g0 m c) (g1 m c) (g2 m c) (g3 m c) (bo (row t r)) (lo (row t r))) (fun r => (lo (row t r)).val)
      (g4 m c) (g6 m c) (g5 m c) (g7 m c) (g8 m c) (g9 m c) where
  hP r k := by
    have e : ∀ j : Fin 2048, (k0_pay2 (F := Ideal) (iblk m c 0 t) (iblk m c 1 t) (iblk m c 2 t) (ix2 r j) : EReal) = ln m c (bo (row t r)) (lo (row t r)) j :=
      ln_at (g0 m c) (g1 m c) (g2 m c) _ _ _ r _ _ (fun j => (ib0 m c t r j).trans (v34_at m c _ j)) (fun j => (ib1 m c t 0 j).trans (v21_at m c _ j))
        (fun j => (ib2 m c t 0 j).trans (v22_at m c _ j))
    have e3 : ∀ j : Fin 2048, (iblk m c 3 t (ix2 j k) : EReal) = col (w3 (g3 m c) j) k.val := fun j => (ib3 m c t j k).trans (v23_at m c j k)
    refine (Finset.sum_congr rfl fun j _ => congrArg₂ (fun a b : EReal => a * b) (e j) (e3 j)).trans ?_
    rw [col_sum]
    exact congrArg (fun p => col p k.val) (funext fun k => pr_sum _ _ _ _ _ _ k)
  h4 k := (ib4 m c t 0 k).trans (v24_at m c 0 k)
  h5 k := (ib5 m c t 0 k).trans (v25_at m c 0 k)
  h6 x k := (ib6 m c t x k).trans (v27_at m c x k)
  h7 x k := (ib7 m c t x k).trans (v31_at m c x k)
  h8 r k := (ib8 m c t r k).trans ((v58_at m c _ k).trans (by rw [row_mod]))
  h9 r k := (ib9 m c t r k).trans ((v61_at m c _ k).trans (by rw [row_mod]))
  h10 k := (ib10 m c t 0 k).trans (v33_at m c 0 k)

/-! ## The arrays -/

theorem emb11 (t : Fin cfg0.N) (r : Fin 256) (k : Fin 2048) :
    ((cfg0.win (11 : Fin 19)).blk t).view.emb (ix2 r k : (⟨2, ![256, 2048]⟩ : Shape).Idx) = ix2 (row t r) k := by
  funext a
  apply Fin.ext
  blk_simp [index11 t]
  fin_cases a
  · have h : t.val < 1 := t.isLt
    show 0 * 256 + r.val = 256 * t.val + r.val; omega
  · show 0 * 2048 + k.val = k.val; omega

theorem arr11 (c : Dev nD) :
    (dats m 0 c).arrAt (11 : Fin 19) cfg0.N = Cert.InSampleRefIdeal.Read.val_main_v139 (F := Ideal) (g0 m c) (g1 m c) (g2 m c) (g3 m c) (g4 m c) (g5 m c) := by
  refine (dats m 0 c).arrAt_eq_of_covers (11 : Fin 19) _ covers11 fun t ht y => ?_
  blk_simp
  rw [after0_11]
  obtain ⟨r, k, rfl⟩ := idx2 (a := 256) (b := 2048) y
  rw [emb11]
  exact (out11_at (held m c t) r k).trans (ref_q (g0 m c) (g1 m c) (g2 m c) (g3 m c) (g4 m c) (g5 m c) (row t r) k).symm

theorem emb13 (t : Fin cfg0.N) (r : Fin 256) (k : Fin 512) :
    ((cfg0.win (13 : Fin 19)).blk t).view.emb (ix2 r k : (⟨2, ![256, 512]⟩ : Shape).Idx) = ix2 (row t r) k := by
  funext a
  apply Fin.ext
  blk_simp [index13 t]
  fin_cases a
  · have h : t.val < 1 := t.isLt
    show 0 * 256 + r.val = 256 * t.val + r.val; omega
  · show 0 * 512 + k.val = k.val; omega

theorem arr13 (c : Dev nD) :
    (dats m 0 c).arrAt (13 : Fin 19) cfg0.N = Cert.InSampleRefIdeal.Read.val_main_v140 (F := Ideal) (g0 m c) (g1 m c) (g2 m c) (g3 m c) (g6 m c) := by
  refine (dats m 0 c).arrAt_eq_of_covers (13 : Fin 19) _ covers13 fun t ht y => ?_
  blk_simp
  rw [after0_13]
  obtain ⟨r, k, rfl⟩ := idx2 (a := 256) (b := 512) y
  rw [emb13]
  exact (out13_at (held m c t) r k).trans (ref_lat (g0 m c) (g1 m c) (g2 m c) (g3 m c) (g6 m c) (row t r) k).symm

theorem emb14 (t : Fin cfg0.N) (r : Fin 256) (k : Fin 64) :
    ((cfg0.win (14 : Fin 19)).blk t).view.emb (ix2 r k : (⟨2, ![256, 64]⟩ : Shape).Idx) = ix2 (row t r) k := by
  funext a
  apply Fin.ext
  blk_simp [index14 t]
  fin_cases a
  · have h : t.val < 1 := t.isLt
    show 0 * 256 + r.val = 256 * t.val + r.val; omega
  · show 0 * 64 + k.val = k.val; omega

theorem arr14 (c : Dev nD) :
    (dats m 0 c).arrAt (14 : Fin 19) cfg0.N = Cert.InSampleRefIdeal.Read.val_main_v141 (F := Ideal) (g0 m c) (g1 m c) (g2 m c) (g3 m c) := by
  refine (dats m 0 c).arrAt_eq_of_covers (14 : Fin 19) _ covers14 fun t ht y => ?_
  blk_simp
  rw [after0_14]
  obtain ⟨r, k, rfl⟩ := idx2 (a := 256) (b := 64) y
  rw [emb14]
  exact (out14_at (held m c t) r k).trans (ref_kr (g0 m c) (g1 m c) (g2 m c) (g3 m c) (row t r) k).symm

theorem emb15 (t : Fin cfg0.N) (r : Fin 256) (k : Fin 128) :
    ((cfg0.win (15 : Fin 19)).blk t).view.emb (ix2 r k : (⟨2, ![256, 128]⟩ : Shape).Idx) = ix2 (row t r) k := by
  funext a
  apply Fin.ext
  blk_simp [index15 t]
  fin_cases a
  · have h : t.val < 1 := t.isLt
    show 0 * 256 + r.val = 256 * t.val + r.val; omega
  · show 0 * 128 + k.val = k.val; omega

theorem arr15 (c : Dev nD) :
    (dats m 0 c).arrAt (15 : Fin 19) cfg0.N = Cert.InSampleRefIdeal.Read.val_main_v144 (F := Ideal) (g0 m c) (g1 m c) (g2 m c) (g3 m c) := by
  refine (dats m 0 c).arrAt_eq_of_covers (15 : Fin 19) _ covers15 fun t ht y => ?_
  blk_simp
  rw [after0_15]
  obtain ⟨r, k, rfl⟩ := idx2 (a := 256) (b := 128) y
  rw [emb15]
  exact (out15_at (held m c t) r k).trans (ref_krp (g0 m c) (g1 m c) (g2 m c) (g3 m c) (row t r) k).symm

theorem emb16 (t : Fin cfg0.N) (r : Fin 256) (k : Fin 1024) :
    ((cfg0.win (16 : Fin 19)).blk t).view.emb (ix2 r k : (⟨2, ![256, 1024]⟩ : Shape).Idx) = ix2 (row t r) k := by
  funext a
  apply Fin.ext
  blk_simp [index16 t]
  fin_cases a
  · have h : t.val < 1 := t.isLt
    show 0 * 256 + r.val = 256 * t.val + r.val; omega
  · show 0 * 1024 + k.val = k.val; omega

theorem arr16 (c : Dev nD) :
    (dats m 0 c).arrAt (16 : Fin 19) cfg0.N = Cert.InSampleRefIdeal.Read.val_main_v146 (F := Ideal) (g0 m c) (g1 m c) (g2 m c) (g3 m c) := by
  refine (dats m 0 c).arrAt_eq_of_covers (16 : Fin 19) _ covers16 fun t ht y => ?_
  blk_simp
  rw [after0_16]
  obtain ⟨r, k, rfl⟩ := idx2 (a := 256) (b := 1024) y
  rw [emb16]
  exact (out16_at (held m c t) r k).trans (ref_z (g0 m c) (g1 m c) (g2 m c) (g3 m c) (row t r) k).symm

theorem emb17 (t : Fin cfg0.N) (r : Fin 256) (k : Fin 1536) :
    ((cfg0.win (17 : Fin 19)).blk t).view.emb (ix2 r k : (⟨2, ![256, 1536]⟩ : Shape).Idx) = ix2 (row t r) k := by
  funext a
  apply Fin.ext
  blk_simp [index17 t]
  fin_cases a
  · have h : t.val < 1 := t.isLt
    show 0 * 256 + r.val = 256 * t.val + r.val; omega
  · show 0 * 1536 + k.val = k.val; omega

theorem arr17 (c : Dev nD) :
    (dats m 0 c).arrAt (17 : Fin 19) cfg0.N = Cert.InSampleRefIdeal.Read.val_main_v147 (F := Ideal) (g0 m c) (g1 m c) (g2 m c) (g3 m c) := by
  refine (dats m 0 c).arrAt_eq_of_covers (17 : Fin 19) _ covers17 fun t ht y => ?_
  blk_simp
  rw [after0_17]
  obtain ⟨r, k, rfl⟩ := idx2 (a := 256) (b := 1536) y
  rw [emb17]
  exact (out17_at (held m c t) r k).trans (ref_xbc (g0 m c) (g1 m c) (g2 m c) (g3 m c) (row t r) k).symm

theorem emb18 (t : Fin cfg0.N) (r : Fin 256) (k : Fin 128) :
    ((cfg0.win (18 : Fin 19)).blk t).view.emb (ix2 r k : (⟨2, ![256, 128]⟩ : Shape).Idx) = ix2 (row t r) k := by
  funext a
  apply Fin.ext
  blk_simp [index18 t]
  fin_cases a
  · have h : t.val < 1 := t.isLt
    show 0 * 256 + r.val = 256 * t.val + r.val; omega
  · show 0 * 128 + k.val = k.val; omega

theorem arr18 (c : Dev nD) :
    (dats m 0 c).arrAt (18 : Fin 19) cfg0.N = Cert.InSampleRefIdeal.Read.val_main_v149 (F := Ideal) (g0 m c) (g1 m c) (g2 m c) (g3 m c) (g9 m c) := by
  refine (dats m 0 c).arrAt_eq_of_covers (18 : Fin 19) _ covers18 fun t ht y => ?_
  blk_simp
  rw [after0_18]
  obtain ⟨r, k, rfl⟩ := idx2 (a := 256) (b := 128) y
  rw [emb18]
  exact (out18_at (held m c t) r k).trans (ref_dt (g0 m c) (g1 m c) (g2 m c) (g3 m c) (g9 m c) (row t r) k).symm

end Cert.InSampleIdeal.Rows
-- ==== Proof.lean ====
/- The claim. The attention's frames are the hand-made ones of Proof/K and Proof/KI and its value is Proof/KI/Out.lean's; the
   projection's frames are the generated ones and its values are Proof/IP/Out.lean's; the references' runs are the generated
   ones, and they declare no semaphore. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.InProj
public import proofs.«01_k».proof.Proof.Gen.InProj.Skeleton
public import proofs.«01_k».proof.Proof.Gen.InProj.Launch
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.InSample
public import proofs.«01_k».proof.Proof.Gen.InSample.Skeleton
public import proofs.«01_k».proof.Proof.Gen.InSample.Launch
public import proofs.«01_k».proof.Proof.Gen.InSample.Frame
public import proofs.«01_k».proof.Proof.Gen.InSampleIdeal
public import proofs.«01_k».proof.Proof.Gen.InSampleIdeal.Skeleton
public import proofs.«01_k».proof.Proof.Gen.InSampleIdeal.Launch
public import proofs.«01_k».proof.Proof.Gen.InSampleIdeal.Frame
public import proofs.«01_k».proof.Proof.Gen.InSampleIdeal.Value
public import proofs.«01_k».proof.Proof.Gen.InSampleRefIdeal
public import proofs.«01_k».proof.Proof.Gen.InSampleRefIdeal.Run
public import proofs.«01_k».proof.Proof.Gen.InSampleRefIdeal.Read
public import proofs.«01_k».proof.Proof.K.Frame
public import proofs.«01_k».proof.Proof.KI.Pre
public import proofs.«01_k».proof.Proof.IP.Out
public import proofs.«01_k».proof.Proof.IS.Out
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- Every array an argument is read from ends as it was. -/
theorem kept (m : (ℓ : Loc Cert.KernelIdeal.nD Cert.KernelIdeal.τ Cert.KernelIdeal.sig) → Buf (Elt Ideal) ℓ) (c : Dev Cert.KernelIdeal.nD)
    {r : _} (h : Pipeline.FramePost Cert.KernelIdeal.Att.pcs (Cert.KernelIdeal.Att.dats m) 0 (Cert.KernelIdeal.Att.V0 m) r) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  ⟨(((h c).1 (0 : Fin 4)).trans ((Cert.KernelIdeal.Att.dats m 0 c).arrAt_in (0 : Fin 4) rfl _)).trans (Cert.KernelIdeal.Att.V0_arg m c Cert.KernelIdeal.main_arg0 (by decide)),
    (((h c).1 (1 : Fin 4)).trans ((Cert.KernelIdeal.Att.dats m 0 c).arrAt_in (1 : Fin 4) rfl _)).trans (Cert.KernelIdeal.Att.V0_arg m c Cert.KernelIdeal.main_arg1 (by decide)),
    (((h c).1 (2 : Fin 4)).trans ((Cert.KernelIdeal.Att.dats m 0 c).arrAt_in (2 : Fin 4) rfl _)).trans (Cert.KernelIdeal.Att.V0_arg m c Cert.KernelIdeal.main_arg2 (by decide))⟩

theorem frame_p : Cert.quiescent_Kernel := by
  intro m g _
  refine (θ_run Cert.Kernel.defs _ _).mono (fun r h => ⟨fun c => ?_, h.2⟩) (Cert.Kernel.Att.run_main m g)
  exact ⟨(((h.1 c).1 (0 : Fin 4)).trans ((Cert.Kernel.Att.dats m 0 c).arrAt_in (0 : Fin 4) rfl _)).trans (Cert.Kernel.Att.V0_arg m c Cert.Kernel.main_arg0 (by decide)),
    (((h.1 c).1 (1 : Fin 4)).trans ((Cert.Kernel.Att.dats m 0 c).arrAt_in (1 : Fin 4) rfl _)).trans (Cert.Kernel.Att.V0_arg m c Cert.Kernel.main_arg1 (by decide)),
    (((h.1 c).1 (2 : Fin 4)).trans ((Cert.Kernel.Att.dats m 0 c).arrAt_in (2 : Fin 4) rfl _)).trans (Cert.Kernel.Att.V0_arg m c Cert.Kernel.main_arg2 (by decide))⟩

theorem frame_pi : Cert.quiescent_KernelIdeal := by
  intro m g _
  exact (θ_run Cert.KernelIdeal.defs _ _).mono (fun r h => ⟨fun c => kept m c h.1, h.2⟩) (Cert.KernelIdeal.Att.run_main m g)

theorem frame_ri : Cert.quiescent_ReferenceIdeal := by
  intro m g _
  exact (θ_run Cert.ReferenceIdeal.defs _ _).mono (fun r h => ⟨fun c => (h c).2, Idealize.ShloMosaic.sem_eq_zero_of_no_sems (by decide) r.2⟩)
    (Cert.ReferenceIdeal.Value.run m g)

theorem value : Cert.algebraic_KernelIdeal_ReferenceIdeal_pre_finite_scores := by
  intro m g m' g' hp ha
  refine ⟨fun c => Cert.ReferenceIdeal.Read.val_main_v42 (F := Ideal) (Cert.KernelIdeal.Att.argQ m c) (Cert.KernelIdeal.Att.argV m c) (Cert.KernelIdeal.Att.argR m c), ?_, ?_⟩
  · refine (θ_run Cert.KernelIdeal.defs _ _).mono (fun r h c => ⟨?_, kept m c h.1⟩) (Cert.KernelIdeal.Att.run_main m g)
    exact ((h.1 c).1 (3 : Fin 4)).trans (Cert.KernelIdeal.Att.out_array m c (Cert.KernelIdeal.Att.scores_real _ _ _ (hp c)))
  · refine (θ_run Cert.ReferenceIdeal.defs _ _).mono (fun r h c => ⟨(h c).1.trans ?_, (h c).2⟩) (Cert.ReferenceIdeal.Value.run m' g')
    refine (Cert.ReferenceIdeal.Read.val_main_v42_eq m' c).trans ?_
    obtain ⟨h0, h1, h2⟩ := ha c
    rw [h0, h1, h2]

theorem frame_p2 : Cert.quiescent_InProj := fun m g _ => Cert.InProj.Gen.frame m g

theorem frame_pi2 : Cert.quiescent_InProjIdeal := fun m g _ => Cert.InProjIdeal.Gen.frame m g

theorem frame_ri2 : Cert.quiescent_InProjRefIdeal := by
  intro m g _
  exact (θ_run Cert.InProjRefIdeal.defs _ _).mono (fun r h => ⟨fun c => (h c).2.2.2.2.2.2.2.2, Idealize.ShloMosaic.sem_eq_zero_of_no_sems (by decide) r.2⟩)
    (Cert.InProjRefIdeal.Value.run m g)

theorem value2 : Cert.algebraic_InProjIdeal_InProjRefIdeal := by
  intro m g m' g' _ ha
  refine ⟨fun c => Cert.InProjRefIdeal.Read.val_main_v142 (F := Ideal) (Cert.InProjIdeal.Rows.g0 m c) (Cert.InProjIdeal.Rows.g1 m c) (Cert.InProjIdeal.Rows.g2 m c) (Cert.InProjIdeal.Rows.g3 m c) (Cert.InProjIdeal.Rows.g4 m c) (Cert.InProjIdeal.Rows.g5 m c),
    fun c => Cert.InProjRefIdeal.Read.val_main_v144 (F := Ideal) (Cert.InProjIdeal.Rows.g0 m c) (Cert.InProjIdeal.Rows.g1 m c) (Cert.InProjIdeal.Rows.g2 m c) (Cert.InProjIdeal.Rows.g3 m c) (Cert.InProjIdeal.Rows.g6 m c) (Cert.InProjIdeal.Rows.g7 m c) (Cert.InProjIdeal.Rows.g8 m c),
    fun c => Cert.InProjRefIdeal.Read.val_main_v145 (F := Ideal) (Cert.InProjIdeal.Rows.g0 m c) (Cert.InProjIdeal.Rows.g1 m c) (Cert.InProjIdeal.Rows.g2 m c) (Cert.InProjIdeal.Rows.g3 m c) (Cert.InProjIdeal.Rows.g6 m c),
    fun c => Cert.InProjRefIdeal.Read.val_main_v146 (F := Ideal) (Cert.InProjIdeal.Rows.g0 m c) (Cert.InProjIdeal.Rows.g1 m c) (Cert.InProjIdeal.Rows.g2 m c) (Cert.InProjIdeal.Rows.g3 m c),
    fun c => Cert.InProjRefIdeal.Read.val_main_v149 (F := Ideal) (Cert.InProjIdeal.Rows.g0 m c) (Cert.InProjIdeal.Rows.g1 m c) (Cert.InProjIdeal.Rows.g2 m c) (Cert.InProjIdeal.Rows.g3 m c),
    fun c => Cert.InProjRefIdeal.Read.val_main_v151 (F := Ideal) (Cert.InProjIdeal.Rows.g0 m c) (Cert.InProjIdeal.Rows.g1 m c) (Cert.InProjIdeal.Rows.g2 m c) (Cert.InProjIdeal.Rows.g3 m c),
    fun c => Cert.InProjRefIdeal.Read.val_main_v152 (F := Ideal) (Cert.InProjIdeal.Rows.g0 m c) (Cert.InProjIdeal.Rows.g1 m c) (Cert.InProjIdeal.Rows.g2 m c) (Cert.InProjIdeal.Rows.g3 m c),
    fun c => Cert.InProjRefIdeal.Read.val_main_v154 (F := Ideal) (Cert.InProjIdeal.Rows.g0 m c) (Cert.InProjIdeal.Rows.g1 m c) (Cert.InProjIdeal.Rows.g2 m c) (Cert.InProjIdeal.Rows.g3 m c) (Cert.InProjIdeal.Rows.g9 m c), ?_, ?_⟩
  · refine (θ_run Cert.InProjIdeal.defs _ _).mono (fun r h c => ?_) (Cert.InProjIdeal.Value.run_blocks m g)
    obtain ⟨k0, k1, k2, k3, k4, k5, k6, k7, kk⟩ := h c
    exact ⟨k0.trans (Cert.InProjIdeal.Rows.arr11 m c), k1.trans (Cert.InProjIdeal.Rows.arr12 m c), k2.trans (Cert.InProjIdeal.Rows.arr13 m c), k3.trans (Cert.InProjIdeal.Rows.arr14 m c), k4.trans (Cert.InProjIdeal.Rows.arr15 m c), k5.trans (Cert.InProjIdeal.Rows.arr16 m c), k6.trans (Cert.InProjIdeal.Rows.arr17 m c), k7.trans (Cert.InProjIdeal.Rows.arr18 m c), kk⟩
  · refine (θ_run Cert.InProjRefIdeal.defs _ _).mono (fun r h c => ?_) (Cert.InProjRefIdeal.Value.run m' g')
    obtain ⟨k0, k1, k2, k3, k4, k5, k6, k7, kk⟩ := h c
    obtain ⟨h0, h1, h2, h3, h4, h5, h6, h7, h8, h9⟩ := ha c
    refine ⟨k0.trans ((Cert.InProjRefIdeal.Read.val_main_v142_eq _).trans ?_), k1.trans ((Cert.InProjRefIdeal.Read.val_main_v144_eq _).trans ?_), k2.trans ((Cert.InProjRefIdeal.Read.val_main_v145_eq _).trans ?_), k3.trans ((Cert.InProjRefIdeal.Read.val_main_v146_eq _).trans ?_), k4.trans ((Cert.InProjRefIdeal.Read.val_main_v149_eq _).trans ?_), k5.trans ((Cert.InProjRefIdeal.Read.val_main_v151_eq _).trans ?_), k6.trans ((Cert.InProjRefIdeal.Read.val_main_v152_eq _).trans ?_), k7.trans ((Cert.InProjRefIdeal.Read.val_main_v154_eq _).trans ?_), kk⟩
    · show Cert.InProjRefIdeal.Read.val_main_v142 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) (m' ((c.tc : Thread Cert.InProjRefIdeal.nD Cert.InProjRefIdeal.τ).loc Cert.InProjRefIdeal.main_arg4)) (m' ((c.tc : Thread Cert.InProjRefIdeal.nD Cert.InProjRefIdeal.τ).loc Cert.InProjRefIdeal.main_arg5)) = _
      rw [h0, h1, h2, h3, h4, h5]
    · show Cert.InProjRefIdeal.Read.val_main_v144 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) (m' ((c.tc : Thread Cert.InProjRefIdeal.nD Cert.InProjRefIdeal.τ).loc Cert.InProjRefIdeal.main_arg6)) (m' ((c.tc : Thread Cert.InProjRefIdeal.nD Cert.InProjRefIdeal.τ).loc Cert.InProjRefIdeal.main_arg7)) (m' ((c.tc : Thread Cert.InProjRefIdeal.nD Cert.InProjRefIdeal.τ).loc Cert.InProjRefIdeal.main_arg8)) = _
      rw [h0, h1, h2, h3, h6, h7, h8]
    · show Cert.InProjRefIdeal.Read.val_main_v145 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) (m' ((c.tc : Thread Cert.InProjRefIdeal.nD Cert.InProjRefIdeal.τ).loc Cert.InProjRefIdeal.main_arg6)) = _
      rw [h0, h1, h2, h3, h6]
    · show Cert.InProjRefIdeal.Read.val_main_v146 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) = _
      rw [h0, h1, h2, h3]
    · show Cert.InProjRefIdeal.Read.val_main_v149 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) = _
      rw [h0, h1, h2, h3]
    · show Cert.InProjRefIdeal.Read.val_main_v151 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) = _
      rw [h0, h1, h2, h3]
    · show Cert.InProjRefIdeal.Read.val_main_v152 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) = _
      rw [h0, h1, h2, h3]
    · show Cert.InProjRefIdeal.Read.val_main_v154 (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) (m' ((c.tc : Thread Cert.InProjRefIdeal.nD Cert.InProjRefIdeal.τ).loc Cert.InProjRefIdeal.main_arg9)) = _
      rw [h0, h1, h2, h3, h9]

theorem frame_p3 : Cert.quiescent_InSample := fun m g _ => Cert.InSample.Gen.frame m g

theorem frame_pi3 : Cert.quiescent_InSampleIdeal := fun m g _ => Cert.InSampleIdeal.Gen.frame m g

theorem frame_ri3 : Cert.quiescent_InSampleRefIdeal := by
  intro m g _
  exact (θ_run Cert.InSampleRefIdeal.defs _ _).mono (fun r h => ⟨fun c => (h c).2.2.2.2.2.2.2, Idealize.ShloMosaic.sem_eq_zero_of_no_sems (by decide) r.2⟩)
    (Cert.InSampleRefIdeal.Value.run m g)

theorem value3 : Cert.algebraic_InSampleIdeal_InSampleRefIdeal := by
  intro m g m' g' _ ha
  refine ⟨fun c => Cert.InSampleRefIdeal.Read.val_main_v139 (F := Ideal) (Cert.InSampleIdeal.Rows.g0 m c) (Cert.InSampleIdeal.Rows.g1 m c) (Cert.InSampleIdeal.Rows.g2 m c) (Cert.InSampleIdeal.Rows.g3 m c) (Cert.InSampleIdeal.Rows.g4 m c) (Cert.InSampleIdeal.Rows.g5 m c),
    fun c => Cert.InSampleRefIdeal.Read.val_main_v140 (F := Ideal) (Cert.InSampleIdeal.Rows.g0 m c) (Cert.InSampleIdeal.Rows.g1 m c) (Cert.InSampleIdeal.Rows.g2 m c) (Cert.InSampleIdeal.Rows.g3 m c) (Cert.InSampleIdeal.Rows.g6 m c),
    fun c => Cert.InSampleRefIdeal.Read.val_main_v141 (F := Ideal) (Cert.InSampleIdeal.Rows.g0 m c) (Cert.InSampleIdeal.Rows.g1 m c) (Cert.InSampleIdeal.Rows.g2 m c) (Cert.InSampleIdeal.Rows.g3 m c),
    fun c => Cert.InSampleRefIdeal.Read.val_main_v144 (F := Ideal) (Cert.InSampleIdeal.Rows.g0 m c) (Cert.InSampleIdeal.Rows.g1 m c) (Cert.InSampleIdeal.Rows.g2 m c) (Cert.InSampleIdeal.Rows.g3 m c),
    fun c => Cert.InSampleRefIdeal.Read.val_main_v146 (F := Ideal) (Cert.InSampleIdeal.Rows.g0 m c) (Cert.InSampleIdeal.Rows.g1 m c) (Cert.InSampleIdeal.Rows.g2 m c) (Cert.InSampleIdeal.Rows.g3 m c),
    fun c => Cert.InSampleRefIdeal.Read.val_main_v147 (F := Ideal) (Cert.InSampleIdeal.Rows.g0 m c) (Cert.InSampleIdeal.Rows.g1 m c) (Cert.InSampleIdeal.Rows.g2 m c) (Cert.InSampleIdeal.Rows.g3 m c),
    fun c => Cert.InSampleRefIdeal.Read.val_main_v149 (F := Ideal) (Cert.InSampleIdeal.Rows.g0 m c) (Cert.InSampleIdeal.Rows.g1 m c) (Cert.InSampleIdeal.Rows.g2 m c) (Cert.InSampleIdeal.Rows.g3 m c) (Cert.InSampleIdeal.Rows.g9 m c), ?_, ?_⟩
  · refine (θ_run Cert.InSampleIdeal.defs _ _).mono (fun r h c => ?_) (Cert.InSampleIdeal.Value.run_blocks m g)
    obtain ⟨k0, _, k2, k3, k4, k5, k6, k7, kk⟩ := h c
    exact ⟨k0.trans (Cert.InSampleIdeal.Rows.arr11 m c), k2.trans (Cert.InSampleIdeal.Rows.arr13 m c), k3.trans (Cert.InSampleIdeal.Rows.arr14 m c), k4.trans (Cert.InSampleIdeal.Rows.arr15 m c), k5.trans (Cert.InSampleIdeal.Rows.arr16 m c), k6.trans (Cert.InSampleIdeal.Rows.arr17 m c), k7.trans (Cert.InSampleIdeal.Rows.arr18 m c), kk⟩
  · refine (θ_run Cert.InSampleRefIdeal.defs _ _).mono (fun r h c => ?_) (Cert.InSampleRefIdeal.Value.run m' g')
    obtain ⟨k0, k1, k2, k3, k4, k5, k6, kk⟩ := h c
    obtain ⟨h0, h1, h2, h3, h4, h5, h6, h7, h8, h9⟩ := ha c
    refine ⟨k0.trans ((Cert.InSampleRefIdeal.Read.val_main_v139_eq _).trans ?_), k1.trans ((Cert.InSampleRefIdeal.Read.val_main_v140_eq _).trans ?_), k2.trans ((Cert.InSampleRefIdeal.Read.val_main_v141_eq _).trans ?_), k3.trans ((Cert.InSampleRefIdeal.Read.val_main_v144_eq _).trans ?_), k4.trans ((Cert.InSampleRefIdeal.Read.val_main_v146_eq _).trans ?_), k5.trans ((Cert.InSampleRefIdeal.Read.val_main_v147_eq _).trans ?_), k6.trans ((Cert.InSampleRefIdeal.Read.val_main_v149_eq _).trans ?_), kk⟩
    · show Cert.InSampleRefIdeal.Read.val_main_v139 (F := Ideal) (m' ((c.tc : Thread Cert.InSampleRefIdeal.nD Cert.InSampleRefIdeal.τ).loc Cert.InSampleRefIdeal.main_arg0)) (m' ((c.tc : Thread Cert.InSampleRefIdeal.nD Cert.InSampleRefIdeal.τ).loc Cert.InSampleRefIdeal.main_arg1)) (m' ((c.tc : Thread Cert.InSampleRefIdeal.nD Cert.InSampleRefIdeal.τ).loc Cert.InSampleRefIdeal.main_arg2)) (m' ((c.tc : Thread Cert.InSampleRefIdeal.nD Cert.InSampleRefIdeal.τ).loc Cert.InSampleRefIdeal.main_arg3)) (m' ((c.tc : Thread Cert.InSampleRefIdeal.nD Cert.InSampleRefIdeal.τ).loc Cert.InSampleRefIdeal.main_arg4)) (m' ((c.tc : Thread Cert.InSampleRefIdeal.nD Cert.InSampleRefIdeal.τ).loc Cert.InSampleRefIdeal.main_arg5)) = _
      rw [h0, h1, h2, h3, h4, h5]
    · show Cert.InSampleRefIdeal.Read.val_main_v140 (F := Ideal) (m' ((c.tc : Thread Cert.InSampleRefIdeal.nD Cert.InSampleRefIdeal.τ).loc Cert.InSampleRefIdeal.main_arg0)) (m' ((c.tc : Thread Cert.InSampleRefIdeal.nD Cert.InSampleRefIdeal.τ).loc Cert.InSampleRefIdeal.main_arg1)) (m' ((c.tc : Thread Cert.InSampleRefIdeal.nD Cert.InSampleRefIdeal.τ).loc Cert.InSampleRefIdeal.main_arg2)) (m' ((c.tc : Thread Cert.InSampleRefIdeal.nD Cert.InSampleRefIdeal.τ).loc Cert.InSampleRefIdeal.main_arg3)) (m' ((c.tc : Thread Cert.InSampleRefIdeal.nD Cert.InSampleRefIdeal.τ).loc Cert.InSampleRefIdeal.main_arg6)) = _
      rw [h0, h1, h2, h3, h6]
    · show Cert.InSampleRefIdeal.Read.val_main_v141 (F := Ideal) (m' ((c.tc : Thread Cert.InSampleRefIdeal.nD Cert.InSampleRefIdeal.τ).loc Cert.InSampleRefIdeal.main_arg0)) (m' ((c.tc : Thread Cert.InSampleRefIdeal.nD Cert.InSampleRefIdeal.τ).loc Cert.InSampleRefIdeal.main_arg1)) (m' ((c.tc : Thread Cert.InSampleRefIdeal.nD Cert.InSampleRefIdeal.τ).loc Cert.InSampleRefIdeal.main_arg2)) (m' ((c.tc : Thread Cert.InSampleRefIdeal.nD Cert.InSampleRefIdeal.τ).loc Cert.InSampleRefIdeal.main_arg3)) = _
      rw [h0, h1, h2, h3]
    · show Cert.InSampleRefIdeal.Read.val_main_v144 (F := Ideal) (m' ((c.tc : Thread Cert.InSampleRefIdeal.nD Cert.InSampleRefIdeal.τ).loc Cert.InSampleRefIdeal.main_arg0)) (m' ((c.tc : Thread Cert.InSampleRefIdeal.nD Cert.InSampleRefIdeal.τ).loc Cert.InSampleRefIdeal.main_arg1)) (m' ((c.tc : Thread Cert.InSampleRefIdeal.nD Cert.InSampleRefIdeal.τ).loc Cert.InSampleRefIdeal.main_arg2)) (m' ((c.tc : Thread Cert.InSampleRefIdeal.nD Cert.InSampleRefIdeal.τ).loc Cert.InSampleRefIdeal.main_arg3)) = _
      rw [h0, h1, h2, h3]
    · show Cert.InSampleRefIdeal.Read.val_main_v146 (F := Ideal) (m' ((c.tc : Thread Cert.InSampleRefIdeal.nD Cert.InSampleRefIdeal.τ).loc Cert.InSampleRefIdeal.main_arg0)) (m' ((c.tc : Thread Cert.InSampleRefIdeal.nD Cert.InSampleRefIdeal.τ).loc Cert.InSampleRefIdeal.main_arg1)) (m' ((c.tc : Thread Cert.InSampleRefIdeal.nD Cert.InSampleRefIdeal.τ).loc Cert.InSampleRefIdeal.main_arg2)) (m' ((c.tc : Thread Cert.InSampleRefIdeal.nD Cert.InSampleRefIdeal.τ).loc Cert.InSampleRefIdeal.main_arg3)) = _
      rw [h0, h1, h2, h3]
    · show Cert.InSampleRefIdeal.Read.val_main_v147 (F := Ideal) (m' ((c.tc : Thread Cert.InSampleRefIdeal.nD Cert.InSampleRefIdeal.τ).loc Cert.InSampleRefIdeal.main_arg0)) (m' ((c.tc : Thread Cert.InSampleRefIdeal.nD Cert.InSampleRefIdeal.τ).loc Cert.InSampleRefIdeal.main_arg1)) (m' ((c.tc : Thread Cert.InSampleRefIdeal.nD Cert.InSampleRefIdeal.τ).loc Cert.InSampleRefIdeal.main_arg2)) (m' ((c.tc : Thread Cert.InSampleRefIdeal.nD Cert.InSampleRefIdeal.τ).loc Cert.InSampleRefIdeal.main_arg3)) = _
      rw [h0, h1, h2, h3]
    · show Cert.InSampleRefIdeal.Read.val_main_v149 (F := Ideal) (m' ((c.tc : Thread Cert.InSampleRefIdeal.nD Cert.InSampleRefIdeal.τ).loc Cert.InSampleRefIdeal.main_arg0)) (m' ((c.tc : Thread Cert.InSampleRefIdeal.nD Cert.InSampleRefIdeal.τ).loc Cert.InSampleRefIdeal.main_arg1)) (m' ((c.tc : Thread Cert.InSampleRefIdeal.nD Cert.InSampleRefIdeal.τ).loc Cert.InSampleRefIdeal.main_arg2)) (m' ((c.tc : Thread Cert.InSampleRefIdeal.nD Cert.InSampleRefIdeal.τ).loc Cert.InSampleRefIdeal.main_arg3)) (m' ((c.tc : Thread Cert.InSampleRefIdeal.nD Cert.InSampleRefIdeal.τ).loc Cert.InSampleRefIdeal.main_arg9)) = _
      rw [h0, h1, h2, h3, h9]

theorem claim : Cert.Claim := ⟨Cert.Kernel.Gen.facts, Cert.KernelIdeal.Gen.facts, Cert.ReferenceIdeal.Gen.facts, Cert.InProj.Gen.facts,
  Cert.InProjIdeal.Gen.facts, Cert.InProjRefIdeal.Gen.facts, Cert.InSample.Gen.facts,
  Cert.InSampleIdeal.Gen.facts, Cert.InSampleRefIdeal.Gen.facts, Cert.Pre_finite_scores.Gen.facts,
  frame_p, frame_pi, fun m g _ => frame_pi m g trivial, frame_ri, fun m g _ => frame_ri m g trivial, frame_p2, frame_pi2, frame_ri2,
  frame_p3, frame_pi3, frame_ri3,
  trivial, value, trivial, value2, trivial, value3⟩

end Cert.Proof

end
